-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2 = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_on_live_rows [hKernelIdeal : Cert.KernelIdeal.Facts] [hReferenceIdeal : Cert.ReferenceIdeal.Facts] [hPre_tables_in_range : Cert.Pre_tables_in_range.Facts] [hOn_live_rows : Cert.On_live_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![88576, 1024]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![88576, 1024]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v31) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v39_0)) (v1 : (c : Dev Cert.Kernel2Ideal.nD) → Buf (Elt Ideal) ((c.tc : Thread Cert.Kernel2Ideal.nD Cert.Kernel2Ideal.τ).loc Cert.Kernel2Ideal.main_v39_1)) (v2 : (c : Dev Cert.Kernel2Ideal.nD) → Buf (Elt Ideal) ((c.tc : Thread Cert.Kernel2Ideal.nD Cert.Kernel2Ideal.τ).loc Cert.Kernel2Ideal.main_v39_2)) (v3 : (c : Dev Cert.Kernel2Ideal.nD) → Buf (Elt Ideal) ((c.tc : Thread Cert.Kernel2Ideal.nD Cert.Kernel2Ideal.τ).loc Cert.Kernel2Ideal.main_v39_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39_0) = v0 c
          ∧ r.2.mem ((c.tc : Thread Cert.Kernel2Ideal.nD Cert.Kernel2Ideal.τ).loc Cert.Kernel2Ideal.main_v39_1) = v1 c
          ∧ r.2.mem ((c.tc : Thread Cert.Kernel2Ideal.nD Cert.Kernel2Ideal.τ).loc Cert.Kernel2Ideal.main_v39_2) = v2 c
          ∧ r.2.mem ((c.tc : Thread Cert.Kernel2Ideal.nD Cert.Kernel2Ideal.τ).loc Cert.Kernel2Ideal.main_v39_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v200) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_v201) = v2 c
          ∧ r.2.mem ((c.tc : Thread Cert.Reference2Ideal.nD Cert.Reference2Ideal.τ).loc Cert.Reference2Ideal.main_v152) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v55_1)) (v1 : (c : Dev Cert.Kernel3Ideal.nD) → Buf (Elt Ideal) ((c.tc : Thread Cert.Kernel3Ideal.nD Cert.Kernel3Ideal.τ).loc Cert.Kernel3Ideal.main_v55_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v55_1) = v0 c
          ∧ r.2.mem ((c.tc : Thread Cert.Kernel3Ideal.nD Cert.Kernel3Ideal.τ).loc Cert.Kernel3Ideal.main_v55_2) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts) (hOn_live_rows : Cert.On_live_rows.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_on_live_rows (hKernelIdeal := hKernelIdeal) (hReferenceIdeal := hReferenceIdeal) (hPre_tables_in_range := hPre_tables_in_range) (hOn_live_rows := hOn_live_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_live_rows.lean ====
abbrev S346 : Shape := ⟨1, ![346]⟩
abbrev S1 : Shape := ⟨1, ![1]⟩
abbrev S88576x1024 : Shape := ⟨2, ![88576, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S88576x1 : Shape := ⟨2, ![88576, 1]⟩
abbrev S_ : Shape := ⟨0, ![]⟩

class Facts : Prop where
  shapeCasts_S1_S_ : S1.ShapeCasts S_
  bcast_S_S88576x1 : S_.BroadcastsInDim S88576x1 (![] : Fin 0 → Fin S88576x1.rank)
  bcast_S88576x1_S88576x1024_0_1 : S88576x1.BroadcastsInDim S88576x1024 (![0, 1] : Fin 2 → Fin S88576x1024.rank)

variable [Facts]

def fn {F : FTy → Type} [FloatOps F] (main_arg0 : IVec S346 32) (main_arg1 : IVec S1 32) (main_arg2 : FVec F S88576x1024 .f32) (main_arg3 : FVec F S32x1024x2048 .f32) (main_arg4 : FVec F S32x1x2048 .f32) (main_arg5 : FVec F S32x1024x1024 .f32) (main_arg6 : FVec F S32x1x1024 .f32) : IVec S88576x1024 1 :=
  let main_v0 : IVec S88576x1 32 := iotaInDim S88576x1 32 0
  let main_v1 : IVec S_ 32 := shapeCast S_ main_arg1 shapeCasts_S1_S_
  let main_c : IVec S_ 32 := constantI S_ 32 256#32
  let main_v2 : IVec S_ 32 := muli main_v1 main_c
  let main_v3 : IVec S88576x1 32 := broadcastInDim S88576x1 ![] bcast_S_S88576x1 main_v2
  let main_v4 : IVec S88576x1 1 := cmpi .slt main_v0 main_v3
  let main_v5 : IVec S88576x1024 1 := broadcastInDim S88576x1024 ![0, 1] bcast_S88576x1_S88576x1024_0_1 main_v4
  main_v5
-- ==== Pre_tables_in_range.lean ====
abbrev S346 : Shape := ⟨1, ![346]⟩
abbrev S1 : Shape := ⟨1, ![1]⟩
abbrev S88576x1024 : Shape := ⟨2, ![88576, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S346 : S_.BroadcastsInDim S346 (![] : Fin 0 → Fin S346.rank)
  bcast_S_S1 : S_.BroadcastsInDim S1 (![] : Fin 0 → Fin S1.rank)

variable [Facts]

def fn {F : FTy → Type} [FloatOps F] (main_arg0 : IVec S346 32) (main_arg1 : IVec S1 32) (main_arg2 : FVec F S88576x1024 .f32) (main_arg3 : FVec F S32x1024x2048 .f32) (main_arg4 : FVec F S32x1x2048 .f32) (main_arg5 : FVec F S32x1024x1024 .f32) (main_arg6 : FVec F S32x1x1024 .f32) : IVec S346 1 × IVec S1 1 :=
  let main_c : IVec S_ 32 := constantI S_ 32 0#32
  let main_v0 : IVec S346 32 := broadcastInDim S346 ![] bcast_S_S346 main_c
  let main_v1 : IVec S346 1 := cmpi .sge main_arg0 main_v0
  let main_c_0 : IVec S_ 32 := constantI S_ 32 32#32
  let main_v2 : IVec S346 32 := broadcastInDim S346 ![] bcast_S_S346 main_c_0
  let main_v3 : IVec S346 1 := cmpi .slt main_arg0 main_v2
  let main_v4 : IVec S346 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 346#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S346 : Shape := ⟨1, ![346]⟩
abbrev S1 : Shape := ⟨1, ![1]⟩
abbrev S88576x1024 : Shape := ⟨2, ![88576, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S88576x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S88576x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S346, .i32⟩
  | .local _ .smem, ⟨1, _⟩ => ⟨S1, .i32⟩
  | _, _ => ⟨S88576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![346], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S346.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S346) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S346.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S346) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S346.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S346) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S346.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S346) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S346 : Shape := ⟨1, ![346]⟩
abbrev S1 : Shape := ⟨1, ![1]⟩
abbrev S88576x1024 : Shape := ⟨2, ![88576, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S346x256 : Shape := ⟨2, ![346, 256]⟩
abbrev S88576 : Shape := ⟨1, ![88576]⟩
abbrev S88576x1 : Shape := ⟨2, ![88576, 1]⟩
abbrev S1x32 : Shape := ⟨2, ![1, 32]⟩
abbrev S88576x32 : Shape := ⟨2, ![88576, 32]⟩
abbrev S32x2048x88576 : Shape := ⟨3, ![32, 2048, 88576]⟩
abbrev S32x88576x2048 : Shape := ⟨3, ![32, 88576, 2048]⟩
abbrev S32x88576x1024 : Shape := ⟨3, ![32, 88576, 1024]⟩
abbrev S_ : Shape := ⟨0, ![]⟩
abbrev S32x88576 : Shape := ⟨2, ![32, 88576]⟩
abbrev S32x88576x1 : Shape := ⟨3, ![32, 88576, 1]⟩

abbrev nBuf : Space → Nat
  | .hbm => 57
  | .vmem => 0
  | .smem => 0
  | _ => 0

abbrev bufTy : (tb : Table) → Fin (tcTables nBuf tb) → BufTy
  | .hbm, ⟨0, _⟩ => ⟨S346, .i32⟩
  | .hbm, ⟨1, _⟩ => ⟨S1, .i32⟩
  | .hbm, ⟨2, _⟩ => ⟨S88576x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S346x256, .i32⟩
  | .hbm, ⟨8, _⟩ => ⟨S88576, .i32⟩
  | .hbm, ⟨9, _⟩ => ⟨S88576x1, .i32⟩
  | .hbm, ⟨10, _⟩ => ⟨S1x32, .i32⟩
  | .hbm, ⟨11, _⟩ => ⟨S88576x32, .i32⟩
  | .hbm, ⟨12, _⟩ => ⟨S88576x32, .i32⟩
  | .hbm, ⟨13, _⟩ => ⟨S88576x32, .i1⟩
  | .hbm, ⟨14, _⟩ => ⟨S88576x32, .f32⟩
  | .hbm, ⟨15, _⟩ => ⟨S32x2048x88576, .f32⟩
  | .hbm, ⟨16, _⟩ => ⟨S32x88576x2048, .f32⟩
  | .hbm, ⟨17, _⟩ => ⟨S32x88576x2048, .f32⟩
  | .hbm, ⟨18, _⟩ => ⟨S32x88576x2048, .f32⟩
  | .hbm, ⟨19, _⟩ => ⟨S32x88576x1024, .f32⟩
  | .hbm, ⟨20, _⟩ => ⟨S_, .f32⟩
  | .hbm, ⟨21, _⟩ => ⟨S32x88576x1024, .f32⟩
  | .hbm, ⟨22, _⟩ => ⟨S32x88576x1024, .f32⟩
  | .hbm, ⟨23, _⟩ => ⟨S32x88576x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x88576x1024, .f32⟩
  | .hbm, ⟨28, _⟩ => ⟨S32x88576x1024, .f32⟩
  | .hbm, ⟨29, _⟩ => ⟨S_, .f32⟩
  | .hbm, ⟨30, _⟩ => ⟨S32x88576x1024, .f32⟩
  | .hbm, ⟨31, _⟩ => ⟨S32x88576x1024, .f32⟩
  | .hbm, ⟨32, _⟩ => ⟨S_, .f32⟩
  | .hbm, ⟨33, _⟩ => ⟨S32x88576x1024, .f32⟩
  | .hbm, ⟨34, _⟩ => ⟨S32x88576x1024, .f32⟩
  | .hbm, ⟨35, _⟩ => ⟨S32x88576x1024, .f32⟩
  | .hbm, ⟨36, _⟩ => ⟨S_, .f32⟩
  | .hbm, ⟨37, _⟩ => ⟨S32x88576x1024, .f32⟩
  | .hbm, ⟨38, _⟩ => ⟨S32x88576x1024, .f32⟩
  | .hbm, ⟨39, _⟩ => ⟨S32x88576x1024, .f32⟩
  | .hbm, ⟨40, _⟩ => ⟨S32x88576x1024, .f32⟩
  | .hbm, ⟨41, _⟩ => ⟨S_, .f32⟩
  | .hbm, ⟨42, _⟩ => ⟨S32x88576x1024, .f32⟩
  | .hbm, ⟨43, _⟩ => ⟨S32x88576x1024, .f32⟩
  | .hbm, ⟨44, _⟩ => ⟨S_, .f32⟩
  | .hbm, ⟨45, _⟩ => ⟨S32x88576x1024, .f32⟩
  | .hbm, ⟨46, _⟩ => ⟨S32x88576x1024, .f32⟩
  | .hbm, ⟨47, _⟩ => ⟨S32x88576x1024, .f32⟩
  | .hbm, ⟨48, _⟩ => ⟨S32x88576x1024, .f32⟩
  | .hbm, ⟨49, _⟩ => ⟨S32x88576x1024, .f32⟩
  | .hbm, ⟨50, _⟩ => ⟨S32x88576x1024, .f32⟩
  | .hbm, ⟨51, _⟩ => ⟨S32x88576, .f32⟩
  | .hbm, ⟨52, _⟩ => ⟨S32x88576x1, .f32⟩
  | .hbm, ⟨53, _⟩ => ⟨S32x88576x1024, .f32⟩
  | .hbm, ⟨54, _⟩ => ⟨S32x88576x1024, .f32⟩
  | .hbm, ⟨55, _⟩ => ⟨S_, .f32⟩
  | .hbm, ⟨56, _⟩ => ⟨S88576x1024, .f32⟩
  | _, _ => ⟨S346, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== Kernel2.lean ====
abbrev S16640x1024 : Shape := ⟨2, ![16640, 1024]⟩
abbrev S3x256x512 : Shape := ⟨3, ![3, 256, 512]⟩
abbrev S256x512 : Shape := ⟨2, ![256, 512]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S4x512 : Shape := ⟨2, ![4, 512]⟩
abbrev S8x64x64 : Shape := ⟨3, ![8, 64, 64]⟩
abbrev S8x64 : Shape := ⟨2, ![8, 64]⟩
abbrev S8x8 : Shape := ⟨2, ![8, 8]⟩
abbrev S_ : Shape := ⟨0, ![]⟩
abbrev S1x1024 : Shape := ⟨2, ![1, 1024]⟩
abbrev S1x512 : Shape := ⟨2, ![1, 512]⟩
abbrev S4x1x1 : Shape := ⟨3, ![4, 1, 1]⟩
abbrev S4 : Shape := ⟨1, ![4]⟩
abbrev S4x1 : Shape := ⟨2, ![4, 1]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x128 : Shape := ⟨2, ![256, 128]⟩
abbrev S1x256x512 : Shape := ⟨3, ![1, 256, 512]⟩
abbrev S1x128 : Shape := ⟨2, ![1, 128]⟩

abbrev nBuf : Space → Nat
  | .hbm => 62
  | .vmem => 21
  | .smem => 0
  | _ => 0

abbrev bufTy : (tb : Table) → Fin (tcTables nBuf tb) → BufTy
  | .hbm, ⟨0, _⟩ => ⟨S16640x1024, .f32⟩
  | .hbm, ⟨1, _⟩ => ⟨S16640x1024, .bf16⟩
  | .hbm, ⟨2, _⟩ => ⟨S3x256x512, .f32⟩
  | .hbm, ⟨3, _⟩ => ⟨S256x512, .f32⟩
  | .hbm, ⟨4, _⟩ => ⟨S1024, .f32⟩
  | .hbm, ⟨5, _⟩ => ⟨S1024x2048, .f32⟩
  | .hbm, ⟨6, _⟩ => ⟨S512, .f32⟩
  | .hbm, ⟨7, _⟩ => ⟨S4x128x128, .f32⟩
  | .hbm, ⟨8, _⟩ => ⟨S4x128, .f32⟩
  | .hbm, ⟨9, _⟩ => ⟨S4x512, .f32⟩
  | .hbm, ⟨10, _⟩ => ⟨S512, .f32⟩
  | .hbm, ⟨11, _⟩ => ⟨S8x64x64, .f32⟩
  | .hbm, ⟨12, _⟩ => ⟨S8x64, .f32⟩
  | .hbm, ⟨13, _⟩ => ⟨S8x64x64, .f32⟩
  | .hbm, ⟨14, _⟩ => ⟨S8x64, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S1x1024, .f32⟩
  | .hbm, ⟨26, _⟩ => ⟨S1024x2048, .bf16⟩
  | .hbm, ⟨27, _⟩ => ⟨S1x512, .f32⟩
  | .hbm, ⟨28, _⟩ => ⟨S4x1x1, .f32⟩
  | .hbm, ⟨29, _⟩ => ⟨S4, .f32⟩
  | .hbm, ⟨30, _⟩ => ⟨S4x128, .f32⟩
  | .hbm, ⟨31, _⟩ => ⟨S512, .f32⟩
  | .hbm, ⟨32, _⟩ => ⟨S1x512, .f32⟩
  | .hbm, ⟨33, _⟩ => ⟨S4x1, .f32⟩
  | .hbm, ⟨34, _⟩ => ⟨S4, .f32⟩
  | .hbm, ⟨35, _⟩ => ⟨S4x128, .f32⟩
  | .hbm, ⟨36, _⟩ => ⟨S512, .f32⟩
  | .hbm, ⟨37, _⟩ => ⟨S1x512, .f32⟩
  | .hbm, ⟨38, _⟩ => ⟨S1x512, .f32⟩
  | .hbm, ⟨39, _⟩ => ⟨S8x64x1x64, .f32⟩
  | .hbm, ⟨40, _⟩ => ⟨S8x1x8x1, .f32⟩
  | .hbm, ⟨41, _⟩ => ⟨S8x64x8x64, .f32⟩
  | .hbm, ⟨42, _⟩ => ⟨S8x64x8x64, .f32⟩
  | .hbm, ⟨43, _⟩ => ⟨S8x64x8x64, .f32⟩
  | .hbm, ⟨44, _⟩ => ⟨S512x512, .f32⟩
  | .hbm, ⟨45, _⟩ => ⟨S512x512, .bf16⟩
  | .hbm, ⟨46, _⟩ => ⟨S1x512, .f32⟩
  | .hbm, ⟨47, _⟩ => ⟨S8x64x1x64, .f32⟩
  | .hbm, ⟨48, _⟩ => ⟨S8x1x8x1, .f32⟩
  | .hbm, ⟨49, _⟩ => ⟨S8x64x8x64, .f32⟩
  | .hbm, ⟨50, _⟩ => ⟨S8x64x8x64, .f32⟩
  | .hbm, ⟨51, _⟩ => ⟨S8x64x8x64, .f32⟩
  | .hbm, ⟨52, _⟩ => ⟨S512x512, .f32⟩
  | .hbm, ⟨53, _⟩ => ⟨S512x512, .bf16⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S16640x1024, .bf16⟩
  | .hbm, ⟨59, _⟩ => ⟨S256x512, .f32⟩
  | .hbm, ⟨60, _⟩ => ⟨S3x256x512, .f32⟩
  | .hbm, ⟨61, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S4x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S3x256x512, .f32⟩
  | .local _ .vmem, ⟨16, _⟩ => ⟨S256x512, .f32⟩
  | .local _ .vmem, ⟨17, _⟩ => ⟨S256x1024, .bf16⟩
  | .local _ .vmem, ⟨18, _⟩ => ⟨S256x512, .f32⟩
  | .local _ .vmem, ⟨19, _⟩ => ⟨S3x256x512, .f32⟩
  | .local _ .vmem, ⟨20, _⟩ => ⟨S256x512, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v39_3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x256x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference2Ideal.lean ====
abbrev S16640x1024 : Shape := ⟨2, ![16640, 1024]⟩
abbrev S3x256x512 : Shape := ⟨3, ![3, 256, 512]⟩
abbrev S256x512 : Shape := ⟨2, ![256, 512]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S4x512 : Shape := ⟨2, ![4, 512]⟩
abbrev S8x64x64 : Shape := ⟨3, ![8, 64, 64]⟩
abbrev S8x64 : Shape := ⟨2, ![8, 64]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S256x4x128 : Shape := ⟨3, ![256, 4, 128]⟩
abbrev S256x4 : Shape := ⟨2, ![256, 4]⟩
abbrev S256x4x1 : Shape := ⟨3, ![256, 4, 1]⟩
abbrev S1x512 : Shape := ⟨2, ![1, 512]⟩
abbrev S4x1x1 : Shape := ⟨3, ![4, 1, 1]⟩
abbrev S4 : Shape := ⟨1, ![4]⟩
abbrev S4x1 : Shape := ⟨2, ![4, 1]⟩
abbrev S1x4x1 : Shape := ⟨3, ![1, 4, 1]⟩
abbrev S1x256x512 : Shape := ⟨3, ![1, 256, 512]⟩
abbrev S4x256x512 : Shape := ⟨3, ![4, 256, 512]⟩
abbrev S256x8x64 : Shape := ⟨3, ![256, 8, 64]⟩
abbrev S8x64x256 : Shape := ⟨3, ![8, 64, 256]⟩
abbrev S1x8x64 : Shape := ⟨3, ![1, 8, 64]⟩
abbrev S256x8 : Shape := ⟨2, ![256, 8]⟩
abbrev S256x8x1 : Shape := ⟨3, ![256, 8, 1]⟩
abbrev S16384x1024 : Shape := ⟨2, ![16384, 1024]⟩

abbrev nBuf : Space → Nat
  | .hbm => 263
  | .vmem => 0
  | .smem => 0
  | _ => 0

abbrev hbmTy0_0 (i : Nat) : BufTy := match i % 128 with
  | 0 => ⟨S16640x1024, .f32⟩
  | 1 => ⟨S16640x1024, .bf16⟩
  | 2 => ⟨S3x256x512, .f32⟩
  | 3 => ⟨S256x512, .f32⟩
  | 4 => ⟨S1024, .f32⟩
  | 5 => ⟨S1024x2048, .f32⟩
  | 6 => ⟨S512, .f32⟩
  | 7 => ⟨S4x128x128, .f32⟩
  | 8 => ⟨S4x128, .f32⟩
  | 9 => ⟨S4x512, .f32⟩
  | 10 => ⟨S512, .f32⟩
  | 11 => ⟨S8x64x64, .f32⟩
  | 12 => ⟨S8x64, .f32⟩
  | 13 => ⟨S8x64x64, .f32⟩
  | 14 => ⟨S8x64, .f32⟩
  | 15 => ⟨S512, .f32⟩
  | 16 => ⟨S512, .f32⟩
  | 17 => ⟨S512, .f32⟩
  | 18 => ⟨S256x1024, .f32⟩
  | 19 => ⟨S256x1024, .f32⟩
  | 20 => ⟨S_, .f32⟩
  | 21 => ⟨S256, .f32⟩
  | 22 => ⟨S256x1, .f32⟩
  | 23 => ⟨S_, .f32⟩
  | 24 => ⟨S256x1, .f32⟩
  | 25 => ⟨S256x1, .f32⟩
  | 26 => ⟨S_, .f32⟩
  | 27 => ⟨S256x1, .f32⟩
  | 28 => ⟨S256x1, .f32⟩
  | 29 => ⟨S256x1, .f32⟩
  | 30 => ⟨S256x1024, .f32⟩
  | 31 => ⟨S256x1024, .f32⟩
  | 32 => ⟨S1x1024, .f32⟩
  | 33 => ⟨S256x1024, .f32⟩
  | 34 => ⟨S256x1024, .f32⟩
  | 35 => ⟨S256x2048, .f32⟩
  | 36 => ⟨S256x512, .f32⟩
  | 37 => ⟨S256x512, .f32⟩
  | 38 => ⟨S256x512, .f32⟩
  | 39 => ⟨S256x512, .f32⟩
  | 40 => ⟨S256x512, .f32⟩
  | 41 => ⟨S256x512, .f32⟩
  | 42 => ⟨S_, .f32⟩
  | 43 => ⟨S256x512, .f32⟩
  | 44 => ⟨S256x512, .f32⟩
  | 45 => ⟨S256x512, .f32⟩
  | 46 => ⟨S_, .f32⟩
  | 47 => ⟨S256x512, .f32⟩
  | 48 => ⟨S256x512, .f32⟩
  | 49 => ⟨S256x512, .f32⟩
  | 50 => ⟨S_, .f32⟩
  | 51 => ⟨S256x512, .f32⟩
  | 52 => ⟨S256x512, .f32⟩
  | 53 => ⟨S_, .f32⟩
  | 54 => ⟨S256x512, .f32⟩
  | 55 => ⟨S256x512, .f32⟩
  | 56 => ⟨S256x512, .f32⟩
  | 57 => ⟨S256x4x128, .f32⟩
  | 58 => ⟨S256x4x128, .f32⟩
  | 59 => ⟨S_, .f32⟩
  | 60 => ⟨S256x4, .f32⟩
  | 61 => ⟨S256x4x1, .f32⟩
  | 62 => ⟨S_, .f32⟩
  | 63 => ⟨S256x4x1, .f32⟩
  | 64 => ⟨S256x4x1, .f32⟩
  | 65 => ⟨S_, .f32⟩
  | 66 => ⟨S256x4x1, .f32⟩
  | 67 => ⟨S256x4x1, .f32⟩
  | 68 => ⟨S256x4x1, .f32⟩
  | 69 => ⟨S256x4x128, .f32⟩
  | 70 => ⟨S256x4x128, .f32⟩
  | 71 => ⟨S256x512, .f32⟩
  | 72 => ⟨S1x512, .f32⟩
  | 73 => ⟨S256x512, .f32⟩
  | 74 => ⟨S256x512, .f32⟩
  | 75 => ⟨S256x4x128, .f32⟩
  | 76 => ⟨S4x1x1, .f32⟩
  | 77 => ⟨S4, .f32⟩
  | 78 => ⟨S4x1, .f32⟩
  | 79 => ⟨S1x4x1, .f32⟩
  | 80 => ⟨S256x4x128, .f32⟩
  | 81 => ⟨S256x4x128, .f32⟩
  | 82 => ⟨S4x1, .f32⟩
  | 83 => ⟨S4, .f32⟩
  | 84 => ⟨S4x1, .f32⟩
  | 85 => ⟨S1x4x1, .f32⟩
  | 86 => ⟨S256x4x128, .f32⟩
  | 87 => ⟨S256x4x128, .f32⟩
  | 88 => ⟨S256x512, .f32⟩
  | 89 => ⟨S256x512, .f32⟩
  | 90 => ⟨S_, .f32⟩
  | 91 => ⟨S256x512, .f32⟩
  | 92 => ⟨S256x512, .f32⟩
  | 93 => ⟨S256x512, .f32⟩
  | 94 => ⟨S_, .f32⟩
  | 95 => ⟨S256x512, .f32⟩
  | 96 => ⟨S256x512, .f32⟩
  | 97 => ⟨S256x512, .f32⟩
  | 98 => ⟨S_, .f32⟩
  | 99 => ⟨S256x512, .f32⟩
  | 100 => ⟨S256x512, .f32⟩
  | 101 => ⟨S_, .f32⟩
  | 102 => ⟨S256x512, .f32⟩
  | 103 => ⟨S256x512, .f32⟩
  | 104 => ⟨S256x512, .f32⟩
  | 105 => ⟨S256x512, .f32⟩
  | 106 => ⟨S256x512, .f32⟩
  | 107 => ⟨S1x256x512, .f32⟩
  | 108 => ⟨S4x256x512, .f32⟩
  | 109 => ⟨S1x256x512, .f32⟩
  | 110 => ⟨S256x512, .f32⟩
  | 111 => ⟨S1x512, .f32⟩
  | 112 => ⟨S512, .f32⟩
  | 113 => ⟨S1x512, .f32⟩
  | 114 => ⟨S256x512, .f32⟩
  | 115 => ⟨S256x512, .f32⟩
  | 116 => ⟨S1x512, .f32⟩
  | 117 => ⟨S256x512, .f32⟩
  | 118 => ⟨S256x512, .f32⟩
  | 119 => ⟨S1x256x512, .f32⟩
  | 120 => ⟨S256x512, .f32⟩
  | 121 => ⟨S1x512, .f32⟩
  | 122 => ⟨S512, .f32⟩
  | 123 => ⟨S1x512, .f32⟩
  | 124 => ⟨S256x512, .f32⟩
  | 125 => ⟨S256x512, .f32⟩
  | 126 => ⟨S256x512, .f32⟩
  | 127 => ⟨S1x256x512, .f32⟩
  | _ => ⟨S16640x1024, .f32⟩

abbrev hbmTy0_1 (i : Nat) : BufTy := match i % 128 with
  | 0 => ⟨S256x512, .f32⟩
  | 1 => ⟨S1x512, .f32⟩
  | 2 => ⟨S512, .f32⟩
  | 3 => ⟨S1x512, .f32⟩
  | 4 => ⟨S256x512, .f32⟩
  | 5 => ⟨S256x512, .f32⟩
  | 6 => ⟨S256x512, .f32⟩
  | 7 => ⟨S1x256x512, .f32⟩
  | 8 => ⟨S256x512, .f32⟩
  | 9 => ⟨S1x512, .f32⟩
  | 10 => ⟨S512, .f32⟩
  | 11 => ⟨S1x512, .f32⟩
  | 12 => ⟨S256x512, .f32⟩
  | 13 => ⟨S256x512, .f32⟩
  | 14 => ⟨S256x512, .f32⟩
  | 15 => ⟨S256x8x64, .f32⟩
  | 16 => ⟨S8x64x256, .f32⟩
  | 17 => ⟨S256x8x64, .f32⟩
  | 18 => ⟨S1x8x64, .f32⟩
  | 19 => ⟨S256x8x64, .f32⟩
  | 20 => ⟨S256x8x64, .f32⟩
  | 21 => ⟨S256x8x64, .f32⟩
  | 22 => ⟨S256x8x64, .f32⟩
  | 23 => ⟨S_, .f32⟩
  | 24 => ⟨S256x8x64, .f32⟩
  | 25 => ⟨S256x8x64, .f32⟩
  | 26 => ⟨S_, .f32⟩
  | 27 => ⟨S256x8x64, .f32⟩
  | 28 => ⟨S256x8x64, .f32⟩
  | 29 => ⟨S256x512, .f32⟩
  | 30 => ⟨S8x64x256, .f32⟩
  | 31 => ⟨S256x8x64, .f32⟩
  | 32 => ⟨S1x8x64, .f32⟩
  | 33 => ⟨S256x8x64, .f32⟩
  | 34 => ⟨S256x8x64, .f32⟩
  | 35 => ⟨S256x8x64, .f32⟩
  | 36 => ⟨S256x8x64, .f32⟩
  | 37 => ⟨S_, .f32⟩
  | 38 => ⟨S256x8x64, .f32⟩
  | 39 => ⟨S256x8x64, .f32⟩
  | 40 => ⟨S_, .f32⟩
  | 41 => ⟨S256x8x64, .f32⟩
  | 42 => ⟨S256x8x64, .f32⟩
  | 43 => ⟨S256x512, .f32⟩
  | 44 => ⟨S_, .f32⟩
  | 45 => ⟨S256x512, .f32⟩
  | 46 => ⟨S256x512, .f32⟩
  | 47 => ⟨S512, .f32⟩
  | 48 => ⟨S_, .f32⟩
  | 49 => ⟨S512, .f32⟩
  | 50 => ⟨S512, .f32⟩
  | 51 => ⟨S512, .f32⟩
  | 52 => ⟨S512, .f32⟩
  | 53 => ⟨S512, .i1⟩
  | 54 => ⟨S512, .f32⟩
  | 55 => ⟨S512, .f32⟩
  | 56 => ⟨S512, .f32⟩
  | 57 => ⟨S512, .f32⟩
  | 58 => ⟨S512, .f32⟩
  | 59 => ⟨S512, .f32⟩
  | 60 => ⟨S512, .f32⟩
  | 61 => ⟨S512, .f32⟩
  | 62 => ⟨S1x512, .f32⟩
  | 63 => ⟨S256x512, .f32⟩
  | 64 => ⟨S256x512, .f32⟩
  | 65 => ⟨S256x512, .f32⟩
  | 66 => ⟨S_, .f32⟩
  | 67 => ⟨S256x512, .f32⟩
  | 68 => ⟨S256x512, .f32⟩
  | 69 => ⟨S256x512, .f32⟩
  | 70 => ⟨S256x512, .f32⟩
  | 71 => ⟨S256x512, .f32⟩
  | 72 => ⟨S256x512, .f32⟩
  | 73 => ⟨S256x512, .f32⟩
  | 74 => ⟨S256x512, .f32⟩
  | 75 => ⟨S256x512, .f32⟩
  | 76 => ⟨S256x512, .f32⟩
  | 77 => ⟨S256x512, .f32⟩
  | 78 => ⟨S_, .f32⟩
  | 79 => ⟨S256x512, .f32⟩
  | 80 => ⟨S256x512, .f32⟩
  | 81 => ⟨S256x512, .f32⟩
  | 82 => ⟨S_, .f32⟩
  | 83 => ⟨S256x512, .f32⟩
  | 84 => ⟨S256x512, .f32⟩
  | 85 => ⟨S256x512, .f32⟩
  | 86 => ⟨S_, .f32⟩
  | 87 => ⟨S256x512, .f32⟩
  | 88 => ⟨S256x512, .f32⟩
  | 89 => ⟨S_, .f32⟩
  | 90 => ⟨S256x512, .f32⟩
  | 91 => ⟨S256x512, .f32⟩
  | 92 => ⟨S256x512, .f32⟩
  | 93 => ⟨S256x512, .f32⟩
  | 94 => ⟨S256x4x128, .f32⟩
  | 95 => ⟨S256x4x128, .f32⟩
  | 96 => ⟨S_, .f32⟩
  | 97 => ⟨S256x4, .f32⟩
  | 98 => ⟨S256x4x1, .f32⟩
  | 99 => ⟨S_, .f32⟩
  | 100 => ⟨S256x4x1, .f32⟩
  | 101 => ⟨S256x4x1, .f32⟩
  | 102 => ⟨S_, .f32⟩
  | 103 => ⟨S256x4x1, .f32⟩
  | 104 => ⟨S256x4x1, .f32⟩
  | 105 => ⟨S256x4x1, .f32⟩
  | 106 => ⟨S256x4x128, .f32⟩
  | 107 => ⟨S256x4x128, .f32⟩
  | 108 => ⟨S256x512, .f32⟩
  | 109 => ⟨S1x512, .f32⟩
  | 110 => ⟨S256x512, .f32⟩
  | 111 => ⟨S256x512, .f32⟩
  | 112 => ⟨S256x8x64, .f32⟩
  | 113 => ⟨S256x8x64, .f32⟩
  | 114 => ⟨S_, .f32⟩
  | 115 => ⟨S256x8, .f32⟩
  | 116 => ⟨S256x8x1, .f32⟩
  | 117 => ⟨S_, .f32⟩
  | 118 => ⟨S256x8x1, .f32⟩
  | 119 => ⟨S256x8x1, .f32⟩
  | 120 => ⟨S_, .f32⟩
  | 121 => ⟨S256x8x1, .f32⟩
  | 122 => ⟨S256x8x1, .f32⟩
  | 123 => ⟨S256x8x1, .f32⟩
  | 124 => ⟨S256x8x64, .f32⟩
  | 125 => ⟨S256x8x64, .f32⟩
  | 126 => ⟨S256x512, .f32⟩
  | 127 => ⟨S1x512, .f32⟩
  | _ => ⟨S16640x1024, .f32⟩

abbrev hbmTy0_2 (i : Nat) : BufTy := match i % 128 with
  | 0 => ⟨S256x512, .f32⟩
  | 1 => ⟨S256x512, .f32⟩
  | 2 => ⟨S256x1024, .f32⟩
  | 3 => ⟨S16384x1024, .bf16⟩
  | 4 => ⟨S256x1024, .bf16⟩
  | 5 => ⟨S16640x1024, .bf16⟩
  | 6 => ⟨S3x256x512, .f32⟩
  | _ => ⟨S16640x1024, .f32⟩

abbrev hbmTy (i : Nat) : BufTy := match i / 128 with
  | 0 => hbmTy0_0 i
  | 1 => hbmTy0_1 i
  | 2 => hbmTy0_2 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_13 : Ref sig .tc := ⟨.hbm, 151, rfl⟩
abbrev main_v119 : Ref sig .tc := ⟨.hbm, 152, rfl⟩
abbrev main_v120 : Ref sig .tc := ⟨.hbm, 153, rfl⟩
abbrev main_cst_14 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_15 : Ref sig .tc := ⟨.hbm, 165, rfl⟩
abbrev main_v131 : Ref sig .tc := ⟨.hbm, 166, rfl⟩
abbrev main_v132 : Ref sig .tc := ⟨.hbm, 167, rfl⟩
abbrev main_cst_16 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_17 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_call0_cst : Ref sig .tc := ⟨.hbm, 176, rfl⟩
abbrev main_call0_v0 : Ref sig .tc := ⟨.hbm, 177, rfl⟩
abbrev main_call0_v1 : Ref sig .tc := ⟨.hbm, 178, rfl⟩
abbrev main_call0_v2 : Ref sig .tc := ⟨.hbm, 179, rfl⟩
abbrev main_call0_v3 : Ref sig .tc := ⟨.hbm, 180, rfl⟩
abbrev main_call0_v4 : Ref sig .tc := ⟨.hbm, 181, rfl⟩
abbrev main_call0_v5 : Ref sig .tc := ⟨.hbm, 182, rfl⟩
abbrev main_call0_v6 : Ref sig .tc := ⟨.hbm, 183, rfl⟩
abbrev main_call0_v7 : Ref sig .tc := ⟨.hbm, 184, rfl⟩
abbrev main_call0_v8 : Ref sig .tc := ⟨.hbm, 185, rfl⟩
abbrev main_call0_v9 : Ref sig .tc := ⟨.hbm, 186, rfl⟩
abbrev main_call0_v10 : Ref sig .tc := ⟨.hbm, 187, rfl⟩
abbrev main_call0_v11 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_18 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_19 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_20 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_21 : Ref sig .tc := ⟨.hbm, 214, rfl⟩
abbrev main_v161 : Ref sig .tc := ⟨.hbm, 215, rfl⟩
abbrev main_v162 : Ref sig .tc := ⟨.hbm, 216, rfl⟩
abbrev main_cst_22 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_23 : Ref sig .tc := ⟨.hbm, 224, rfl⟩
abbrev main_v169 : Ref sig .tc := ⟨.hbm, 225, rfl⟩
abbrev main_v170 : Ref sig .tc := ⟨.hbm, 226, rfl⟩
abbrev main_cst_24 : Ref sig .tc := ⟨.hbm, 227, rfl⟩
abbrev main_v171 : Ref sig .tc := ⟨.hbm, 228, rfl⟩
abbrev main_v172 : Ref sig .tc := ⟨.hbm, 229, rfl⟩
abbrev main_cst_25 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_26 : Ref sig .tc := ⟨.hbm, 242, rfl⟩
abbrev main_v184 : Ref sig .tc := ⟨.hbm, 243, rfl⟩
abbrev main_v185 : Ref sig .tc := ⟨.hbm, 244, rfl⟩
abbrev main_cst_27 : Ref sig .tc := ⟨.hbm, 245, rfl⟩
abbrev main_v186 : Ref sig .tc := ⟨.hbm, 246, rfl⟩
abbrev main_v187 : Ref sig .tc := ⟨.hbm, 247, rfl⟩
abbrev main_cst_28 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩

abbrev nD : Nat := 1
abbrev τ : Topo := Topo.v7x

variable {F : FTy → Type} [FloatOps F]
-- ==== Kernel3.lean ====
abbrev S16640x1024 : Shape := ⟨2, ![16640, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S4x512 : Shape := ⟨2, ![4, 512]⟩
abbrev S8x64x64 : Shape := ⟨3, ![8, 64, 64]⟩
abbrev S8x64 : Shape := ⟨2, ![8, 64]⟩
abbrev S_ : Shape := ⟨0, ![]⟩
abbrev S128x128 : Shape := ⟨2, ![128, 128]⟩
abbrev S8x8 : Shape := ⟨2, ![8, 8]⟩
abbrev S4x128x1x128x1 : Shape := ⟨5, ![4, 128, 1, 128, 1]⟩
abbrev S1x1x8x1x8 : Shape := ⟨5, ![1, 1, 8, 1, 8]⟩
abbrev S4x128x8x128x8 : Shape := ⟨5, ![4, 128, 8, 128, 8]⟩
abbrev S4x1024x1024 : Shape := ⟨3, ![4, 1024, 1024]⟩
abbrev S4x512x512 : Shape := ⟨3, ![4, 512, 512]⟩
abbrev S1x4x512x512 : Shape := ⟨4, ![1, 4, 512, 512]⟩
abbrev S2x4x512x512 : Shape := ⟨4, ![2, 4, 512, 512]⟩
abbrev S128x4 : Shape := ⟨2, ![128, 4]⟩
abbrev S128x1x4x1 : Shape := ⟨4, ![128, 1, 4, 1]⟩
abbrev S128x8x4x128 : Shape := ⟨4, ![128, 8, 4, 128]⟩
abbrev S2x512x512 : Shape := ⟨3, ![2, 512, 512]⟩
abbrev S1x1024 : Shape := ⟨2, ![1, 1024]⟩
abbrev S1x512 : Shape := ⟨2, ![1, 512]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S1024x512 : Shape := ⟨2, ![1024, 512]⟩
abbrev S24x512 : Shape := ⟨2, ![24, 512]⟩
abbrev S8x512 : Shape := ⟨2, ![8, 512]⟩
abbrev S512x1024 : Shape := ⟨2, ![512, 1024]⟩
abbrev S536x512 : Shape := ⟨2, ![536, 512]⟩
abbrev S512x1 : Shape := ⟨2, ![512, 1]⟩
abbrev S512x128 : Shape := ⟨2, ![512, 128]⟩
abbrev S1x1x512x512 : Shape := ⟨4, ![1, 1, 512, 512]⟩
abbrev S1x512x512 : Shape := ⟨3, ![1, 512, 512]⟩
abbrev S1x128 : Shape := ⟨2, ![1, 128]⟩

abbrev nBuf : Space → Nat
  | .hbm => 89
  | .vmem => 29
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2048, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x512, .f32⟩
  | .hbm, ⟨7, _⟩ => ⟨S512, .f32⟩
  | .hbm, ⟨8, _⟩ => ⟨S8x64x64, .f32⟩
  | .hbm, ⟨9, _⟩ => ⟨S8x64, .f32⟩
  | .hbm, ⟨10, _⟩ => ⟨S8x64x64, .f32⟩
  | .hbm, ⟨11, _⟩ => ⟨S8x64, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .i1⟩
  | .hbm, ⟨16, _⟩ => ⟨S128x128, .i1⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S_, .f32⟩
  | .hbm, ⟨27, _⟩ => ⟨S_, .f32⟩
  | .hbm, ⟨28, _⟩ => ⟨S4x128x128, .i1⟩
  | .hbm, ⟨29, _⟩ => ⟨S4x128x128, .f32⟩
  | .hbm, ⟨30, _⟩ => ⟨S4x128x128, .f32⟩
  | .hbm, ⟨31, _⟩ => ⟨S4x128x128, .bf16⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .bf16⟩
  | .hbm, ⟨39, _⟩ => ⟨S4x128x1x128x1, .bf16⟩
  | .hbm, ⟨40, _⟩ => ⟨S1x1x8x1x8, .bf16⟩
  | .hbm, ⟨41, _⟩ => ⟨S4x128x8x128x8, .bf16⟩
  | .hbm, ⟨42, _⟩ => ⟨S4x128x8x128x8, .bf16⟩
  | .hbm, ⟨43, _⟩ => ⟨S4x128x8x128x8, .bf16⟩
  | .hbm, ⟨44, _⟩ => ⟨S4x1024x1024, .bf16⟩
  | .hbm, ⟨45, _⟩ => ⟨S4x512x512, .bf16⟩
  | .hbm, ⟨46, _⟩ => ⟨S4x512x512, .bf16⟩
  | .hbm, ⟨47, _⟩ => ⟨S1x4x512x512, .bf16⟩
  | .hbm, ⟨48, _⟩ => ⟨S1x4x512x512, .bf16⟩
  | .hbm, ⟨49, _⟩ => ⟨S2x4x512x512, .bf16⟩
  | .hbm, ⟨50, _⟩ => ⟨S4x512x512, .bf16⟩
  | .hbm, ⟨51, _⟩ => ⟨S128x4, .f32⟩
  | .hbm, ⟨52, _⟩ => ⟨S128x1x4x1, .f32⟩
  | .hbm, ⟨53, _⟩ => ⟨S128x8x4x128, .f32⟩
  | .hbm, ⟨54, _⟩ => ⟨S2x512x512, .f32⟩
  | .hbm, ⟨55, _⟩ => ⟨S8x8, .i32⟩
  | .hbm, ⟨56, _⟩ => ⟨S8x8, .i32⟩
  | .hbm, ⟨57, _⟩ => ⟨S_, .i32⟩
  | .hbm, ⟨58, _⟩ => ⟨S8x8, .i32⟩
  | .hbm, ⟨59, _⟩ => ⟨S8x8, .i32⟩
  | .hbm, ⟨60, _⟩ => ⟨S8x8, .i1⟩
  | .hbm, ⟨61, _⟩ => ⟨S8x8, .f32⟩
  | .hbm, ⟨62, _⟩ => ⟨S1x1024, .f32⟩
  | .hbm, ⟨63, _⟩ => ⟨S1024x2048, .bf16⟩
  | .hbm, ⟨64, _⟩ => ⟨S1x512, .f32⟩
  | .hbm, ⟨65, _⟩ => ⟨S1x512, .f32⟩
  | .hbm, ⟨66, _⟩ => ⟨S8x64x1x64, .f32⟩
  | .hbm, ⟨67, _⟩ => ⟨S8x1x8x1, .f32⟩
  | .hbm, ⟨68, _⟩ => ⟨S8x64x8x64, .f32⟩
  | .hbm, ⟨69, _⟩ => ⟨S8x64x8x64, .f32⟩
  | .hbm, ⟨70, _⟩ => ⟨S8x64x8x64, .f32⟩
  | .hbm, ⟨71, _⟩ => ⟨S512x512, .f32⟩
  | .hbm, ⟨72, _⟩ => ⟨S512x512, .bf16⟩
  | .hbm, ⟨73, _⟩ => ⟨S1x512, .f32⟩
  | .hbm, ⟨74, _⟩ => ⟨S8x64x1x64, .f32⟩
  | .hbm, ⟨75, _⟩ => ⟨S8x1x8x1, .f32⟩
  | .hbm, ⟨76, _⟩ => ⟨S8x64x8x64, .f32⟩
  | .hbm, ⟨77, _⟩ => ⟨S8x64x8x64, .f32⟩
  | .hbm, ⟨78, _⟩ => ⟨S8x64x8x64, .f32⟩
  | .hbm, ⟨79, _⟩ => ⟨S512x512, .f32⟩
  | .hbm, ⟨80, _⟩ => ⟨S512x512, .bf16⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S16640x1024, .bf16⟩
  | .hbm, ⟨86, _⟩ => ⟨S1024x512, .f32⟩
  | .hbm, ⟨87, _⟩ => ⟨S24x512, .f32⟩
  | .hbm, ⟨88, _⟩ => ⟨S8x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x512, .f32⟩
  | .local _ .vmem, ⟨5, _⟩ => ⟨S2x4x512x512, .bf16⟩
  | .local _ .vmem, ⟨6, _⟩ => ⟨S4x512x512, .bf16⟩
  | .local _ .vmem, ⟨7, _⟩ => ⟨S2x512x512, .f32⟩
  | .local _ .vmem, ⟨8, _⟩ => ⟨S4x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x1024, .bf16⟩
  | .local _ .vmem, ⟨18, _⟩ => ⟨S512x1024, .bf16⟩
  | .local _ .vmem, ⟨19, _⟩ => ⟨S512x512, .f32⟩
  | .local _ .vmem, ⟨20, _⟩ => ⟨S512x512, .f32⟩
  | .local _ .vmem, ⟨21, _⟩ => ⟨S24x512, .f32⟩
  | .local _ .vmem, ⟨22, _⟩ => ⟨S8x512, .f32⟩
  | .local _ .vmem, ⟨23, _⟩ => ⟨S8x512, .f32⟩
  | .local _ .vmem, ⟨24, _⟩ => ⟨S536x512, .f32⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v1 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_1 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55_0 : Ref sig .tc := ⟨.hbm, 85, rfl⟩
abbrev main_v55_1 : Ref sig .tc := ⟨.hbm, 86, rfl⟩
abbrev main_v55_2 : Ref sig .tc := ⟨.hbm, 87, rfl⟩
abbrev main_v55_3 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg19_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem19_0 : DmaSem sig := 22

abbrev nD : Nat := 1
abbrev τ : Topo := Topo.v7x

variable {F : FTy → Type} [FloatOps F]

abbrev grid0 : Pipeline.Grid := ⟨1, ![32], ![false]⟩

def k0_off1 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v98 : Index := Scalar.indexCast v9
  let c0_32 : Index := 0#32
  let c0_33 : Index := 0#32
  let c0_34 : Index := 0#32
  ![v98.toNat, 0, 0, 0]
def k0_off2 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v108 : Index := Scalar.indexCast v9
  let c1 : Index := 1#32
  let c0_42 : Index := 0#32
  let c0_43 : Index := 0#32
  ![v108.toNat, 1, 0, 0]
def k0_off3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v118 : Index := Scalar.indexCast v9
  let c2 : Index := 2#32
  let c0_50 : Index := 0#32
  let c0_51 : Index := 0#32
  ![v118.toNat, 2, 0, 0]
def k0_off4 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v128 : Index := Scalar.indexCast v9
  let c3 : Index := 3#32
  let c0_58 : Index := 0#32
  let c0_59 : Index := 0#32
  ![v128.toNat, 3, 0, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v139 : Index := Scalar.indexCast v9
  let c0_66 : Index := 0#32
  let c0_67 : Index := 0#32
  ![v139.toNat, 0, 0]
@[reducible] def k0_t1_loop : Scf.Loop 32 :=
  let c0_i32_149 : BitVec 32 := 0#32
  let c64_i32 : BitVec 32 := 64#32
  let v323 : BitVec 32 := Scalar.addi c0_i32_149 c64_i32
  let c1_i32_150 : BitVec 32 := 1#32
  ⟨c0_i32_149, v323, c1_i32_150⟩
def k0_mult1 (k0_t1 : Fin k0_t1_loop.trips) : BitVec 32 :=
  let c0_i32_149 : BitVec 32 := 0#32
  let c1_i32_150 : BitVec 32 := 1#32
  let arg27 : BitVec 32 := Scf.iv c0_i32_149 c1_i32_150 k0_t1
  let c8_i32_192 : BitVec 32 := 8#32
  let v467 : BitVec 32 := Scalar.muli arg27 c8_i32_192
  v467
def k0_off6 (k0_t1 : Fin k0_t1_loop.trips) : Fin 2 → Nat :=
  let c0_i32_149 : BitVec 32 := 0#32
  let c1_i32_150 : BitVec 32 := 1#32
  let arg27 : BitVec 32 := Scf.iv c0_i32_149 c1_i32_150 k0_t1
  let c8_i32_192 : BitVec 32 := 8#32
  let v467 : BitVec 32 := Scalar.muli arg27 c8_i32_192
  let v468 : BitVec 32 := v467
  let v469 : Index := Scalar.indexCast v468
  let c0_193 : Index := 0#32
  ![v469.toNat, 0]
def k0_cond3 (i : grid0.Coords) : BitVec 1 :=
  let arg0 : BitVec 32 := BitVec.ofNat 32 (i 0).val
  let c30_i32 : BitVec 32 := 30#32
  let v146 : BitVec 1 := Scalar.cmpi .sge arg0 c30_i32
  let v147 : BitVec 32 := Scalar.extui v146
  let c0_i32_70 : BitVec 32 := 0#32
  let v148 : BitVec 1 := Scalar.cmpi .ne v147 c0_i32_70
  v148

def k0_cond4 (i : grid0.Coords) : BitVec 1 :=
  let arg0 : BitVec 32 := BitVec.ofNat 32 (i 0).val
  let c31_i32 : BitVec 32 := 31#32
  let v464 : BitVec 1 := Scalar.cmpi .eq arg0 c31_i32
  let v465 : BitVec 32 := Scalar.extui v464
  let c0_i32_191 : BitVec 32 := 0#32
  let v466 : BitVec 1 := Scalar.cmpi .ne v465 c0_i32_191
  v466

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c30_i32 : BitVec 32 := 30#32
  let v0 : BitVec 32 := Scalar.subi arg0 c30_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S24x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference3Ideal.lean ====
abbrev S16640x1024 : Shape := ⟨2, ![16640, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S4x512 : Shape := ⟨2, ![4, 512]⟩
abbrev S8x64x64 : Shape := ⟨3, ![8, 64, 64]⟩
abbrev S8x64 : Shape := ⟨2, ![8, 64]⟩
abbrev S16384x1024 : Shape := ⟨2, ![16384, 1024]⟩
abbrev S2048x8x1024 : Shape := ⟨3, ![2048, 8, 1024]⟩
abbrev S_ : Shape := ⟨0, ![]⟩
abbrev S2048x8 : Shape := ⟨2, ![2048, 8]⟩
abbrev S2048x8x1 : Shape := ⟨3, ![2048, 8, 1]⟩
abbrev S1x1x1024 : Shape := ⟨3, ![1, 1, 1024]⟩
abbrev S2048x8x2048 : Shape := ⟨3, ![2048, 8, 2048]⟩
abbrev S2048x8x512 : Shape := ⟨3, ![2048, 8, 512]⟩
abbrev S2048x8x4x128 : Shape := ⟨4, ![2048, 8, 4, 128]⟩
abbrev S2048x8x4 : Shape := ⟨3, ![2048, 8, 4]⟩
abbrev S2048x8x4x1 : Shape := ⟨4, ![2048, 8, 4, 1]⟩
abbrev S1x1x512 : Shape := ⟨3, ![1, 1, 512]⟩
abbrev S3x8x512 : Shape := ⟨3, ![3, 8, 512]⟩
abbrev S2051x8x512 : Shape := ⟨3, ![2051, 8, 512]⟩
abbrev S128x8x512 : Shape := ⟨3, ![128, 8, 512]⟩
abbrev S1024x512 : Shape := ⟨2, ![1024, 512]⟩
abbrev S24x512 : Shape := ⟨2, ![24, 512]⟩

abbrev nBuf : Space → Nat
  | .hbm => 80
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2048, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x512, .f32⟩
  | .hbm, ⟨7, _⟩ => ⟨S512, .f32⟩
  | .hbm, ⟨8, _⟩ => ⟨S8x64x64, .f32⟩
  | .hbm, ⟨9, _⟩ => ⟨S8x64, .f32⟩
  | .hbm, ⟨10, _⟩ => ⟨S8x64x64, .f32⟩
  | .hbm, ⟨11, _⟩ => ⟨S8x64, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S16384x1024, .f32⟩
  | .hbm, ⟨16, _⟩ => ⟨S2048x8x1024, .f32⟩
  | .hbm, ⟨17, _⟩ => ⟨S2048x8x1024, .f32⟩
  | .hbm, ⟨18, _⟩ => ⟨S_, .f32⟩
  | .hbm, ⟨19, _⟩ => ⟨S2048x8, .f32⟩
  | .hbm, ⟨20, _⟩ => ⟨S2048x8x1, .f32⟩
  | .hbm, ⟨21, _⟩ => ⟨S_, .f32⟩
  | .hbm, ⟨22, _⟩ => ⟨S2048x8x1, .f32⟩
  | .hbm, ⟨23, _⟩ => ⟨S2048x8x1, .f32⟩
  | .hbm, ⟨24, _⟩ => ⟨S_, .f32⟩
  | .hbm, ⟨25, _⟩ => ⟨S2048x8x1, .f32⟩
  | .hbm, ⟨26, _⟩ => ⟨S2048x8x1, .f32⟩
  | .hbm, ⟨27, _⟩ => ⟨S2048x8x1, .f32⟩
  | .hbm, ⟨28, _⟩ => ⟨S2048x8x1024, .f32⟩
  | .hbm, ⟨29, _⟩ => ⟨S2048x8x1024, .f32⟩
  | .hbm, ⟨30, _⟩ => ⟨S1x1x1024, .f32⟩
  | .hbm, ⟨31, _⟩ => ⟨S2048x8x1024, .f32⟩
  | .hbm, ⟨32, _⟩ => ⟨S2048x8x1024, .f32⟩
  | .hbm, ⟨33, _⟩ => ⟨S2048x8x2048, .f32⟩
  | .hbm, ⟨34, _⟩ => ⟨S2048x8x512, .f32⟩
  | .hbm, ⟨35, _⟩ => ⟨S2048x8x512, .f32⟩
  | .hbm, ⟨36, _⟩ => ⟨S2048x8x512, .f32⟩
  | .hbm, ⟨37, _⟩ => ⟨S2048x8x512, .f32⟩
  | .hbm, ⟨38, _⟩ => ⟨S2048x8x512, .f32⟩
  | .hbm, ⟨39, _⟩ => ⟨S2048x8x512, .f32⟩
  | .hbm, ⟨40, _⟩ => ⟨S_, .f32⟩
  | .hbm, ⟨41, _⟩ => ⟨S2048x8x512, .f32⟩
  | .hbm, ⟨42, _⟩ => ⟨S2048x8x512, .f32⟩
  | .hbm, ⟨43, _⟩ => ⟨S2048x8x512, .f32⟩
  | .hbm, ⟨44, _⟩ => ⟨S_, .f32⟩
  | .hbm, ⟨45, _⟩ => ⟨S2048x8x512, .f32⟩
  | .hbm, ⟨46, _⟩ => ⟨S2048x8x512, .f32⟩
  | .hbm, ⟨47, _⟩ => ⟨S2048x8x512, .f32⟩
  | .hbm, ⟨48, _⟩ => ⟨S_, .f32⟩
  | .hbm, ⟨49, _⟩ => ⟨S2048x8x512, .f32⟩
  | .hbm, ⟨50, _⟩ => ⟨S2048x8x512, .f32⟩
  | .hbm, ⟨51, _⟩ => ⟨S_, .f32⟩
  | .hbm, ⟨52, _⟩ => ⟨S2048x8x512, .f32⟩
  | .hbm, ⟨53, _⟩ => ⟨S2048x8x512, .f32⟩
  | .hbm, ⟨54, _⟩ => ⟨S2048x8x512, .f32⟩
  | .hbm, ⟨55, _⟩ => ⟨S2048x8x4x128, .f32⟩
  | .hbm, ⟨56, _⟩ => ⟨S2048x8x4x128, .f32⟩
  | .hbm, ⟨57, _⟩ => ⟨S_, .f32⟩
  | .hbm, ⟨58, _⟩ => ⟨S2048x8x4, .f32⟩
  | .hbm, ⟨59, _⟩ => ⟨S2048x8x4x1, .f32⟩
  | .hbm, ⟨60, _⟩ => ⟨S_, .f32⟩
  | .hbm, ⟨61, _⟩ => ⟨S2048x8x4x1, .f32⟩
  | .hbm, ⟨62, _⟩ => ⟨S2048x8x4x1, .f32⟩
  | .hbm, ⟨63, _⟩ => ⟨S_, .f32⟩
  | .hbm, ⟨64, _⟩ => ⟨S2048x8x4x1, .f32⟩
  | .hbm, ⟨65, _⟩ => ⟨S2048x8x4x1, .f32⟩
  | .hbm, ⟨66, _⟩ => ⟨S2048x8x4x1, .f32⟩
  | .hbm, ⟨67, _⟩ => ⟨S2048x8x4x128, .f32⟩
  | .hbm, ⟨68, _⟩ => ⟨S2048x8x4x128, .f32⟩
  | .hbm, ⟨69, _⟩ => ⟨S2048x8x512, .f32⟩
  | .hbm, ⟨70, _⟩ => ⟨S1x1x512, .f32⟩
  | .hbm, ⟨71, _⟩ => ⟨S2048x8x512, .f32⟩
  | .hbm, ⟨72, _⟩ => ⟨S2048x8x512, .f32⟩
  | .hbm, ⟨73, _⟩ => ⟨S_, .f32⟩
  | .hbm, ⟨74, _⟩ => ⟨S3x8x512, .f32⟩
  | .hbm, ⟨75, _⟩ => ⟨S2051x8x512, .f32⟩
  | .hbm, ⟨76, _⟩ => ⟨S128x8x512, .f32⟩
  | .hbm, ⟨77, _⟩ => ⟨S1024x512, .f32⟩
  | .hbm, ⟨78, _⟩ => ⟨S3x8x512, .f32⟩
  | .hbm, ⟨79, _⟩ => ⟨S24x512, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== Kernel4.lean ====
abbrev S16640x1024 : Shape := ⟨2, ![16640, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S32x1 : Shape := ⟨2, ![32, 1]⟩
abbrev S8x16640 : Shape := ⟨2, ![8, 16640]⟩
abbrev S65x8x32 : Shape := ⟨3, ![65, 8, 32]⟩
abbrev S256x1024 : Shape := ⟨2, ![256, 1024]⟩
abbrev S8x256 : Shape := ⟨2, ![8, 256]⟩
abbrev S1x8x32 : Shape := ⟨3, ![1, 8, 32]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S32x256 : Shape := ⟨2, ![32, 256]⟩
abbrev S1x256 : Shape := ⟨2, ![1, 256]⟩
abbrev S256x256 : Shape := ⟨2, ![256, 256]⟩
abbrev S8x32 : Shape := ⟨2, ![8, 32]⟩

abbrev nBuf : Space → Nat
  | .hbm => 20
  | .vmem => 20
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S1024x1024, .f32⟩
  | .hbm, ⟨3, _⟩ => ⟨S1024, .f32⟩
  | .hbm, ⟨4, _⟩ => ⟨S1024x32, .f32⟩
  | .hbm, ⟨5, _⟩ => ⟨S32, .f32⟩
  | .hbm, ⟨6, _⟩ => ⟨S_, .f32⟩
  | .hbm, ⟨7, _⟩ => ⟨S1024x128, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S1024x1024, .bf16⟩
  | .hbm, ⟨12, _⟩ => ⟨S1x1024, .f32⟩
  | .hbm, ⟨13, _⟩ => ⟨S32x1, .f32⟩
  | .hbm, ⟨14, _⟩ => ⟨S16640x1024, .f32⟩
  | .hbm, ⟨15, _⟩ => ⟨S16640x1024, .bf16⟩
  | .hbm, ⟨16, _⟩ => ⟨S8x16640, .i32⟩
  | .hbm, ⟨17, _⟩ => ⟨S8x16640, .f32⟩
  | .hbm, ⟨18, _⟩ => ⟨S8x16640, .i32⟩
  | .hbm, ⟨19, _⟩ => ⟨S65x8x32, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S1024x128, .f32⟩
  | .local _ .vmem, ⟨7, _⟩ => ⟨S32x1, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x256, .i32⟩
  | .local _ .vmem, ⟨13, _⟩ => ⟨S8x256, .i32⟩
  | .local _ .vmem, ⟨14, _⟩ => ⟨S8x256, .f32⟩
  | .local _ .vmem, ⟨15, _⟩ => ⟨S8x256, .f32⟩
  | .local _ .vmem, ⟨16, _⟩ => ⟨S8x256, .i32⟩
  | .local _ .vmem, ⟨17, _⟩ => ⟨S8x256, .i32⟩
  | .local _ .vmem, ⟨18, _⟩ => ⟨S1x8x32, .f32⟩
  | .local _ .vmem, ⟨19, _⟩ => ⟨S1x8x32, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16640x1024 : Shape := ⟨2, ![16640, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S16640 : Shape := ⟨1, ![16640]⟩
abbrev S16640x1 : Shape := ⟨2, ![16640, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S1024x1024, .f32⟩
  | .hbm, ⟨3, _⟩ => ⟨S1024, .f32⟩
  | .hbm, ⟨4, _⟩ => ⟨S1024x32, .f32⟩
  | .hbm, ⟨5, _⟩ => ⟨S32, .f32⟩
  | .hbm, ⟨6, _⟩ => ⟨S16640x1024, .f32⟩
  | .hbm, ⟨7, _⟩ => ⟨S16640x1024, .f32⟩
  | .hbm, ⟨8, _⟩ => ⟨S16640x1024, .f32⟩
  | .hbm, ⟨9, _⟩ => ⟨S16640x1024, .f32⟩
  | .hbm, ⟨10, _⟩ => ⟨S_, .f32⟩
  | .hbm, ⟨11, _⟩ => ⟨S16640, .f32⟩
  | .hbm, ⟨12, _⟩ => ⟨S16640x1, .f32⟩
  | .hbm, ⟨13, _⟩ => ⟨S_, .f32⟩
  | .hbm, ⟨14, _⟩ => ⟨S16640x1, .f32⟩
  | .hbm, ⟨15, _⟩ => ⟨S16640x1, .f32⟩
  | .hbm, ⟨16, _⟩ => ⟨S_, .f32⟩
  | .hbm, ⟨17, _⟩ => ⟨S16640x1, .f32⟩
  | .hbm, ⟨18, _⟩ => ⟨S16640x1, .f32⟩
  | .hbm, ⟨19, _⟩ => ⟨S16640x1, .f32⟩
  | .hbm, ⟨20, _⟩ => ⟨S16640x1024, .f32⟩
  | .hbm, ⟨21, _⟩ => ⟨S16640x1024, .f32⟩
  | .hbm, ⟨22, _⟩ => ⟨S1x1024, .f32⟩
  | .hbm, ⟨23, _⟩ => ⟨S16640x1024, .f32⟩
  | .hbm, ⟨24, _⟩ => ⟨S16640x1024, .f32⟩
  | .hbm, ⟨25, _⟩ => ⟨S16640x1024, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Experts.RunsBits.lean ====
/- The experts' body at one tile, on whole staging buffers: what it stores where it converts the
   expert's weights first, where it finds them converted, and where the tile is not live. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Experts.TablesBits
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The tables and the two scratch buffers, whole. -/
abbrev tbTe : Memref sig .tc .smem S346 .i32 := Memref.whole main_arg0
abbrev tbNt : Memref sig .tc .smem S1 .i32 := Memref.whole main_arg1
abbrev scW1 : Memref sig .tc .vmem S1024x2048 .bf16 := Memref.whole cc0_scratch0
abbrev scW2 : Memref sig .tc .vmem S1024x1024 .bf16 := Memref.whole cc0_scratch1

/-- The body's read of the count. -/
abbrev rdNt (T1 : S1.Idx → Elt Bits .i32) : BitVec 32 :=
  View.readAt (Elt Bits) (tbNt).view (Rect.unit (s := S1) ![0] S1.size inb_S1_S1_0).toLoadRect T1 (Shape.Idx.first (numel1_S1.symm ▸ Nat.one_pos))
/-- The body's test of whether to convert the weights. -/
abbrev conv (i : grid0.Coords) (T0 : S346.Idx → Elt Bits .i32) : BitVec 1 :=
  (Scalar.cmpi .ne (Scalar.extui (Scalar.ori (Scalar.cmpi .eq (BitVec.ofNat 32 (i 0).val) 0#32) (Scalar.cmpi .ne (View.readAt (Elt Bits) (tbTe).view (Rect.unit (s := S346) (k0_off2 i) S1.size (k0_off2_inb i)).toLoadRect T0 (Shape.Idx.first (numel1_S1.symm ▸ Nat.one_pos))) (View.readAt (Elt Bits) (tbTe).view (Rect.unit (s := S346) (k0_off3 i) S1.size (k0_off3_inb i)).toLoadRect T0 (Shape.Idx.first (numel1_S1.symm ▸ Nat.one_pos)))))) 0#32)

/-- One store of a whole buffer leaves the stored value. -/
theorem whole_store (b : Ref sig .tc) (f : b.ty.Contents (Elt Bits)) {off : Fin b.ty.shape.rank → ℕ}
    (inb : ∀ a, off a + b.ty.shape.size a ≤ b.ty.shape.size a) (w : b.ty.shape.Idx → Elt Bits b.ty.elt) :
    (Memref.whole b).view.writes (Elt Bits) f [⟨Rect.unit off b.ty.shape.size inb, w⟩] = w :=
  (View.read_whole b _).symm.trans (View.read_writes_full (Memref.whole b).view f inb w [])

/-- One store of a whole window is read back. -/
theorem win_store {sp : Space} {s : Shape} {e : EltTy} (v : View sig .tc sp s e) (f : v.ty.Contents (Elt Bits)) {off : Fin s.rank → ℕ}
    (inb : ∀ a, off a + s.size a ≤ s.size a) (w : s.Idx → Elt Bits e) :
    v.read (Elt Bits) (v.writes (Elt Bits) f [⟨Rect.unit off s.size inb, w⟩]) = w :=
  View.read_writes_full v f inb w []

/-- A load of a whole scratch buffer reads its contents. -/
theorem whole_load (b : Ref sig .tc) {off : Fin b.ty.shape.rank → ℕ}
    (inb : ∀ a, off a + b.ty.shape.size a ≤ b.ty.shape.size a) (f : b.ty.Contents (Elt Bits)) :
    (Memref.whole b).view.readAt (Elt Bits) (Rect.unit off b.ty.shape.size inb).toLoadRect f = f :=
  (View.readAt_full (Memref.whole b).view f inb).trans (View.read_whole b f)

/-- A load of a whole scratch buffer just stored whole reads the stored value. -/
theorem whole_load_store (b : Ref sig .tc) {off off' : Fin b.ty.shape.rank → ℕ}
    (inb : ∀ a, off a + b.ty.shape.size a ≤ b.ty.shape.size a) (inb' : ∀ a, off' a + b.ty.shape.size a ≤ b.ty.shape.size a)
    (w : b.ty.shape.Idx → Elt Bits b.ty.elt) :
    (Memref.whole b).view.readCov [⟨Rect.unit off' b.ty.shape.size inb', w⟩] (Rect.unit off b.ty.shape.size inb).toLoadRect = w :=
  View.readCov_full (Memref.whole b).view inb inb' w []

/-- Equal loads give equal results. -/
theorem pay_congr {a a' : Vec Bits S256x1024 .f32} {b b' : Vec Bits S1024x2048 .bf16} {d d' : Vec Bits S1x1x2048 .f32}
    {e e' : Vec Bits S1024x1024 .bf16} {g g' : Vec Bits S1x1x1024 .f32} (ha : a = a') (hb : b = b') (hd : d = d') (he : e = e') (hg : g = g') :
    k0_pay1 (k0_pay6 a b d) (k0_pay7 a b d) e g = k0_pay1 (k0_pay6 a' b' d') (k0_pay7 a' b' d') e' g' := by
  subst ha hb hd he hg; rfl

set_option backward.proofsInPublic true in
set_option maxHeartbeats 8000000 in
/-- A live tile of a new expert: both scratch buffers and the output are stored. -/
theorem runA (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S346.Idx → Elt Bits .i32)) (T1 : (S1.Idx → Elt Bits .i32))
    (x0 : (S256x1024.Idx → Elt Bits .f32)) (x1 : (S1x1024x2048.Idx → Elt Bits .f32)) (x2 : (S1x1x2048.Idx → Elt Bits .f32)) (x3 : (S1x1024x1024.Idx → Elt Bits .f32)) (x4 : (S1x1x1024.Idx → Elt Bits .f32))
    (k0_h1 : k0_cond1 i (rdNt T1) = 1#1) (hc1 : conv i T0 = 1#1)
    (xa0 : Buf (Elt Bits) ((c : Thread nD τ).loc cc0_scratch0)) (xa1 : Buf (Elt Bits) ((c : Thread nD τ).loc cc0_scratch1)) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbTe.view.loc (c : Thread nD τ) ↦{fullShare.right} T0)
          ∗ (tbNt.view.loc (c : Thread nD τ) ↦{fullShare.right} T1)
          ∗ (∃ d, owns (c : Thread nD τ) arg8 fullShare d)
          ∗ (scW1.view.loc (c : Thread nD τ) ↦{fullShare} xa0)
          ∗ (scW2.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbTe.view.loc (c : Thread nD τ) ↦{fullShare.right} T0)
              ∗ (tbNt.view.loc (c : Thread nD τ) ↦{fullShare.right} T1)
              ∗ owns (c : Thread nD τ) arg8 fullShare (k0_pay1 (k0_pay6 x0 (k0_pay2 x1) x2) (k0_pay7 x0 (k0_pay2 x1) x2) (k0_pay3 x3) x4)
              ∗ (scW1.view.loc (c : Thread nD τ) ↦{fullShare} k0_pay2 (F := Bits) x1)
              ∗ (scW2.view.loc (c : Thread nD τ) ↦{fullShare} k0_pay3 (F := Bits) x3)) -∗ K ⟨⟩))
          ⊢ wp frame (wpE (defs₀ (F := Bits)) Variants.none c none) Set.univ (cc0_moe_experts i tbTe (Memref.isWhole_whole _) tbNt (Memref.isWhole_whole _) arg3 harg3 arg4 harg4 arg5 harg5 arg6 harg6 arg7 harg7 arg8 harg8 scW1 (Memref.isWhole_whole _) scW2 (Memref.isWhole_whole _)) K := by
  unfold owns
  rw [cc0_moe_experts_eq_skeleton]; unfold cc0_moe_experts_skel
  iintro ⟨H0, H1, H2, H3, H4, HT0, HT1, ⟨%d5, %f5, -, HO5⟩, HS0, HS1, Hk⟩
  have hS0 : scW1.IsWhole := Memref.isWhole_whole _
  have hS1 : scW2.IsWhole := Memref.isWhole_whole _
  have hT0 : tbTe.IsWhole := Memref.isWhole_whole _
  have hT1 : tbNt.IsWhole := Memref.isWhole_whole _
  sl_exec! (disch := first | (guard_target = k0_cond1 _ _ = _; exact k0_h1) | (guard_target = Scalar.cmpi = _; exact hc1))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap; · iexact HO5
    ipureintro
    unfold runA.sl.HO5_1
    refine (win_store arg8.view _ _ _).trans ?_
    unfold runA.sl.r_3 runA.sl.r_4 runA.sl.v45 runA.sl.v17 runA.sl.HS0_1 runA.sl.HS1_1
    refine pay_congr (View.readAt_rep_full _ _ _) ?_ (View.readAt_rep_full _ _ _) ?_ (View.readAt_rep_full _ _ _)
    · rw [View.readAt_rep_full]; exact whole_load_store cc0_scratch0 _ _ _
    · rw [View.readAt_rep_full]; exact whole_load_store cc0_scratch1 _ _ _
  isplitl [HS0]
  · have e : scW1.view.writes (Elt Bits) scW1.view.junk (runA.sl.HS0_1 arg4 x1) = k0_pay2 (F := Bits) x1 := by
      unfold runA.sl.HS0_1
      rw [View.readAt_rep_full]
      exact whole_store cc0_scratch0 _ _ _
    rw [← e]; iexact HS0
  have e : scW2.view.writes (Elt Bits) scW2.view.junk (runA.sl.HS1_1 arg6 x3) = k0_pay3 (F := Bits) x3 := by
    unfold runA.sl.HS1_1
    rw [View.readAt_rep_full]
    exact whole_store cc0_scratch1 _ _ _
  rw [← e]; iexact HS1

set_option backward.proofsInPublic true in
set_option maxHeartbeats 8000000 in
/-- A live tile of the previous tile's expert: the output is stored, from the scratch buffers as they stand. -/
theorem runC (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S346.Idx → Elt Bits .i32)) (T1 : (S1.Idx → Elt Bits .i32))
    (x0 : (S256x1024.Idx → Elt Bits .f32)) (x1 : (S1x1024x2048.Idx → Elt Bits .f32)) (x2 : (S1x1x2048.Idx → Elt Bits .f32)) (x3 : (S1x1024x1024.Idx → Elt Bits .f32)) (x4 : (S1x1x1024.Idx → Elt Bits .f32))
    (k0_h1 : k0_cond1 i (rdNt T1) = 1#1) (hc1 : ¬ conv i T0 = 1#1)
    (xa0 : Buf (Elt Bits) ((c : Thread nD τ).loc cc0_scratch0)) (xa1 : Buf (Elt Bits) ((c : Thread nD τ).loc cc0_scratch1)) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbTe.view.loc (c : Thread nD τ) ↦{fullShare.right} T0)
          ∗ (tbNt.view.loc (c : Thread nD τ) ↦{fullShare.right} T1)
          ∗ (∃ d, owns (c : Thread nD τ) arg8 fullShare d)
          ∗ (scW1.view.loc (c : Thread nD τ) ↦{fullShare} xa0)
          ∗ (scW2.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbTe.view.loc (c : Thread nD τ) ↦{fullShare.right} T0)
              ∗ (tbNt.view.loc (c : Thread nD τ) ↦{fullShare.right} T1)
              ∗ owns (c : Thread nD τ) arg8 fullShare (k0_pay1 (k0_pay6 x0 xa0 x2) (k0_pay7 x0 xa0 x2) xa1 x4)
              ∗ (scW1.view.loc (c : Thread nD τ) ↦{fullShare} xa0)
              ∗ (scW2.view.loc (c : Thread nD τ) ↦{fullShare} xa1)) -∗ K ⟨⟩))
          ⊢ wp frame (wpE (defs₀ (F := Bits)) Variants.none c none) Set.univ (cc0_moe_experts i tbTe (Memref.isWhole_whole _) tbNt (Memref.isWhole_whole _) arg3 harg3 arg4 harg4 arg5 harg5 arg6 harg6 arg7 harg7 arg8 harg8 scW1 (Memref.isWhole_whole _) scW2 (Memref.isWhole_whole _)) K := by
  unfold owns
  rw [cc0_moe_experts_eq_skeleton]; unfold cc0_moe_experts_skel
  iintro ⟨H0, H1, H2, H3, H4, HT0, HT1, ⟨%d5, %f5, -, HO5⟩, HS0, HS1, Hk⟩
  have hS0 : scW1.IsWhole := Memref.isWhole_whole _
  have hS1 : scW2.IsWhole := Memref.isWhole_whole _
  have hT0 : tbTe.IsWhole := Memref.isWhole_whole _
  have hT1 : tbNt.IsWhole := Memref.isWhole_whole _
  sl_exec! (disch := first | (guard_target = k0_cond1 _ _ = _; exact k0_h1) | (guard_target = ¬(Scalar.cmpi _ _ _ = _); exact hc1))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap; · iexact HO5
    ipureintro
    unfold runC.sl.HO5_1
    refine (win_store arg8.view _ _ _).trans ?_
    unfold runC.sl.r_3 runC.sl.r_4
    exact pay_congr (View.readAt_rep_full _ _ _) (whole_load cc0_scratch0 _ _) (View.readAt_rep_full _ _ _) (whole_load cc0_scratch1 _ _)
      (View.readAt_rep_full _ _ _)
  isplitl [HS0]; · iexact HS0
  iexact HS1

set_option backward.proofsInPublic true in
set_option maxHeartbeats 8000000 in
/-- A tile that is not live: nothing is stored. -/
theorem runB (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S346.Idx → Elt Bits .i32)) (T1 : (S1.Idx → Elt Bits .i32))
    (x0 : (S256x1024.Idx → Elt Bits .f32)) (x1 : (S1x1024x2048.Idx → Elt Bits .f32)) (x2 : (S1x1x2048.Idx → Elt Bits .f32)) (x3 : (S1x1024x1024.Idx → Elt Bits .f32)) (x4 : (S1x1x1024.Idx → Elt Bits .f32))
    (k0_h1 : ¬ (k0_cond1 i (rdNt T1) = 1#1))
    (y5 : S256x1024.Idx → Elt Bits .f32) (xa0 : Buf (Elt Bits) ((c : Thread nD τ).loc cc0_scratch0)) (xa1 : Buf (Elt Bits) ((c : Thread nD τ).loc cc0_scratch1)) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbTe.view.loc (c : Thread nD τ) ↦{fullShare.right} T0)
          ∗ (tbNt.view.loc (c : Thread nD τ) ↦{fullShare.right} T1)
          ∗ owns (c : Thread nD τ) arg8 fullShare y5
          ∗ (scW1.view.loc (c : Thread nD τ) ↦{fullShare} xa0)
          ∗ (scW2.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbTe.view.loc (c : Thread nD τ) ↦{fullShare.right} T0)
              ∗ (tbNt.view.loc (c : Thread nD τ) ↦{fullShare.right} T1)
              ∗ owns (c : Thread nD τ) arg8 fullShare y5
              ∗ (scW1.view.loc (c : Thread nD τ) ↦{fullShare} xa0)
              ∗ (scW2.view.loc (c : Thread nD τ) ↦{fullShare} xa1)) -∗ K ⟨⟩))
          ⊢ wp frame (wpE (defs₀ (F := Bits)) Variants.none c none) Set.univ (cc0_moe_experts i tbTe (Memref.isWhole_whole _) tbNt (Memref.isWhole_whole _) arg3 harg3 arg4 harg4 arg5 harg5 arg6 harg6 arg7 harg7 arg8 harg8 scW1 (Memref.isWhole_whole _) scW2 (Memref.isWhole_whole _)) K := by
  unfold owns
  rw [cc0_moe_experts_eq_skeleton]; unfold cc0_moe_experts_skel
  iintro ⟨H0, H1, H2, H3, H4, HT0, HT1, ⟨%f5, %hf5, HO5⟩, HS0, HS1, Hk⟩
  obtain rfl := harg8.eq_unread hf5
  have hS0 : scW1.IsWhole := Memref.isWhole_whole _
  have hS1 : scW2.IsWhole := Memref.isWhole_whole _
  have hT0 : tbTe.IsWhole := Memref.isWhole_whole _
  have hT1 : tbNt.IsWhole := Memref.isWhole_whole _
  sl_exec! (disch := first | (guard_target = ¬(k0_cond1 _ _ = _); exact k0_h1))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; · ipureintro; exact harg8.read_unread _
    iexact HO5
  isplitl [HS0]; · iexact HS0
  iexact HS1

end Cert.Kernel.Experts

end
-- ==== Proof.Experts.BodyBits.lean ====
/- The experts' body at a grid point, over the proof data: a tile of a new expert, a live tile of the
   previous tile's expert, and a tile past the live ones. -/
module

public import proofs.«01_k».proof.Proof.Experts.DataBits
public import Idealize.ShloMosaic.Lib.Pipeline.Value

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (T : Tabs) (m : (ℓ : Loc nD τ sig) → Buf (Elt Bits) ℓ) (ρ : Dev nD → PrngReg)

/-- The body at a grid point on its staging buffers. -/
abbrev bodyAt0 (t : Fin (cfgA T).N) : Prog (TpuEff nD τ sig (Elt Bits) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (Memref.whole cc0_scratch0) (Memref.isWhole_whole _) (Memref.whole cc0_scratch1) (Memref.isWhole_whole _)

theorem xv_eq (c : Dev nD) (t : Fin (cfgA T).N) : (iblk T m ρ c (0 : Fin 6) t : S256x1024.Idx → Elt Bits .f32) = xv T m c t.val := iblk0 T m ρ c t
theorem exF_live (t : Fin (cfgA T).N) (h : t.val < T.live) : exF T (tl T t) = exF T (lst T t.val) := congrArg (exF T) (lst_live T (tl T t) h).symm
theorem b1v_eq (c : Dev nD) (t : Fin (cfgA T).N) (h : t.val < T.live) : (iblk T m ρ c (2 : Fin 6) t : S1x1x2048.Idx → Elt Bits .f32) = b1v T m c t.val :=
  (iblk2 T m ρ c t).trans (congrArg (expB (m ((c : Thread nD τ).loc main_arg4))) (exF_live T t h))
theorem b2v_eq (c : Dev nD) (t : Fin (cfgA T).N) (h : t.val < T.live) : (iblk T m ρ c (4 : Fin 6) t : S1x1x1024.Idx → Elt Bits .f32) = b2v T m c t.val :=
  (iblk4 T m ρ c t).trans (congrArg (expB (m ((c : Thread nD τ).loc main_arg6))) (exF_live T t h))
theorem w1v_new (c : Dev nD) (t : Fin (cfgA T).N) (h : t.val < T.live) : k0_pay2 (F := Bits) (iblk T m ρ c (1 : Fin 6) t) = w1v T m c t.val :=
  congrArg (k0_pay2 (F := Bits)) ((iblk1 T m ρ c t).trans (congrArg (expB (m ((c : Thread nD τ).loc main_arg3))) (exF_live T t h)))
theorem w2v_new (c : Dev nD) (t : Fin (cfgA T).N) (h : t.val < T.live) : k0_pay3 (F := Bits) (iblk T m ρ c (3 : Fin 6) t) = w2v T m c t.val :=
  congrArg (k0_pay3 (F := Bits)) ((iblk3 T m ρ c t).trans (congrArg (expB (m ((c : Thread nD τ).loc main_arg5))) (exF_live T t h)))
theorem w1v_old (c : Dev nD) (n : ℕ) (h : exF T (lst T (n - 1)) = exF T (lst T n)) : w1v T m c (n - 1) = w1v T m c n := by unfold w1v; rw [h]
theorem w2v_old (c : Dev nD) (n : ℕ) (h : exF T (lst T (n - 1)) = exF T (lst T n)) : w2v T m c (n - 1) = w2v T m c n := by unfold w2v; rw [h]

set_option maxHeartbeats 4000000 in
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 6) t d))
        ∗ (∃ d, owns (c : Thread nD τ) (ms0_1 T t) fullShare ((dats T m ρ 0 c).before (1 : Fin 6) t d))
        ∗ (∃ d, owns (c : Thread nD τ) (ms0_2 T t) fullShare ((dats T m ρ 0 c).before (2 : Fin 6) t d))
        ∗ (∃ d, owns (c : Thread nD τ) (ms0_3 T t) fullShare ((dats T m ρ 0 c).before (3 : Fin 6) t d))
        ∗ (∃ d, owns (c : Thread nD τ) (ms0_4 T t) fullShare ((dats T m ρ 0 c).before (4 : Fin 6) t d))
        ∗ (∃ d, owns (c : Thread nD τ) (ms0_5 T t) fullShare ((dats T m ρ 0 c).before (5 : Fin 6) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : t.val < T.live
  · have i5 : (cfgA T).idle (5 : Fin 6) ((cfgA T).grid.coords t) = false := (idle_out T t).trans (decide_eq_false (not_not_intro q0))
    have k0_h1 : k0_cond1 (crd T t) (rdNt (ntE T)) = 1#1 := (cond1_t T t).2 q0
    rewrite [i5]
    simp only [before0, before1, before2, before3, before4, after0, after1, after2, after3, after4, after5]
    rewrite [show (dats T m ρ 0 c).Φ t.succ = Phi T m c (t.val + 1) from rfl, show (dats T m ρ 0 c).Φ t.castSucc = Phi T m c t.val from rfl,
      show (dats T m ρ 0 c).owesAt () t.succ = (dats T m ρ 0 c).owesAt () t.castSucc from rfl]
    unfold Phi
    rw [Nat.add_sub_cancel]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
    by_cases hc1 : conv (crd T t) (teE T) = 1#1
    · iapply (runA c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (teE T) (ntE T) (iblk T m ρ c (0 : Fin 6) t) (iblk T m ρ c (1 : Fin 6) t) (iblk T m ρ c (2 : Fin 6) t) (iblk T m ρ c (3 : Fin 6) t) (iblk T m ρ c (4 : Fin 6) t) k0_h1 hc1 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact w1v_new T m ρ c t q0
        isplitl [HS1]
        · iexists _; isplitr; swap
          · iexact HS1
          · ipureintro; intro _; exact w2v_new T m ρ c t q0
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      rw [show outv T m c t.val = k0_pay1 (F := Bits) (k0_pay6 (F := Bits) (iblk T m ρ c (0 : Fin 6) t) (k0_pay2 (F := Bits) (iblk T m ρ c (1 : Fin 6) t)) (iblk T m ρ c (2 : Fin 6) t)) (k0_pay7 (F := Bits) (iblk T m ρ c (0 : Fin 6) t) (k0_pay2 (F := Bits) (iblk T m ρ c (1 : Fin 6) t)) (iblk T m ρ c (2 : Fin 6) t)) (k0_pay3 (F := Bits) (iblk T m ρ c (3 : Fin 6) t)) (iblk T m ρ c (4 : Fin 6) t) from
        (pay_congr (xv_eq T m ρ c t) (w1v_new T m ρ c t q0) (b1v_eq T m ρ c t q0) (w2v_new T m ρ c t q0) (b2v_eq T m ρ c t q0)).symm]
      iexact H5
    · obtain ⟨hn0, hex⟩ := same_ex T t hc1 q0
      iapply (runC c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (teE T) (ntE T) (iblk T m ρ c (0 : Fin 6) t) (iblk T m ρ c (1 : Fin 6) t) (iblk T m ρ c (2 : Fin 6) t) (iblk T m ρ c (3 : Fin 6) t) (iblk T m ρ c (4 : Fin 6) t) k0_h1 hc1 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact (ha0 hn0).trans (w1v_old T m c t.val hex)
        isplitl [HS1]
        · iexists _; isplitr; swap
          · iexact HS1
          · ipureintro; intro _; exact (ha1 hn0).trans (w2v_old T m c t.val hex)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      rw [show outv T m c t.val = k0_pay1 (F := Bits) (k0_pay6 (F := Bits) (iblk T m ρ c (0 : Fin 6) t) a0 (iblk T m ρ c (2 : Fin 6) t)) (k0_pay7 (F := Bits) (iblk T m ρ c (0 : Fin 6) t) a0 (iblk T m ρ c (2 : Fin 6) t)) a1 (iblk T m ρ c (4 : Fin 6) t) from
        (pay_congr (xv_eq T m ρ c t) ((ha0 hn0).trans (w1v_old T m c t.val hex)) (b1v_eq T m ρ c t q0) ((ha1 hn0).trans (w2v_old T m c t.val hex)) (b2v_eq T m ρ c t q0)).symm]
      iexact H5
  · have i5 : (cfgA T).idle (5 : Fin 6) ((cfgA T).grid.coords t) = true := (idle_out T t).trans (decide_eq_true q0)
    have k0_h1 : ¬ k0_cond1 (crd T t) (rdNt (ntE T)) = 1#1 := fun h => q0 ((cond1_t T t).1 h)
    have hn0 : t.val ≠ 0 := fun h => q0 (by rw [h]; exact T.live_pos)
    cases f5 : ((cfgA T).win (5 : Fin 6)).flush t
    · rewrite [i5]
      simp only [before0, before1, before2, before3, before4, after0, after1, after2, after3, after4, after5, before5_dead T m ρ c t q0, f5]
      rewrite [show (dats T m ρ 0 c).Φ t.succ = Phi T m c (t.val + 1) from rfl, show (dats T m ρ 0 c).Φ t.castSucc = Phi T m c t.val from rfl,
        show (dats T m ρ 0 c).owesAt () t.succ = (dats T m ρ 0 c).owesAt () t.castSucc from rfl]
      unfold Phi
      rw [Nat.add_sub_cancel]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      iapply (runB c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (teE T) (ntE T) (iblk T m ρ c (0 : Fin 6) t) (iblk T m ρ c (1 : Fin 6) t) (iblk T m ρ c (2 : Fin 6) t) (iblk T m ρ c (3 : Fin 6) t) (iblk T m ρ c (4 : Fin 6) t) k0_h1 (outv T m c t.val) a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact (ha0 hn0).trans (w1v_dead T m c t.val q0).symm
        isplitl [HS1]
        · iexists _; isplitr; swap
          · iexact HS1
          · ipureintro; intro _; exact (ha1 hn0).trans (w2v_dead T m c t.val q0).symm
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      iexists d5; iexact H5
    · rewrite [i5]
      simp only [before0, before1, before2, before3, before4, after0, after1, after2, after3, after4, after5, before5_dead T m ρ c t q0, f5]
      rewrite [show (dats T m ρ 0 c).Φ t.succ = Phi T m c (t.val + 1) from rfl, show (dats T m ρ 0 c).Φ t.castSucc = Phi T m c t.val from rfl,
        show (dats T m ρ 0 c).owesAt () t.succ = (dats T m ρ 0 c).owesAt () t.castSucc from rfl]
      unfold Phi
      rw [Nat.add_sub_cancel]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      iapply (runB c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (teE T) (ntE T) (iblk T m ρ c (0 : Fin 6) t) (iblk T m ρ c (1 : Fin 6) t) (iblk T m ρ c (2 : Fin 6) t) (iblk T m ρ c (3 : Fin 6) t) (iblk T m ρ c (4 : Fin 6) t) k0_h1 (outv T m c t.val) a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact (ha0 hn0).trans (w1v_dead T m c t.val q0).symm
        isplitl [HS1]
        · iexists _; isplitr; swap
          · iexact HS1
          · ipureintro; intro _; exact (ha1 hn0).trans (w2v_dead T m c t.val q0).symm
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      iexact H5

theorem body_obligation (c : Dev nD) : BodyObligation (dats T m ρ 0 c) (defs₀ (F := Bits)) Variants.none () Set.univ := fun t => by
  rw [bigSep_W0]
  exact sound_body T m ρ c t

end Cert.Kernel.Experts

end
-- ==== Proof.Experts.LaunchBits.lean ====
/- The launch of the experts' pipeline at the tables: the run, what every array ends at, and the frame. -/
module

public import proofs.«01_k».proof.Proof.Experts.BodyBits
public import proofs.«01_k».proof.Proof.Gen.Kernel.Launch
public import Idealize.ShloMosaic.Lib.Pipeline.Quiescent
public import Idealize.ShloMosaic.Lib.Pipeline.TableIdle
public import Idealize.ShloMosaic.Lib.Pipeline.Launch
public import Idealize.ShloMosaic.Lib.Claim

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (T : Tabs) (m : (ℓ : Loc nD τ sig) → Buf (Elt Bits) ℓ) (ρ : Dev nD → PrngReg)

abbrev EP : Emb (UR sig nD τ) 𝕄 := emb₁

/-- The launch memory holds the tables on every device. -/
def Holds : Prop := (∀ c : Dev nD, m ((c : Thread nD τ).loc main_arg0) = T.te) ∧ (∀ c : Dev nD, m ((c : Thread nD τ).loc main_arg1) = T.nt)

/-! ## The launch -/

/-- The rounds library's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m c (cfgA T).N from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are `T`'s: every weakly
    fair execution of @main on the TensorCores terminates, and every final state has each array at the computed contents,
    and every semaphore counter of the machine at zero. -/
theorem run_main_quiescent (hp : Holds T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds T m) : θ_run (defs (F := Bits)) (onTc (τ := τ) (main (F := Bits))) (s₀ m ρ) (QC T m ρ) :=
  (θ_run defs _ _).mono (fun _ h => h.1) (run_main_quiescent T m ρ hp)

/-- `frame` without the counters: the argument arrays end unchanged. -/
theorem unchanged (hp : Holds T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats T m ρ 0 c).arrAt_in (0 : Fin 6) rfl _), ((h c).1 (1 : Fin 6)).trans ((dats T m ρ 0 c).arrAt_in (1 : Fin 6) rfl _), ((h c).1 (2 : Fin 6)).trans ((dats T m ρ 0 c).arrAt_in (2 : Fin 6) rfl _), ((h c).1 (3 : Fin 6)).trans ((dats T m ρ 0 c).arrAt_in (3 : Fin 6) rfl _), ((h c).1 (4 : Fin 6)).trans ((dats T m ρ 0 c).arrAt_in (4 : Fin 6) rfl _)⟩) (run_main T m ρ hp)

/-- The frame at the tables: every execution terminates, the arguments end unchanged, every counter at zero. -/
theorem frame (hp : Holds T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged T m ρ hp) ((θ_run defs _ _).mono (fun _ h => h.2) (run_main_quiescent T m ρ hp))

end Cert.Kernel.Experts

end
-- ==== Proof.Experts.RangeBits.lean ====
/- The precondition read as bounds on the two tables: every tile's expert is below 32, and between 1 and
   346 tiles are live. -/
module

public import proofs.«01_k».proof.Proof.Experts.LaunchBits
public import proofs.«01_k».proof.Pre_tables_in_range
public import proofs.«01_k».proof.Proof.Gen.Pre_tables_in_range
public import Idealize.ShloMosaic.Lib.Pipeline.Value

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- A word at least `lo` and below `hi`, both small and signed, as a number. -/
theorem word_range (x lo : BitVec 32) (hl : lo.toNat < 2 ^ 31) (h1 : IntOp.cmpi .sge x lo = 1#1) : x.toNat < 2 ^ 31 ∧ lo.toNat ≤ x.toNat := by
  have e1 : lo.sle x = true := by
    cases e : lo.sle x
    · exact absurd h1 (by simp [IntOp.cmpi, e])
    · rfl
  rw [BitVec.sle_iff_toInt_le, BitVec.toInt_eq_toNat_cond, BitVec.toInt_eq_toNat_cond] at e1
  have := x.isLt
  split at e1 <;> split at e1 <;> omega

theorem word_lt (x hi : BitVec 32) (hx : x.toNat < 2 ^ 31) (hh : hi.toNat < 2 ^ 31) (h1 : IntOp.cmpi .slt x hi = 1#1) : x.toNat < hi.toNat := by
  have e1 : x.slt hi = true := by
    cases e : x.slt hi
    · exact absurd h1 (by simp [IntOp.cmpi, e])
    · rfl
  rw [BitVec.slt_iff_toInt_lt, BitVec.toInt_eq_toNat_cond, BitVec.toInt_eq_toNat_cond] at e1
  split at e1 <;> split at e1 <;> omega

theorem word_le (x hi : BitVec 32) (hx : x.toNat < 2 ^ 31) (hh : hi.toNat < 2 ^ 31) (h1 : IntOp.cmpi .sle x hi = 1#1) : x.toNat ≤ hi.toNat := by
  have e1 : x.sle hi = true := by
    cases e : x.sle hi
    · exact absurd h1 (by simp [IntOp.cmpi, e])
    · rfl
  rw [BitVec.sle_iff_toInt_le, BitVec.toInt_eq_toNat_cond, BitVec.toInt_eq_toNat_cond] at e1
  split at e1 <;> split at e1 <;> omega

theorem and_one : ∀ a b : BitVec 1, a &&& b = 1#1 → a = 1#1 ∧ b = 1#1 := by decide

/-- The tables of a memory that meets the precondition. -/
theorem tabs_of_pre (te : S346.Idx → BitVec 32) (nt : S1.Idx → BitVec 32) (x2 : FVec Bits S88576x1024 .f32) (x3 : FVec Bits S32x1024x2048 .f32)
    (x4 : FVec Bits S32x1x2048 .f32) (x5 : FVec Bits S32x1024x1024 .f32) (x6 : FVec Bits S32x1x1024 .f32)
    (h1 : (Cert.Pre_tables_in_range.fn (F := Bits) te nt x2 x3 x4 x5 x6).1 = fun _ => 1#1)
    (h2 : (Cert.Pre_tables_in_range.fn (F := Bits) te nt x2 x3 x4 x5 x6).2 = fun _ => 1#1) : ∃ T : Tabs, T.te = te ∧ T.nt = nt := by
  refine ⟨⟨te, nt, fun n => ?_, ?_, ?_⟩, rfl, rfl⟩
  · have e : IntOp.cmpi .sge (te (tix n)) 0#32 &&& IntOp.cmpi .slt (te (tix n)) 32#32 = 1#1 := congrFun h1 (tix n)
    obtain ⟨a, b⟩ := and_one _ _ e
    exact word_lt _ 32#32 (word_range _ 0#32 (by decide) a).1 (by decide) b
  · have e : IntOp.cmpi .sge (nt nix) 1#32 &&& IntOp.cmpi .sle (nt nix) 346#32 = 1#1 := congrFun h2 nix
    exact (word_range _ 1#32 (by decide) (and_one _ _ e).1).2
  · have e : IntOp.cmpi .sge (nt nix) 1#32 &&& IntOp.cmpi .sle (nt nix) 346#32 = 1#1 := congrFun h2 nix
    obtain ⟨a, b⟩ := and_one _ _ e
    exact word_le _ 346#32 (word_range _ 1#32 (by decide) a).1 (by decide) b

end Cert.Kernel.Experts

end
-- ==== Proof.Experts.QuietBits.lean ====
/- The frame under the printed precondition. -/
module

public import proofs.«01_k».proof.Proof.Experts.RangeBits
public import proofs.«01_k».proof.Defs

@[expose] public section

noncomputable section

namespace Cert.Kernel.Experts

open Cert.Kernel Cert.Kernel.Gen
open Idealize.ShloMosaic Idealize.SL.Sem

/-- The tables that the one device's memory holds. -/
theorem holds_of_pre (m : (ℓ : Loc nD τ sig) → Buf (Elt Bits) ℓ) (hp : Cert.Pre_Kernel m) : ∃ T : Tabs, Holds T m := by
  obtain ⟨T, h0, h1⟩ := tabs_of_pre _ _ _ _ _ _ _ (hp 0).1 (hp 0).2
  refine ⟨T, fun c => ?_, fun c => ?_⟩
  · rw [Subsingleton.elim c 0]; exact h0.symm
  · rw [Subsingleton.elim c 0]; exact h1.symm

theorem quiescent : Cert.quiescent_Kernel := fun m g hp => by
  obtain ⟨T, hT⟩ := holds_of_pre m hp
  exact frame T m g hT

end Cert.Kernel.Experts

end
-- ==== Proof.Experts.TablesIdeal.lean ====
/- The experts' tile tables at any contents in range: what the region's index maps and the body's
   scalar loads read of them, and the side condition on the tables' contents. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Tactic
public import Idealize.ShloMosaic.Lib.Affine
public import Idealize.ShloMosaic.PureOps.Ideal
public import Idealize.ShloMosaic.Init

@[expose] public section

noncomputable section

namespace Cert.KernelIdeal.Experts

open Cert.KernelIdeal Cert.KernelIdeal.Gen
open Idealize.ShloMosaic
open Idealize.ShloMosaic.TcCoe Idealize.ShloMosaic.Tactic
open Idealize.SL Idealize.SL.Sem

/-- Entry `n` of the tile table. -/
abbrev tix (n : Fin 346) : S346.Idx := fun a => match a with | ⟨0, _⟩ => n
/-- The one entry of the count. -/
abbrev nix : S1.Idx := fun a => match a with | ⟨0, _⟩ => (0 : Fin 1)

/-- The two tables: the expert of every tile, and the number of live tiles. -/
structure Tabs where
  /-- The expert of each tile. -/
  te : S346.Idx → BitVec 32
  /-- The number of live tiles. -/
  nt : S1.Idx → BitVec 32
  te_lt : ∀ n, (te (tix n)).toNat < 32
  nt_pos : 1 ≤ (nt nix).toNat
  nt_le : (nt nix).toNat ≤ 346

variable (T : Tabs)

/-- How many tiles are live. -/
def Tabs.live : ℕ := (T.nt nix).toNat
theorem Tabs.live_pos : 1 ≤ T.live := T.nt_pos
theorem Tabs.live_le : T.live ≤ 346 := T.nt_le
/-- The expert of tile `n`. -/
def Tabs.ex (n : Fin 346) : ℕ := (T.te (tix n)).toNat
theorem Tabs.ex_lt (n : Fin 346) : T.ex n < 32 := T.te_lt n

/-- The tables as the region's contents. -/
def Tabs.pf : pre0.Contents (Elt Ideal) := fun | ⟨0, _⟩ => T.te | ⟨1, _⟩ => T.nt | ⟨_ + 2, h⟩ => absurd h (by simp)

/-- A small word, read as an integer. -/
theorem isInt_small {x : BitVec 32} (h : x.toNat < 2 ^ 31) : Affine.IsInt x (x.toNat : ℤ) := by
  have e : x.toInt = (x.toNat : ℤ) := by rw [BitVec.toInt_eq_toNat_cond]; split <;> omega
  exact e ▸ Affine.word x

theorem toNat_of_isInt {x : BitVec 32} {n : ℕ} (h : Affine.IsInt x (n : ℤ)) : x.toNat = n := by
  exact congrFun (Affine.vec_cons (f := ![]) (g := ![]) h (y := n) rfl rfl) 0

theorem isInt_nt : Affine.IsInt (T.nt nix) (T.live : ℤ) := isInt_small (by have := T.nt_le; omega)

/-- The body's guard: the tile is below the number of live tiles. -/
theorem cond1_iff (i : grid0.Coords) : k0_cond1 i (T.nt nix) = 1#1 ↔ (i 0).val < T.live := by
  have hi : (i 0).val < 346 := (i 0).isLt
  have h0 : Affine.IsInt (BitVec.ofNat 32 (i 0).val) (((i 0).val : Int)) := Affine.ofNat _ (by omega)
  have hz : Affine.IsInt 0#32 (0) := Affine.ofNat _ (by omega)
  unfold k0_cond1
  by_cases h : (i 0).val < T.live
  · exact ⟨fun _ => h, fun _ => Affine.ne_holds (Affine.extui_holds (Affine.slt_holds h0 (isInt_nt T) (by omega)) rfl) hz (by omega)⟩
  · refine ⟨fun hh => absurd hh ?_, fun hh => absurd hh h⟩
    exact Affine.ne_fails (Affine.extui_fails (Affine.slt_fails h0 (isInt_nt T) (by omega)) rfl) hz (by omega)

theorem idx1_eq (x : S1.Idx) : x = nix := by
  funext a; have : a = 0 := Subsingleton.elim _ _; subst this
  exact Subsingleton.elim (α := Fin 1) _ _

theorem idx346_eq (x : S346.Idx) (n : Fin 346) (h : (x 0).val = n.val) : x = tix n := by
  funext a; have : a = 0 := Subsingleton.elim _ _; subst this
  exact Fin.ext h

/-- The region's read of the count. -/
theorem at_nt : T.pf.at 1 (Rect.unit (s := S1) ![0] S1.size inb_S1_S1_0) numel1_S1 = T.nt nix := by
  exact congrArg T.nt (idx1_eq _)

theorem atD_nt : T.pf.atD 1 ![0] = T.nt nix := by
  unfold Pipeline.Prefetch.Contents.atD
  rw [dif_pos (by decide)]
  exact congrArg T.nt (idx1_eq _)

/-- The region's read of a tile's expert. -/
theorem at_te (i : grid0.Coords) :
    T.pf.at 0 (Rect.unit (s := S346) (k0_off1 i) S1.size (k0_off1_inb i)) numel1_S1 = T.te (tix (i 0)) := by
  refine congrArg T.te (idx346_eq _ _ ?_)
  have e : k0_off1 i 0 = (i 0).val := congrFun (k0_off1_eq i) 0
  show k0_off1 i 0 + 1 * _ = (i 0).val
  exact e

/-- Rows go in blocks of tiles, the tiles past the last live one standing at it. -/
theorem tr0 (i : grid0.Coords) :
    cc0_transform_0 inb_S1_S1_0 numel1_S1 T.pf i = ![min (i 0).val (T.live - 1), 0] := by
  have hi : (i 0).val < 346 := (i 0).isLt
  have hl := T.live_pos
  have h0 : Affine.IsInt (BitVec.ofNat 32 (i 0).val) (((i 0).val : Int)) := Affine.ofNat _ (by omega)
  have h1 : Affine.IsInt 1#32 (1) := Affine.ofNat _ (by omega)
  have hs := Affine.subi (e := (T.live : ℤ) - 1) (isInt_nt T) h1 (by have := T.live_le; omega)
  have hm := Affine.minsi (e := min ((i 0).val : ℤ) ((T.live : ℤ) - 1)) h0 hs rfl
  unfold cc0_transform_0
  rw [at_nt]
  exact Affine.vec_cons hm (y := min (i 0).val (T.live - 1)) (by omega) (Affine.vec_cons (Affine.ofNat (e := 0) 0 (by omega)) (y := 0) (by omega) Affine.vec_nil)

theorem tr5 (i : grid0.Coords) :
    cc0_transform_5 inb_S1_S1_0 numel1_S1 T.pf i = ![min (i 0).val (T.live - 1), 0] := tr0 T i

/-- Weights go in blocks of experts. -/
theorem tr1 (i : grid0.Coords) :
    cc0_transform_1 k0_off1_inb numel1_S1 T.pf i = ![T.ex (i 0), 0, 0] := by
  exact congrArg (fun v : BitVec 32 => ![v.toNat, 0, 0]) (at_te T i)
theorem tr2 (i : grid0.Coords) :
    cc0_transform_2 k0_off1_inb numel1_S1 T.pf i = ![T.ex (i 0), 0, 0] := tr1 T i
theorem tr3 (i : grid0.Coords) :
    cc0_transform_3 k0_off1_inb numel1_S1 T.pf i = ![T.ex (i 0), 0, 0] := tr1 T i
theorem tr4 (i : grid0.Coords) :
    cc0_transform_4 k0_off1_inb numel1_S1 T.pf i = ![T.ex (i 0), 0, 0] := tr1 T i

theorem okcons {m : ℕ} {x lo hi : ℕ} {f g h : Fin m → ℕ} (h0 : (x + 1) * lo ≤ hi) (hr : ∀ a, (f a + 1) * g a ≤ h a) :
    ∀ a, (Matrix.vecCons x f a + 1) * Matrix.vecCons lo g a ≤ Matrix.vecCons hi h a :=
  fun a => Fin.cases h0 hr a

/-- Every block the region moves lies inside its array. -/
theorem ok : ok0 T.pf := by
  have hl := T.live_pos; have hl' := T.live_le
  refine ⟨fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩⟩
  · rw [tr0]; exact okcons (by have := (i 0).isLt; omega) (okcons (by omega) fun a => a.elim0)
  · rw [tr1]; exact okcons (by have := T.ex_lt (i 0); omega) (okcons (by omega) (okcons (by omega) fun a => a.elim0))
  · rw [tr2]; exact okcons (by have := T.ex_lt (i 0); omega) (okcons (by omega) (okcons (by omega) fun a => a.elim0))
  · rw [tr3]; exact okcons (by have := T.ex_lt (i 0); omega) (okcons (by omega) (okcons (by omega) fun a => a.elim0))
  · rw [tr4]; exact okcons (by have := T.ex_lt (i 0); omega) (okcons (by omega) (okcons (by omega) fun a => a.elim0))
  · rw [tr5]; exact okcons (by have := (i 0).isLt; omega) (okcons (by omega) fun a => a.elim0)

/-- The tables the region reads, with its condition on them. -/
def adm : (pcfg0 (F := Ideal)).Adm := ⟨T.pf, ok T⟩

/-- The output is stored exactly at the live tiles. -/
theorem idle5 (i : grid0.Coords) : idle0 T.pf 5 i = decide (¬ (i 0).val < T.live) := by
  show (!(k0_cond1 i (T.pf.atD 1 ![0]) == 1#1)) = _
  rw [atD_nt]
  by_cases h : (i 0).val < T.live
  · rw [(cond1_iff T i).mpr h]; simp [h]
  · have := mt (cond1_iff T i).mp h
    simp [h, this]

/-- The body's test of whether to convert the weights again: at the first tile, and where the expert differs
    from the previous tile's. -/
theorem cond2_iff (i : grid0.Coords) (a b : BitVec 32) :
    Scalar.cmpi .ne (Scalar.extui (Scalar.ori (Scalar.cmpi .eq (BitVec.ofNat 32 (i 0).val) 0#32) (Scalar.cmpi .ne a b))) 0#32 = 1#1
      ↔ ((i 0).val = 0 ∨ a ≠ b) := by
  have hi : (i 0).val < 346 := (i 0).isLt
  have h0 : Affine.IsInt (BitVec.ofNat 32 (i 0).val) (((i 0).val : Int)) := Affine.ofNat _ (by omega)
  have hz : Affine.IsInt 0#32 (0) := Affine.ofNat _ (by omega)
  have key : ∀ c : BitVec 1, Scalar.cmpi .ne (Scalar.extui c) 0#32 = 1#1 ↔ c = 1#1 := by decide
  rw [key]
  have or1 : ∀ c d : BitVec 1, Scalar.ori c d = 1#1 ↔ (c = 1#1 ∨ d = 1#1) := by decide
  rw [or1]
  refine or_congr ⟨fun h => ?_, fun h => Affine.eq_holds h0 hz (by omega)⟩ ?_
  · by_contra hn; exact Affine.eq_fails h0 hz (by omega) h
  · show BitVec.ofBool (a != b) = 1#1 ↔ _
    by_cases h : a = b
    · simp [h]
    · have e : (a != b) = true := by simpa using h
      rw [e]; simp [h]

end Cert.KernelIdeal.Experts

end
-- ==== Proof.Experts.RunsIdeal.lean ====
/- The experts' body at one tile, on whole staging buffers: what it stores where it converts the
   expert's weights first, where it finds them converted, and where the tile is not live. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Experts.TablesIdeal
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The tables and the two scratch buffers, whole. -/
abbrev tbTe : Memref sig .tc .smem S346 .i32 := Memref.whole main_arg0
abbrev tbNt : Memref sig .tc .smem S1 .i32 := Memref.whole main_arg1
abbrev scW1 : Memref sig .tc .vmem S1024x2048 .bf16 := Memref.whole cc0_scratch0
abbrev scW2 : Memref sig .tc .vmem S1024x1024 .bf16 := Memref.whole cc0_scratch1

/-- The body's read of the count. -/
abbrev rdNt (T1 : S1.Idx → Elt Ideal .i32) : BitVec 32 :=
  View.readAt (Elt Ideal) (tbNt).view (Rect.unit (s := S1) ![0] S1.size inb_S1_S1_0).toLoadRect T1 (Shape.Idx.first (numel1_S1.symm ▸ Nat.one_pos))
/-- The body's test of whether to convert the weights. -/
abbrev conv (i : grid0.Coords) (T0 : S346.Idx → Elt Ideal .i32) : BitVec 1 :=
  (Scalar.cmpi .ne (Scalar.extui (Scalar.ori (Scalar.cmpi .eq (BitVec.ofNat 32 (i 0).val) 0#32) (Scalar.cmpi .ne (View.readAt (Elt Ideal) (tbTe).view (Rect.unit (s := S346) (k0_off2 i) S1.size (k0_off2_inb i)).toLoadRect T0 (Shape.Idx.first (numel1_S1.symm ▸ Nat.one_pos))) (View.readAt (Elt Ideal) (tbTe).view (Rect.unit (s := S346) (k0_off3 i) S1.size (k0_off3_inb i)).toLoadRect T0 (Shape.Idx.first (numel1_S1.symm ▸ Nat.one_pos)))))) 0#32)

/-- One store of a whole buffer leaves the stored value. -/
theorem whole_store (b : Ref sig .tc) (f : b.ty.Contents (Elt Ideal)) {off : Fin b.ty.shape.rank → ℕ}
    (inb : ∀ a, off a + b.ty.shape.size a ≤ b.ty.shape.size a) (w : b.ty.shape.Idx → Elt Ideal b.ty.elt) :
    (Memref.whole b).view.writes (Elt Ideal) f [⟨Rect.unit off b.ty.shape.size inb, w⟩] = w :=
  (View.read_whole b _).symm.trans (View.read_writes_full (Memref.whole b).view f inb w [])

/-- One store of a whole window is read back. -/
theorem win_store {sp : Space} {s : Shape} {e : EltTy} (v : View sig .tc sp s e) (f : v.ty.Contents (Elt Ideal)) {off : Fin s.rank → ℕ}
    (inb : ∀ a, off a + s.size a ≤ s.size a) (w : s.Idx → Elt Ideal e) :
    v.read (Elt Ideal) (v.writes (Elt Ideal) f [⟨Rect.unit off s.size inb, w⟩]) = w :=
  View.read_writes_full v f inb w []

/-- A load of a whole scratch buffer reads its contents. -/
theorem whole_load (b : Ref sig .tc) {off : Fin b.ty.shape.rank → ℕ}
    (inb : ∀ a, off a + b.ty.shape.size a ≤ b.ty.shape.size a) (f : b.ty.Contents (Elt Ideal)) :
    (Memref.whole b).view.readAt (Elt Ideal) (Rect.unit off b.ty.shape.size inb).toLoadRect f = f :=
  (View.readAt_full (Memref.whole b).view f inb).trans (View.read_whole b f)

/-- A load of a whole scratch buffer just stored whole reads the stored value. -/
theorem whole_load_store (b : Ref sig .tc) {off off' : Fin b.ty.shape.rank → ℕ}
    (inb : ∀ a, off a + b.ty.shape.size a ≤ b.ty.shape.size a) (inb' : ∀ a, off' a + b.ty.shape.size a ≤ b.ty.shape.size a)
    (w : b.ty.shape.Idx → Elt Ideal b.ty.elt) :
    (Memref.whole b).view.readCov [⟨Rect.unit off' b.ty.shape.size inb', w⟩] (Rect.unit off b.ty.shape.size inb).toLoadRect = w :=
  View.readCov_full (Memref.whole b).view inb inb' w []

/-- Equal loads give equal results. -/
theorem pay_congr {a a' : Vec Ideal S256x1024 .f32} {b b' : Vec Ideal S1024x2048 .bf16} {d d' : Vec Ideal S1x1x2048 .f32}
    {e e' : Vec Ideal S1024x1024 .bf16} {g g' : Vec Ideal S1x1x1024 .f32} (ha : a = a') (hb : b = b') (hd : d = d') (he : e = e') (hg : g = g') :
    k0_pay1 (k0_pay6 a b d) (k0_pay7 a b d) e g = k0_pay1 (k0_pay6 a' b' d') (k0_pay7 a' b' d') e' g' := by
  subst ha hb hd he hg; rfl

set_option backward.proofsInPublic true in
set_option maxHeartbeats 8000000 in
/-- A live tile of a new expert: both scratch buffers and the output are stored. -/
theorem runA (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S346.Idx → Elt Ideal .i32)) (T1 : (S1.Idx → Elt Ideal .i32))
    (x0 : (S256x1024.Idx → Elt Ideal .f32)) (x1 : (S1x1024x2048.Idx → Elt Ideal .f32)) (x2 : (S1x1x2048.Idx → Elt Ideal .f32)) (x3 : (S1x1024x1024.Idx → Elt Ideal .f32)) (x4 : (S1x1x1024.Idx → Elt Ideal .f32))
    (k0_h1 : k0_cond1 i (rdNt T1) = 1#1) (hc1 : conv i T0 = 1#1)
    (xa0 : Buf (Elt Ideal) ((c : Thread nD τ).loc cc0_scratch0)) (xa1 : Buf (Elt Ideal) ((c : Thread nD τ).loc cc0_scratch1)) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbTe.view.loc (c : Thread nD τ) ↦{fullShare.right} T0)
          ∗ (tbNt.view.loc (c : Thread nD τ) ↦{fullShare.right} T1)
          ∗ (∃ d, owns (c : Thread nD τ) arg8 fullShare d)
          ∗ (scW1.view.loc (c : Thread nD τ) ↦{fullShare} xa0)
          ∗ (scW2.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbTe.view.loc (c : Thread nD τ) ↦{fullShare.right} T0)
              ∗ (tbNt.view.loc (c : Thread nD τ) ↦{fullShare.right} T1)
              ∗ owns (c : Thread nD τ) arg8 fullShare (k0_pay1 (k0_pay6 x0 (k0_pay2 x1) x2) (k0_pay7 x0 (k0_pay2 x1) x2) (k0_pay3 x3) x4)
              ∗ (scW1.view.loc (c : Thread nD τ) ↦{fullShare} k0_pay2 (F := Ideal) x1)
              ∗ (scW2.view.loc (c : Thread nD τ) ↦{fullShare} k0_pay3 (F := Ideal) x3)) -∗ K ⟨⟩))
          ⊢ wp frame (wpE (defs₀ (F := Ideal)) Variants.none c none) Set.univ (cc0_moe_experts i tbTe (Memref.isWhole_whole _) tbNt (Memref.isWhole_whole _) arg3 harg3 arg4 harg4 arg5 harg5 arg6 harg6 arg7 harg7 arg8 harg8 scW1 (Memref.isWhole_whole _) scW2 (Memref.isWhole_whole _)) K := by
  unfold owns
  rw [cc0_moe_experts_eq_skeleton]; unfold cc0_moe_experts_skel
  iintro ⟨H0, H1, H2, H3, H4, HT0, HT1, ⟨%d5, %f5, -, HO5⟩, HS0, HS1, Hk⟩
  have hS0 : scW1.IsWhole := Memref.isWhole_whole _
  have hS1 : scW2.IsWhole := Memref.isWhole_whole _
  have hT0 : tbTe.IsWhole := Memref.isWhole_whole _
  have hT1 : tbNt.IsWhole := Memref.isWhole_whole _
  sl_exec! (disch := first | (guard_target = k0_cond1 _ _ = _; exact k0_h1) | (guard_target = Scalar.cmpi = _; exact hc1))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap; · iexact HO5
    ipureintro
    unfold runA.sl.HO5_1
    refine (win_store arg8.view _ _ _).trans ?_
    unfold runA.sl.r_3 runA.sl.r_4 runA.sl.v45 runA.sl.v17 runA.sl.HS0_1 runA.sl.HS1_1
    refine pay_congr (View.readAt_rep_full _ _ _) ?_ (View.readAt_rep_full _ _ _) ?_ (View.readAt_rep_full _ _ _)
    · rw [View.readAt_rep_full]; exact whole_load_store cc0_scratch0 _ _ _
    · rw [View.readAt_rep_full]; exact whole_load_store cc0_scratch1 _ _ _
  isplitl [HS0]
  · have e : scW1.view.writes (Elt Ideal) scW1.view.junk (runA.sl.HS0_1 arg4 x1) = k0_pay2 (F := Ideal) x1 := by
      unfold runA.sl.HS0_1
      rw [View.readAt_rep_full]
      exact whole_store cc0_scratch0 _ _ _
    rw [← e]; iexact HS0
  have e : scW2.view.writes (Elt Ideal) scW2.view.junk (runA.sl.HS1_1 arg6 x3) = k0_pay3 (F := Ideal) x3 := by
    unfold runA.sl.HS1_1
    rw [View.readAt_rep_full]
    exact whole_store cc0_scratch1 _ _ _
  rw [← e]; iexact HS1

set_option backward.proofsInPublic true in
set_option maxHeartbeats 8000000 in
/-- A live tile of the previous tile's expert: the output is stored, from the scratch buffers as they stand. -/
theorem runC (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S346.Idx → Elt Ideal .i32)) (T1 : (S1.Idx → Elt Ideal .i32))
    (x0 : (S256x1024.Idx → Elt Ideal .f32)) (x1 : (S1x1024x2048.Idx → Elt Ideal .f32)) (x2 : (S1x1x2048.Idx → Elt Ideal .f32)) (x3 : (S1x1024x1024.Idx → Elt Ideal .f32)) (x4 : (S1x1x1024.Idx → Elt Ideal .f32))
    (k0_h1 : k0_cond1 i (rdNt T1) = 1#1) (hc1 : ¬ conv i T0 = 1#1)
    (xa0 : Buf (Elt Ideal) ((c : Thread nD τ).loc cc0_scratch0)) (xa1 : Buf (Elt Ideal) ((c : Thread nD τ).loc cc0_scratch1)) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbTe.view.loc (c : Thread nD τ) ↦{fullShare.right} T0)
          ∗ (tbNt.view.loc (c : Thread nD τ) ↦{fullShare.right} T1)
          ∗ (∃ d, owns (c : Thread nD τ) arg8 fullShare d)
          ∗ (scW1.view.loc (c : Thread nD τ) ↦{fullShare} xa0)
          ∗ (scW2.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbTe.view.loc (c : Thread nD τ) ↦{fullShare.right} T0)
              ∗ (tbNt.view.loc (c : Thread nD τ) ↦{fullShare.right} T1)
              ∗ owns (c : Thread nD τ) arg8 fullShare (k0_pay1 (k0_pay6 x0 xa0 x2) (k0_pay7 x0 xa0 x2) xa1 x4)
              ∗ (scW1.view.loc (c : Thread nD τ) ↦{fullShare} xa0)
              ∗ (scW2.view.loc (c : Thread nD τ) ↦{fullShare} xa1)) -∗ K ⟨⟩))
          ⊢ wp frame (wpE (defs₀ (F := Ideal)) Variants.none c none) Set.univ (cc0_moe_experts i tbTe (Memref.isWhole_whole _) tbNt (Memref.isWhole_whole _) arg3 harg3 arg4 harg4 arg5 harg5 arg6 harg6 arg7 harg7 arg8 harg8 scW1 (Memref.isWhole_whole _) scW2 (Memref.isWhole_whole _)) K := by
  unfold owns
  rw [cc0_moe_experts_eq_skeleton]; unfold cc0_moe_experts_skel
  iintro ⟨H0, H1, H2, H3, H4, HT0, HT1, ⟨%d5, %f5, -, HO5⟩, HS0, HS1, Hk⟩
  have hS0 : scW1.IsWhole := Memref.isWhole_whole _
  have hS1 : scW2.IsWhole := Memref.isWhole_whole _
  have hT0 : tbTe.IsWhole := Memref.isWhole_whole _
  have hT1 : tbNt.IsWhole := Memref.isWhole_whole _
  sl_exec! (disch := first | (guard_target = k0_cond1 _ _ = _; exact k0_h1) | (guard_target = ¬(Scalar.cmpi _ _ _ = _); exact hc1))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap; · iexact HO5
    ipureintro
    unfold runC.sl.HO5_1
    refine (win_store arg8.view _ _ _).trans ?_
    unfold runC.sl.r_3 runC.sl.r_4
    exact pay_congr (View.readAt_rep_full _ _ _) (whole_load cc0_scratch0 _ _) (View.readAt_rep_full _ _ _) (whole_load cc0_scratch1 _ _)
      (View.readAt_rep_full _ _ _)
  isplitl [HS0]; · iexact HS0
  iexact HS1

set_option backward.proofsInPublic true in
set_option maxHeartbeats 8000000 in
/-- A tile that is not live: nothing is stored. -/
theorem runB (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S346.Idx → Elt Ideal .i32)) (T1 : (S1.Idx → Elt Ideal .i32))
    (x0 : (S256x1024.Idx → Elt Ideal .f32)) (x1 : (S1x1024x2048.Idx → Elt Ideal .f32)) (x2 : (S1x1x2048.Idx → Elt Ideal .f32)) (x3 : (S1x1024x1024.Idx → Elt Ideal .f32)) (x4 : (S1x1x1024.Idx → Elt Ideal .f32))
    (k0_h1 : ¬ (k0_cond1 i (rdNt T1) = 1#1))
    (y5 : S256x1024.Idx → Elt Ideal .f32) (xa0 : Buf (Elt Ideal) ((c : Thread nD τ).loc cc0_scratch0)) (xa1 : Buf (Elt Ideal) ((c : Thread nD τ).loc cc0_scratch1)) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbTe.view.loc (c : Thread nD τ) ↦{fullShare.right} T0)
          ∗ (tbNt.view.loc (c : Thread nD τ) ↦{fullShare.right} T1)
          ∗ owns (c : Thread nD τ) arg8 fullShare y5
          ∗ (scW1.view.loc (c : Thread nD τ) ↦{fullShare} xa0)
          ∗ (scW2.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbTe.view.loc (c : Thread nD τ) ↦{fullShare.right} T0)
              ∗ (tbNt.view.loc (c : Thread nD τ) ↦{fullShare.right} T1)
              ∗ owns (c : Thread nD τ) arg8 fullShare y5
              ∗ (scW1.view.loc (c : Thread nD τ) ↦{fullShare} xa0)
              ∗ (scW2.view.loc (c : Thread nD τ) ↦{fullShare} xa1)) -∗ K ⟨⟩))
          ⊢ wp frame (wpE (defs₀ (F := Ideal)) Variants.none c none) Set.univ (cc0_moe_experts i tbTe (Memref.isWhole_whole _) tbNt (Memref.isWhole_whole _) arg3 harg3 arg4 harg4 arg5 harg5 arg6 harg6 arg7 harg7 arg8 harg8 scW1 (Memref.isWhole_whole _) scW2 (Memref.isWhole_whole _)) K := by
  unfold owns
  rw [cc0_moe_experts_eq_skeleton]; unfold cc0_moe_experts_skel
  iintro ⟨H0, H1, H2, H3, H4, HT0, HT1, ⟨%f5, %hf5, HO5⟩, HS0, HS1, Hk⟩
  obtain rfl := harg8.eq_unread hf5
  have hS0 : scW1.IsWhole := Memref.isWhole_whole _
  have hS1 : scW2.IsWhole := Memref.isWhole_whole _
  have hT0 : tbTe.IsWhole := Memref.isWhole_whole _
  have hT1 : tbNt.IsWhole := Memref.isWhole_whole _
  sl_exec! (disch := first | (guard_target = ¬(k0_cond1 _ _ = _); exact k0_h1))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; · ipureintro; exact harg8.read_unread _
    iexact HO5
  isplitl [HS0]; · iexact HS0
  iexact HS1

end Cert.KernelIdeal.Experts

end
-- ==== Proof.Experts.DataIdeal.lean ====
/- The experts' pipeline at the tables: which expert's block each window holds at a tile, what the
   body leaves in the output and in the scratch buffers after each tile, and the proof data. -/
module

public import proofs.«01_k».proof.Proof.Experts.RunsIdeal
public import Idealize.ShloMosaic.Lib.Pipeline.Value

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tabs)

/-- The pipeline at the tables. -/
abbrev cfgA : Pipeline.Cfg sig Λ₀ := cfg0 (F := Ideal) (adm T)
abbrev pcs : Fin 1 → Pipeline.Cfg sig Λ₀ := Pipeline.pin (pcfgs (F := Ideal)) fun _ => adm T

theorem N_A : (cfgA T).N = 346 := N_0

/-- The tile of a grid point. -/
abbrev crd (t : Fin (cfgA T).N) : (cfgA T).grid.Coords := (cfgA T).grid.coords t

theorem crd_val0 : ∀ t : Fin grid0.N, (grid0.coords t 0).val = t.val := by decide +kernel
theorem crd_val (t : Fin (cfgA T).N) : (crd T t 0).val = t.val := crd_val0 t

/-- A grid point as a tile number. -/
def tl (t : Fin (cfgA T).N) : Fin 346 := ⟨t.val, (N_A T) ▸ t.isLt⟩
theorem crd_eq (t : Fin (cfgA T).N) : crd T t 0 = tl T t := Fin.ext (crd_val T t)

/-- The last live tile at or before a tile. -/
def lst (n : ℕ) : Fin 346 := ⟨min n (T.live - 1), by have := T.live_le; have := T.live_pos; omega⟩

variable (m : (ℓ : Loc nD τ sig) → Buf (Elt Ideal) ℓ) (ρ : Dev nD → PrngReg)

abbrev ms0_0 (t : Fin (cfgA T).N) : Memref sig .tc .vmem S256x1024 .f32 := spec0_0.stage ((cfgA T).slots t (0 : Fin 6))
abbrev hs0_0 (t : Fin (cfgA T).N) : (ms0_0 T t).IsWhole := hstage0_0 (((cfgA T).slots t (0 : Fin 6)).cast nbuf0_0)
abbrev ms0_1 (t : Fin (cfgA T).N) : Memref sig .tc .vmem S1x1024x2048 .f32 := spec0_1.stage ((cfgA T).slots t (1 : Fin 6))
abbrev hs0_1 (t : Fin (cfgA T).N) : (ms0_1 T t).IsWhole := hstage0_1 (((cfgA T).slots t (1 : Fin 6)).cast nbuf0_1)
abbrev ms0_2 (t : Fin (cfgA T).N) : Memref sig .tc .vmem S1x1x2048 .f32 := spec0_2.stage ((cfgA T).slots t (2 : Fin 6))
abbrev hs0_2 (t : Fin (cfgA T).N) : (ms0_2 T t).IsWhole := hstage0_2 (((cfgA T).slots t (2 : Fin 6)).cast nbuf0_2)
abbrev ms0_3 (t : Fin (cfgA T).N) : Memref sig .tc .vmem S1x1024x1024 .f32 := spec0_3.stage ((cfgA T).slots t (3 : Fin 6))
abbrev hs0_3 (t : Fin (cfgA T).N) : (ms0_3 T t).IsWhole := hstage0_3 (((cfgA T).slots t (3 : Fin 6)).cast nbuf0_3)
abbrev ms0_4 (t : Fin (cfgA T).N) : Memref sig .tc .vmem S1x1x1024 .f32 := spec0_4.stage ((cfgA T).slots t (4 : Fin 6))
abbrev hs0_4 (t : Fin (cfgA T).N) : (ms0_4 T t).IsWhole := hstage0_4 (((cfgA T).slots t (4 : Fin 6)).cast nbuf0_4)
abbrev ms0_5 (t : Fin (cfgA T).N) : Memref sig .tc .vmem S256x1024 .f32 := spec0_5.stage ((cfgA T).slots t (5 : Fin 6))
abbrev hs0_5 (t : Fin (cfgA T).N) : (ms0_5 T t).IsWhole := hstage0_5 (((cfgA T).slots t (5 : Fin 6)).cast nbuf0_5)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-! ## The blocks, at their indices -/

/-- Row `r` of tile `n`. -/
def rowIx (n : Fin 346) (y : S256x1024.Idx) : S88576x1024.Idx
  | ⟨0, _⟩ => ⟨n.val * 256 + (y 0).val, by
      have h1 : (y 0).val < 256 := (y 0).isLt
      have h2 : n.val < 346 := n.isLt
      show n.val * 256 + (y 0).val < 88576
      omega⟩
  | ⟨1, _⟩ => y 1
/-- Expert `e`'s position of a three-axis array. -/
def exIx {B C : ℕ} (e : Fin 32) (y : (⟨3, ![1, B, C]⟩ : Shape).Idx) : (⟨3, ![32, B, C]⟩ : Shape).Idx
  | ⟨0, _⟩ => e
  | ⟨1, _⟩ => y 1
  | ⟨2, _⟩ => y 2
/-- Tile `n`'s rows. -/
def rowsB (A : S88576x1024.Idx → Elt Ideal .f32) (n : Fin 346) : S256x1024.Idx → Elt Ideal .f32 := fun y => A (rowIx n y)
/-- Expert `e`'s entry of a three-axis array. -/
def expB {B C : ℕ} (A : (⟨3, ![32, B, C]⟩ : Shape).Idx → Elt Ideal .f32) (e : Fin 32) : (⟨3, ![1, B, C]⟩ : Shape).Idx → Elt Ideal .f32 :=
  fun y => A (exIx e y)

/-- The expert of a tile, as an index. -/
def exF (n : Fin 346) : Fin 32 := ⟨T.ex n, T.ex_lt n⟩

/-- An offset with only a row-tile coordinate lands on the tile's rows. -/
theorem rows_emb {n : Fin 346} (e : Fin 2 → ℕ) (he : e = ![n.val, 0]) (y : S256x1024.Idx) (a : Fin 2) :
    e a * S256x1024.size a + (y a).val = (rowIx n y a).val := by
  subst he
  match a with
  | ⟨0, _⟩ => rfl
  | ⟨1, _⟩ => exact (congrArg (· + (y 1).val) (Nat.zero_mul _)).trans (Nat.zero_add _)
/-- An offset with only an expert coordinate lands on the expert's entry. -/
theorem exp_emb {B C : ℕ} {n : Fin 32} (e : Fin 3 → ℕ) (he : e = ![n.val, 0, 0]) (y : (⟨3, ![1, B, C]⟩ : Shape).Idx) (a : Fin 3) :
    e a * (⟨3, ![1, B, C]⟩ : Shape).size a + (y a).val = (exIx n y a).val := by
  subst he
  match a with
  | ⟨0, _⟩ =>
    have h : (y 0).val < 1 := (y 0).isLt
    show n.val * 1 + (y 0).val = n.val
    omega
  | ⟨1, _⟩ => exact (congrArg (· + (y 1).val) (Nat.zero_mul _)).trans (Nat.zero_add _)
  | ⟨2, _⟩ => exact (congrArg (· + (y 2).val) (Nat.zero_mul _)).trans (Nat.zero_add _)

theorem iblk0 (c : Dev nD) (t : Fin (cfgA T).N) :
    iblk T m ρ c (0 : Fin 6) t = rowsB (m ((c : Thread nD τ).loc main_arg2)) (lst T t.val) := by
  funext y
  refine congrArg (m ((c : Thread nD τ).loc main_arg2)) (a₁ := ((((cfgA T).win (0 : Fin 6)).rect t).emb y)) (a₂ := rowIx (lst T t.val) y) (funext fun a => Fin.ext ?_)
  refine (((cfgA T).win (0 : Fin 6)).rect_emb_val t y a).trans ?_
  refine rows_emb (((cfgA T).win (0 : Fin 6)).index t) ?_ y a
  exact (tr0 T (crd T t)).trans (congrArg (fun v => ![min v (T.live - 1), 0]) (crd_val T t))

theorem iblk1 (c : Dev nD) (t : Fin (cfgA T).N) :
    iblk T m ρ c (1 : Fin 6) t = expB (m ((c : Thread nD τ).loc main_arg3)) (exF T (tl T t)) := by
  funext y
  refine congrArg (m ((c : Thread nD τ).loc main_arg3)) (a₁ := ((((cfgA T).win (1 : Fin 6)).rect t).emb y)) (a₂ := exIx (exF T (tl T t)) y) (funext fun a => Fin.ext ?_)
  refine (((cfgA T).win (1 : Fin 6)).rect_emb_val t y a).trans ?_
  refine exp_emb (((cfgA T).win (1 : Fin 6)).index t) ?_ y a
  exact (tr1 T (crd T t)).trans (congrArg (fun v => ![T.ex v, 0, 0]) (crd_eq T t))

theorem iblk2 (c : Dev nD) (t : Fin (cfgA T).N) :
    iblk T m ρ c (2 : Fin 6) t = expB (m ((c : Thread nD τ).loc main_arg4)) (exF T (tl T t)) := by
  funext y
  refine congrArg (m ((c : Thread nD τ).loc main_arg4)) (a₁ := ((((cfgA T).win (2 : Fin 6)).rect t).emb y)) (a₂ := exIx (exF T (tl T t)) y) (funext fun a => Fin.ext ?_)
  refine (((cfgA T).win (2 : Fin 6)).rect_emb_val t y a).trans ?_
  refine exp_emb (((cfgA T).win (2 : Fin 6)).index t) ?_ y a
  exact (tr2 T (crd T t)).trans (congrArg (fun v => ![T.ex v, 0, 0]) (crd_eq T t))

theorem iblk3 (c : Dev nD) (t : Fin (cfgA T).N) :
    iblk T m ρ c (3 : Fin 6) t = expB (m ((c : Thread nD τ).loc main_arg5)) (exF T (tl T t)) := by
  funext y
  refine congrArg (m ((c : Thread nD τ).loc main_arg5)) (a₁ := ((((cfgA T).win (3 : Fin 6)).rect t).emb y)) (a₂ := exIx (exF T (tl T t)) y) (funext fun a => Fin.ext ?_)
  refine (((cfgA T).win (3 : Fin 6)).rect_emb_val t y a).trans ?_
  refine exp_emb (((cfgA T).win (3 : Fin 6)).index t) ?_ y a
  exact (tr3 T (crd T t)).trans (congrArg (fun v => ![T.ex v, 0, 0]) (crd_eq T t))

theorem iblk4 (c : Dev nD) (t : Fin (cfgA T).N) :
    iblk T m ρ c (4 : Fin 6) t = expB (m ((c : Thread nD τ).loc main_arg6)) (exF T (tl T t)) := by
  funext y
  refine congrArg (m ((c : Thread nD τ).loc main_arg6)) (a₁ := ((((cfgA T).win (4 : Fin 6)).rect t).emb y)) (a₂ := exIx (exF T (tl T t)) y) (funext fun a => Fin.ext ?_)
  refine (((cfgA T).win (4 : Fin 6)).rect_emb_val t y a).trans ?_
  refine exp_emb (((cfgA T).win (4 : Fin 6)).index t) ?_ y a
  exact (tr4 T (crd T t)).trans (congrArg (fun v => ![T.ex v, 0, 0]) (crd_eq T t))

/-! ## The values -/

/-- The first weights as the scratch holds them once tile `n`'s body has run. -/
def w1v (c : Dev nD) (n : ℕ) : S1024x2048.Idx → Elt Ideal .bf16 := k0_pay2 (F := Ideal) (expB (m ((c : Thread nD τ).loc main_arg3)) (exF T (lst T n)))
/-- The second weights, likewise. -/
def w2v (c : Dev nD) (n : ℕ) : S1024x1024.Idx → Elt Ideal .bf16 := k0_pay3 (F := Ideal) (expB (m ((c : Thread nD τ).loc main_arg5)) (exF T (lst T n)))
/-- The rows of the last live tile at or before `n`. -/
def xv (c : Dev nD) (n : ℕ) : S256x1024.Idx → Elt Ideal .f32 := rowsB (m ((c : Thread nD τ).loc main_arg2)) (lst T n)
/-- Its expert's biases. -/
def b1v (c : Dev nD) (n : ℕ) : S1x1x2048.Idx → Elt Ideal .f32 := expB (m ((c : Thread nD τ).loc main_arg4)) (exF T (lst T n))
def b2v (c : Dev nD) (n : ℕ) : S1x1x1024.Idx → Elt Ideal .f32 := expB (m ((c : Thread nD τ).loc main_arg6)) (exF T (lst T n))
/-- The output's staging buffer once tile `n`'s body has run. -/
def outv (c : Dev nD) (n : ℕ) : S256x1024.Idx → Elt Ideal .f32 :=
  k0_pay1 (F := Ideal) (k0_pay6 (F := Ideal) (xv T m c n) (w1v T m c n) (b1v T m c n)) (k0_pay7 (F := Ideal) (xv T m c n) (w1v T m c n) (b1v T m c n)) (w2v T m c n) (b2v T m c n)

/-! ## The schedule -/

theorem lst_live (n : Fin 346) (h : n.val < T.live) : lst T n.val = n := Fin.ext (by show min n.val (T.live - 1) = n.val; omega)
theorem lst_dead (n : ℕ) (h : ¬ n < T.live) : lst T n = lst T (n - 1) := Fin.ext (by show min n (T.live - 1) = min (n - 1) (T.live - 1); omega)
theorem outv_dead (c : Dev nD) (n : ℕ) (h : ¬ n < T.live) : outv T m c n = outv T m c (n - 1) := by
  unfold outv xv w1v w2v b1v b2v; rw [lst_dead T n h]
theorem w1v_dead (c : Dev nD) (n : ℕ) (h : ¬ n < T.live) : w1v T m c n = w1v T m c (n - 1) := by
  unfold w1v; rw [lst_dead T n h]
theorem w2v_dead (c : Dev nD) (n : ℕ) (h : ¬ n < T.live) : w2v T m c n = w2v T m c (n - 1) := by
  unfold w2v; rw [lst_dead T n h]

theorem idle_out (t : Fin (cfgA T).N) : (cfgA T).idle (5 : Fin 6) (crd T t) = decide (¬ t.val < T.live) :=
  (idle5 T (crd T t)).trans (congrArg (fun v => decide (¬ v < T.live)) (crd_val T t))

theorem index5 (t : Fin (cfgA T).N) : ((cfgA T).win (5 : Fin 6)).index t = ![min t.val (T.live - 1), 0] :=
  (tr5 T (crd T t)).trans (congrArg (fun v => ![min v (T.live - 1), 0]) (crd_val T t))

/-- The output is written out at the last live tile of every block, that is after every live tile but the
    last one, and once more at the end. -/
theorem flush5 (t : Fin (cfgA T).N) : ((cfgA T).win (5 : Fin 6)).flush t = true ↔ (t.val + 1 = 346 ∨ t.val + 1 < T.live) := by
  have hN : (cfgA T).grid.N = 346 := N_A T
  have hl := T.live_le
  have hp := T.live_pos
  have ht : t.val < 346 := hN ▸ t.isLt
  rw [Window.flush]
  rw [Bool.and_eq_true, Bool.or_eq_true, decide_eq_true_eq, decide_eq_true_eq]
  refine ⟨fun h => ?_, fun h => ⟨rfl, ?_⟩⟩
  · rcases h.2 with h | ⟨h1, h2⟩
    · exact Or.inl (h.trans hN)
    · by_cases hc : t.val + 1 < T.live
      · exact Or.inr hc
      · exact absurd (by rw [index5, index5]; exact congrArg (fun v => ![v, 0]) (by show min (t.val + 1) (T.live - 1) = min t.val (T.live - 1); omega)) h2
  · rcases h with h | h
    · exact Or.inl (h.trans hN.symm)
    · have h1 : t.val + 1 < (cfgA T).grid.N := by rw [hN]; omega
      refine Or.inr ⟨h1, fun he => ?_⟩
      rw [index5, index5] at he
      have := congrFun he (0 : Fin 2)
      change min (t.val + 1) (T.live - 1) = min t.val (T.live - 1) at this
      omega

/-- Past the live tiles the output's buffer still holds what the last live tile left. -/
theorem fresh5 (n : ℕ) (h1 : T.live ≤ n) (h2 : n < 346) : (cfgA T).fresh (5 : Fin 6) n = false := by
  have hN : (cfgA T).N = 346 := N_A T
  have hp := T.live_pos
  induction n with
  | zero => omega
  | succ k ih =>
    have hk : k < (cfgA T).N := by rw [hN]; omega
    rw [Cfg.fresh_succ (cfgA T) (5 : Fin 6) k hk]
    have hf : ((cfgA T).win (5 : Fin 6)).flush ⟨k, hk⟩ = false := by
      rw [Bool.eq_false_iff]
      intro hf
      rcases (flush5 T ⟨k, hk⟩).1 hf with h | h <;> simp only at h <;> omega
    rw [hf, Bool.false_or]
    by_cases hc : k < T.live
    · rw [idle_out T ⟨k, hk⟩, decide_eq_false (not_not_intro hc), Bool.false_and]
    · rw [ih (by omega) (by omega), Bool.and_false]

/-! ## The body's tests at the tables -/

theorem rdNt_eq : rdNt T.nt = T.nt nix := congrArg T.nt (idx1_eq _)

theorem cond1_t (t : Fin (cfgA T).N) : k0_cond1 (crd T t) (rdNt T.nt) = 1#1 ↔ t.val < T.live := by
  rw [rdNt_eq, cond1_iff, crd_val]

theorem k0_off3_eq (i : grid0.Coords) : k0_off3 i = ![(i 0).val - 1] := by
  have hi : (i 0).val < 346 := (i 0).isLt
  have h0 : Affine.IsInt (BitVec.ofNat 32 (i 0).val) (((i 0).val : Int)) := Affine.ofNat _ (by omega)
  have h1 : Affine.IsInt 1#32 (1) := Affine.ofNat _ (by omega)
  have hz : Affine.IsInt 0#32 (0) := Affine.ofNat _ (by omega)
  have hs := Affine.subi (e := ((i 0).val : ℤ) - 1) h0 h1 (by omega)
  have hm := Affine.maxsi (e := (((i 0).val - 1 : ℕ) : ℤ)) hs hz (by omega)
  exact congrArg (fun v => ![v]) (toNat_of_isInt (Affine.indexCast hm))

theorem conv_t (t : Fin (cfgA T).N) : conv (crd T t) T.te = 1#1 ↔ (t.val = 0 ∨ T.te (tix (tl T t)) ≠ T.te (tix ⟨t.val - 1, by have := (tl T t).isLt; change t.val < 346 at this; omega⟩)) := by
  rw [conv, cond2_iff, crd_val]
  have e1 := congrFun (k0_off2_eq (crd T t)) 0
  have e2 := congrFun (k0_off3_eq (crd T t)) 0
  refine or_congr Iff.rfl (not_congr ?_)
  have a1 : View.readAt (Elt Ideal) (tbTe).view (Rect.unit (s := S346) (k0_off2 (crd T t)) S1.size (k0_off2_inb (crd T t))).toLoadRect T.te (Shape.Idx.first (numel1_S1.symm ▸ Nat.one_pos)) = T.te (tix (tl T t)) :=
    congrArg T.te (idx346_eq _ _ (e1.trans (crd_val T t)))
  have a2 : View.readAt (Elt Ideal) (tbTe).view (Rect.unit (s := S346) (k0_off3 (crd T t)) S1.size (k0_off3_inb (crd T t))).toLoadRect T.te (Shape.Idx.first (numel1_S1.symm ▸ Nat.one_pos)) = T.te (tix ⟨t.val - 1, by have := (tl T t).isLt; change t.val < 346 at this; omega⟩) :=
    congrArg T.te (idx346_eq _ _ (e2.trans (congrArg (· - 1) (crd_val T t))))
  rw [a1, a2]

/-- A live tile that does not convert has its predecessor's expert. -/
theorem same_ex (t : Fin (cfgA T).N) (h : ¬ conv (crd T t) T.te = 1#1) (hl : t.val < T.live) :
    t.val ≠ 0 ∧ exF T (lst T (t.val - 1)) = exF T (lst T t.val) := by
  rw [conv_t, not_or, not_not] at h
  refine ⟨h.1, ?_⟩
  have e1 : lst T t.val = tl T t := lst_live T (tl T t) hl
  have e2 : lst T (t.val - 1) = ⟨t.val - 1, by have := (tl T t).isLt; change t.val < 346 at this; omega⟩ :=
    lst_live T ⟨t.val - 1, _⟩ (by show t.val - 1 < T.live; omega)
  rw [e1, e2]
  exact Fin.ext (congrArg BitVec.toNat h.2).symm

/-! ## The proof data -/

/-- The tables, as buffer contents. -/
abbrev teE : S346.Idx → Elt Ideal .i32 := T.te
abbrev ntE : S1.Idx → Elt Ideal .i32 := T.nt

/-- The scratch buffers and the tables before position `n`. -/
def Phi (c : Dev nD) (n : ℕ) : sProp 𝕄 := iprop(
  (∃ a, ⌜n ≠ 0 → a = w1v T m c (n - 1)⌝ ∗ (scW1.view.loc (c : Thread nD τ) ↦{fullShare} a))
    ∗ (∃ a, ⌜n ≠ 0 → a = w2v T m c (n - 1)⌝ ∗ (scW2.view.loc (c : Thread nD τ) ↦{fullShare} a))
    ∗ (tbTe.view.loc (c : Thread nD τ) ↦{fullShare.right} teE T) ∗ (tbNt.view.loc (c : Thread nD τ) ↦{fullShare.right} ntE T))

def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 6) t
    | ⟨1, _⟩ => iblk T m ρ c (1 : Fin 6) t
    | ⟨2, _⟩ => iblk T m ρ c (2 : Fin 6) t
    | ⟨3, _⟩ => iblk T m ρ c (3 : Fin 6) t
    | ⟨4, _⟩ => iblk T m ρ c (4 : Fin 6) t
    | ⟨5, _⟩ => outv T m c t.val
  Φ t := Phi T m c t.val
  q _ := fullShare
  owed _ := 0

theorem after5 (c : Dev nD) (t : Fin (cfgA T).N) : (dats T m ρ 0 c).after (5 : Fin 6) t = outv T m c t.val := rfl
theorem after0 (c : Dev nD) (t : Fin (cfgA T).N) : (dats T m ρ 0 c).after (0 : Fin 6) t = iblk T m ρ c (0 : Fin 6) t := rfl
theorem before0 (c : Dev nD) (t : Fin (cfgA T).N) (d) : (dats T m ρ 0 c).before (0 : Fin 6) t d = iblk T m ρ c (0 : Fin 6) t :=
  ((dats T m ρ 0 c).before_in_eq_fetched (0 : Fin 6) rfl (fun _ => rfl) (fun _ _ _ => rfl)
    (fun t => by rw [after0]; unfold Dat.blockOf iblk; rfl) t d).trans (by unfold Dat.fetched Dat.blockOf iblk; rfl)
theorem after1 (c : Dev nD) (t : Fin (cfgA T).N) : (dats T m ρ 0 c).after (1 : Fin 6) t = iblk T m ρ c (1 : Fin 6) t := rfl
theorem before1 (c : Dev nD) (t : Fin (cfgA T).N) (d) : (dats T m ρ 0 c).before (1 : Fin 6) t d = iblk T m ρ c (1 : Fin 6) t :=
  ((dats T m ρ 0 c).before_in_eq_fetched (1 : Fin 6) rfl (fun _ => rfl) (fun _ _ _ => rfl)
    (fun t => by rw [after1]; unfold Dat.blockOf iblk; rfl) t d).trans (by unfold Dat.fetched Dat.blockOf iblk; rfl)
theorem after2 (c : Dev nD) (t : Fin (cfgA T).N) : (dats T m ρ 0 c).after (2 : Fin 6) t = iblk T m ρ c (2 : Fin 6) t := rfl
theorem before2 (c : Dev nD) (t : Fin (cfgA T).N) (d) : (dats T m ρ 0 c).before (2 : Fin 6) t d = iblk T m ρ c (2 : Fin 6) t :=
  ((dats T m ρ 0 c).before_in_eq_fetched (2 : Fin 6) rfl (fun _ => rfl) (fun _ _ _ => rfl)
    (fun t => by rw [after2]; unfold Dat.blockOf iblk; rfl) t d).trans (by unfold Dat.fetched Dat.blockOf iblk; rfl)
theorem after3 (c : Dev nD) (t : Fin (cfgA T).N) : (dats T m ρ 0 c).after (3 : Fin 6) t = iblk T m ρ c (3 : Fin 6) t := rfl
theorem before3 (c : Dev nD) (t : Fin (cfgA T).N) (d) : (dats T m ρ 0 c).before (3 : Fin 6) t d = iblk T m ρ c (3 : Fin 6) t :=
  ((dats T m ρ 0 c).before_in_eq_fetched (3 : Fin 6) rfl (fun _ => rfl) (fun _ _ _ => rfl)
    (fun t => by rw [after3]; unfold Dat.blockOf iblk; rfl) t d).trans (by unfold Dat.fetched Dat.blockOf iblk; rfl)
theorem after4 (c : Dev nD) (t : Fin (cfgA T).N) : (dats T m ρ 0 c).after (4 : Fin 6) t = iblk T m ρ c (4 : Fin 6) t := rfl
theorem before4 (c : Dev nD) (t : Fin (cfgA T).N) (d) : (dats T m ρ 0 c).before (4 : Fin 6) t d = iblk T m ρ c (4 : Fin 6) t :=
  ((dats T m ρ 0 c).before_in_eq_fetched (4 : Fin 6) rfl (fun _ => rfl) (fun _ _ _ => rfl)
    (fun t => by rw [after4]; unfold Dat.blockOf iblk; rfl) t d).trans (by unfold Dat.fetched Dat.blockOf iblk; rfl)

/-- Past the live tiles the output's buffer holds the last live tile's rows. -/
theorem before5_dead (c : Dev nD) (t : Fin (cfgA T).N) (h : ¬ t.val < T.live) (d) :
    (dats T m ρ 0 c).before (5 : Fin 6) t d = outv T m c t.val := by
  have hp := T.live_pos
  rw [(dats T m ρ 0 c).before_out_traj (5 : Fin 6) rfl (fun _ _ => rfl) (fun t ht hi hf => by
    have hd : ¬ t.val < T.live := by rw [idle_out, decide_eq_true_eq] at hi; exact hi
    rw [after5, after5]; exact outv_dead T m c t.val hd) t.val t rfl d]
  have hf : (cfgA T).fresh (5 : Fin 6) t.val = false := fresh5 T t.val (by omega) (tl T t).isLt
  rw [hf, if_neg Bool.false_ne_true, after5]
  exact (outv_dead T m c t.val h).symm

end Cert.KernelIdeal.Experts

end
-- ==== Proof.Experts.BodyIdeal.lean ====
/- The experts' body at a grid point, over the proof data: a tile of a new expert, a live tile of the
   previous tile's expert, and a tile past the live ones. -/
module

public import proofs.«01_k».proof.Proof.Experts.DataIdeal
public import Idealize.ShloMosaic.Lib.Pipeline.Value

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tabs) (m : (ℓ : Loc nD τ sig) → Buf (Elt Ideal) ℓ) (ρ : Dev nD → PrngReg)

/-- The body at a grid point on its staging buffers. -/
abbrev bodyAt0 (t : Fin (cfgA T).N) : Prog (TpuEff nD τ sig (Elt Ideal) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (Memref.whole cc0_scratch0) (Memref.isWhole_whole _) (Memref.whole cc0_scratch1) (Memref.isWhole_whole _)

theorem xv_eq (c : Dev nD) (t : Fin (cfgA T).N) : (iblk T m ρ c (0 : Fin 6) t : S256x1024.Idx → Elt Ideal .f32) = xv T m c t.val := iblk0 T m ρ c t
theorem exF_live (t : Fin (cfgA T).N) (h : t.val < T.live) : exF T (tl T t) = exF T (lst T t.val) := congrArg (exF T) (lst_live T (tl T t) h).symm
theorem b1v_eq (c : Dev nD) (t : Fin (cfgA T).N) (h : t.val < T.live) : (iblk T m ρ c (2 : Fin 6) t : S1x1x2048.Idx → Elt Ideal .f32) = b1v T m c t.val :=
  (iblk2 T m ρ c t).trans (congrArg (expB (m ((c : Thread nD τ).loc main_arg4))) (exF_live T t h))
theorem b2v_eq (c : Dev nD) (t : Fin (cfgA T).N) (h : t.val < T.live) : (iblk T m ρ c (4 : Fin 6) t : S1x1x1024.Idx → Elt Ideal .f32) = b2v T m c t.val :=
  (iblk4 T m ρ c t).trans (congrArg (expB (m ((c : Thread nD τ).loc main_arg6))) (exF_live T t h))
theorem w1v_new (c : Dev nD) (t : Fin (cfgA T).N) (h : t.val < T.live) : k0_pay2 (F := Ideal) (iblk T m ρ c (1 : Fin 6) t) = w1v T m c t.val :=
  congrArg (k0_pay2 (F := Ideal)) ((iblk1 T m ρ c t).trans (congrArg (expB (m ((c : Thread nD τ).loc main_arg3))) (exF_live T t h)))
theorem w2v_new (c : Dev nD) (t : Fin (cfgA T).N) (h : t.val < T.live) : k0_pay3 (F := Ideal) (iblk T m ρ c (3 : Fin 6) t) = w2v T m c t.val :=
  congrArg (k0_pay3 (F := Ideal)) ((iblk3 T m ρ c t).trans (congrArg (expB (m ((c : Thread nD τ).loc main_arg5))) (exF_live T t h)))
theorem w1v_old (c : Dev nD) (n : ℕ) (h : exF T (lst T (n - 1)) = exF T (lst T n)) : w1v T m c (n - 1) = w1v T m c n := by unfold w1v; rw [h]
theorem w2v_old (c : Dev nD) (n : ℕ) (h : exF T (lst T (n - 1)) = exF T (lst T n)) : w2v T m c (n - 1) = w2v T m c n := by unfold w2v; rw [h]

set_option maxHeartbeats 4000000 in
theorem sound_body (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 6) t d))
        ∗ (∃ d, owns (c : Thread nD τ) (ms0_1 T t) fullShare ((dats T m ρ 0 c).before (1 : Fin 6) t d))
        ∗ (∃ d, owns (c : Thread nD τ) (ms0_2 T t) fullShare ((dats T m ρ 0 c).before (2 : Fin 6) t d))
        ∗ (∃ d, owns (c : Thread nD τ) (ms0_3 T t) fullShare ((dats T m ρ 0 c).before (3 : Fin 6) t d))
        ∗ (∃ d, owns (c : Thread nD τ) (ms0_4 T t) fullShare ((dats T m ρ 0 c).before (4 : Fin 6) t d))
        ∗ (∃ d, owns (c : Thread nD τ) (ms0_5 T t) fullShare ((dats T m ρ 0 c).before (5 : Fin 6) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : t.val < T.live
  · have i5 : (cfgA T).idle (5 : Fin 6) ((cfgA T).grid.coords t) = false := (idle_out T t).trans (decide_eq_false (not_not_intro q0))
    have k0_h1 : k0_cond1 (crd T t) (rdNt (ntE T)) = 1#1 := (cond1_t T t).2 q0
    rewrite [i5]
    simp only [before0, before1, before2, before3, before4, after0, after1, after2, after3, after4, after5]
    rewrite [show (dats T m ρ 0 c).Φ t.succ = Phi T m c (t.val + 1) from rfl, show (dats T m ρ 0 c).Φ t.castSucc = Phi T m c t.val from rfl,
      show (dats T m ρ 0 c).owesAt () t.succ = (dats T m ρ 0 c).owesAt () t.castSucc from rfl]
    unfold Phi
    rw [Nat.add_sub_cancel]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
    by_cases hc1 : conv (crd T t) (teE T) = 1#1
    · iapply (runA c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (teE T) (ntE T) (iblk T m ρ c (0 : Fin 6) t) (iblk T m ρ c (1 : Fin 6) t) (iblk T m ρ c (2 : Fin 6) t) (iblk T m ρ c (3 : Fin 6) t) (iblk T m ρ c (4 : Fin 6) t) k0_h1 hc1 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact w1v_new T m ρ c t q0
        isplitl [HS1]
        · iexists _; isplitr; swap
          · iexact HS1
          · ipureintro; intro _; exact w2v_new T m ρ c t q0
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      rw [show outv T m c t.val = k0_pay1 (F := Ideal) (k0_pay6 (F := Ideal) (iblk T m ρ c (0 : Fin 6) t) (k0_pay2 (F := Ideal) (iblk T m ρ c (1 : Fin 6) t)) (iblk T m ρ c (2 : Fin 6) t)) (k0_pay7 (F := Ideal) (iblk T m ρ c (0 : Fin 6) t) (k0_pay2 (F := Ideal) (iblk T m ρ c (1 : Fin 6) t)) (iblk T m ρ c (2 : Fin 6) t)) (k0_pay3 (F := Ideal) (iblk T m ρ c (3 : Fin 6) t)) (iblk T m ρ c (4 : Fin 6) t) from
        (pay_congr (xv_eq T m ρ c t) (w1v_new T m ρ c t q0) (b1v_eq T m ρ c t q0) (w2v_new T m ρ c t q0) (b2v_eq T m ρ c t q0)).symm]
      iexact H5
    · obtain ⟨hn0, hex⟩ := same_ex T t hc1 q0
      iapply (runC c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (teE T) (ntE T) (iblk T m ρ c (0 : Fin 6) t) (iblk T m ρ c (1 : Fin 6) t) (iblk T m ρ c (2 : Fin 6) t) (iblk T m ρ c (3 : Fin 6) t) (iblk T m ρ c (4 : Fin 6) t) k0_h1 hc1 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact (ha0 hn0).trans (w1v_old T m c t.val hex)
        isplitl [HS1]
        · iexists _; isplitr; swap
          · iexact HS1
          · ipureintro; intro _; exact (ha1 hn0).trans (w2v_old T m c t.val hex)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      rw [show outv T m c t.val = k0_pay1 (F := Ideal) (k0_pay6 (F := Ideal) (iblk T m ρ c (0 : Fin 6) t) a0 (iblk T m ρ c (2 : Fin 6) t)) (k0_pay7 (F := Ideal) (iblk T m ρ c (0 : Fin 6) t) a0 (iblk T m ρ c (2 : Fin 6) t)) a1 (iblk T m ρ c (4 : Fin 6) t) from
        (pay_congr (xv_eq T m ρ c t) ((ha0 hn0).trans (w1v_old T m c t.val hex)) (b1v_eq T m ρ c t q0) ((ha1 hn0).trans (w2v_old T m c t.val hex)) (b2v_eq T m ρ c t q0)).symm]
      iexact H5
  · have i5 : (cfgA T).idle (5 : Fin 6) ((cfgA T).grid.coords t) = true := (idle_out T t).trans (decide_eq_true q0)
    have k0_h1 : ¬ k0_cond1 (crd T t) (rdNt (ntE T)) = 1#1 := fun h => q0 ((cond1_t T t).1 h)
    have hn0 : t.val ≠ 0 := fun h => q0 (by rw [h]; exact T.live_pos)
    cases f5 : ((cfgA T).win (5 : Fin 6)).flush t
    · rewrite [i5]
      simp only [before0, before1, before2, before3, before4, after0, after1, after2, after3, after4, after5, before5_dead T m ρ c t q0, f5]
      rewrite [show (dats T m ρ 0 c).Φ t.succ = Phi T m c (t.val + 1) from rfl, show (dats T m ρ 0 c).Φ t.castSucc = Phi T m c t.val from rfl,
        show (dats T m ρ 0 c).owesAt () t.succ = (dats T m ρ 0 c).owesAt () t.castSucc from rfl]
      unfold Phi
      rw [Nat.add_sub_cancel]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      iapply (runB c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (teE T) (ntE T) (iblk T m ρ c (0 : Fin 6) t) (iblk T m ρ c (1 : Fin 6) t) (iblk T m ρ c (2 : Fin 6) t) (iblk T m ρ c (3 : Fin 6) t) (iblk T m ρ c (4 : Fin 6) t) k0_h1 (outv T m c t.val) a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact (ha0 hn0).trans (w1v_dead T m c t.val q0).symm
        isplitl [HS1]
        · iexists _; isplitr; swap
          · iexact HS1
          · ipureintro; intro _; exact (ha1 hn0).trans (w2v_dead T m c t.val q0).symm
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      iexists d5; iexact H5
    · rewrite [i5]
      simp only [before0, before1, before2, before3, before4, after0, after1, after2, after3, after4, after5, before5_dead T m ρ c t q0, f5]
      rewrite [show (dats T m ρ 0 c).Φ t.succ = Phi T m c (t.val + 1) from rfl, show (dats T m ρ 0 c).Φ t.castSucc = Phi T m c t.val from rfl,
        show (dats T m ρ 0 c).owesAt () t.succ = (dats T m ρ 0 c).owesAt () t.castSucc from rfl]
      unfold Phi
      rw [Nat.add_sub_cancel]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      iapply (runB c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (teE T) (ntE T) (iblk T m ρ c (0 : Fin 6) t) (iblk T m ρ c (1 : Fin 6) t) (iblk T m ρ c (2 : Fin 6) t) (iblk T m ρ c (3 : Fin 6) t) (iblk T m ρ c (4 : Fin 6) t) k0_h1 (outv T m c t.val) a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      isplitl [HS0 HS1 HT0 HT1]
      · isplitl [HS0]
        · iexists _; isplitr; swap
          · iexact HS0
          · ipureintro; intro _; exact (ha0 hn0).trans (w1v_dead T m c t.val q0).symm
        isplitl [HS1]
        · iexists _; isplitr; swap
          · iexact HS1
          · ipureintro; intro _; exact (ha1 hn0).trans (w2v_dead T m c t.val q0).symm
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      iexact H5

theorem body_obligation (c : Dev nD) : BodyObligation (dats T m ρ 0 c) (defs₀ (F := Ideal)) Variants.none () Set.univ := fun t => by
  rw [bigSep_W0]
  exact sound_body T m ρ c t

end Cert.KernelIdeal.Experts

end
-- ==== Proof.Experts.LaunchIdeal.lean ====
/- The launch of the experts' pipeline at the tables: the run, what every array ends at, and the frame. -/
module

public import proofs.«01_k».proof.Proof.Experts.BodyIdeal
public import proofs.«01_k».proof.Proof.Gen.KernelIdeal.Launch
public import Idealize.ShloMosaic.Lib.Pipeline.Quiescent
public import Idealize.ShloMosaic.Lib.Pipeline.TableIdle
public import Idealize.ShloMosaic.Lib.Pipeline.Launch
public import Idealize.ShloMosaic.Lib.Claim

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tabs) (m : (ℓ : Loc nD τ sig) → Buf (Elt Ideal) ℓ) (ρ : Dev nD → PrngReg)

abbrev EP : Emb (UR sig nD τ) 𝕄 := emb₁

/-- The launch memory holds the tables on every device. -/
def Holds : Prop := (∀ c : Dev nD, m ((c : Thread nD τ).loc main_arg0) = T.te) ∧ (∀ c : Dev nD, m ((c : Thread nD τ).loc main_arg1) = T.nt)

/-! ## The launch -/

/-- The rounds library's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m c (cfgA T).N from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are `T`'s: every weakly
    fair execution of @main on the TensorCores terminates, and every final state has each array at the computed contents,
    and every semaphore counter of the machine at zero. -/
theorem run_main_quiescent (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Holds T m) : θ_run (defs (F := Ideal)) (onTc (τ := τ) (main (F := Ideal))) (s₀ m ρ) (QC T m ρ) :=
  (θ_run defs _ _).mono (fun _ h => h.1) (run_main_quiescent T m ρ hp)

/-- `frame` without the counters: the argument arrays end unchanged. -/
theorem unchanged (hp : Holds T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats T m ρ 0 c).arrAt_in (0 : Fin 6) rfl _), ((h c).1 (1 : Fin 6)).trans ((dats T m ρ 0 c).arrAt_in (1 : Fin 6) rfl _), ((h c).1 (2 : Fin 6)).trans ((dats T m ρ 0 c).arrAt_in (2 : Fin 6) rfl _), ((h c).1 (3 : Fin 6)).trans ((dats T m ρ 0 c).arrAt_in (3 : Fin 6) rfl _), ((h c).1 (4 : Fin 6)).trans ((dats T m ρ 0 c).arrAt_in (4 : Fin 6) rfl _)⟩) (run_main T m ρ hp)

/-- The frame at the tables: every execution terminates, the arguments end unchanged, every counter at zero. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged T m ρ hp) ((θ_run defs _ _).mono (fun _ h => h.2) (run_main_quiescent T m ρ hp))

end Cert.KernelIdeal.Experts

end
-- ==== Proof.Experts.RangeIdeal.lean ====
/- The precondition read as bounds on the two tables: every tile's expert is below 32, and between 1 and
   346 tiles are live. -/
module

public import proofs.«01_k».proof.Proof.Experts.LaunchIdeal
public import proofs.«01_k».proof.Pre_tables_in_range
public import proofs.«01_k».proof.Proof.Gen.Pre_tables_in_range
public import Idealize.ShloMosaic.Lib.Pipeline.Value

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- A word at least `lo` and below `hi`, both small and signed, as a number. -/
theorem word_range (x lo : BitVec 32) (hl : lo.toNat < 2 ^ 31) (h1 : IntOp.cmpi .sge x lo = 1#1) : x.toNat < 2 ^ 31 ∧ lo.toNat ≤ x.toNat := by
  have e1 : lo.sle x = true := by
    cases e : lo.sle x
    · exact absurd h1 (by simp [IntOp.cmpi, e])
    · rfl
  rw [BitVec.sle_iff_toInt_le, BitVec.toInt_eq_toNat_cond, BitVec.toInt_eq_toNat_cond] at e1
  have := x.isLt
  split at e1 <;> split at e1 <;> omega

theorem word_lt (x hi : BitVec 32) (hx : x.toNat < 2 ^ 31) (hh : hi.toNat < 2 ^ 31) (h1 : IntOp.cmpi .slt x hi = 1#1) : x.toNat < hi.toNat := by
  have e1 : x.slt hi = true := by
    cases e : x.slt hi
    · exact absurd h1 (by simp [IntOp.cmpi, e])
    · rfl
  rw [BitVec.slt_iff_toInt_lt, BitVec.toInt_eq_toNat_cond, BitVec.toInt_eq_toNat_cond] at e1
  split at e1 <;> split at e1 <;> omega

theorem word_le (x hi : BitVec 32) (hx : x.toNat < 2 ^ 31) (hh : hi.toNat < 2 ^ 31) (h1 : IntOp.cmpi .sle x hi = 1#1) : x.toNat ≤ hi.toNat := by
  have e1 : x.sle hi = true := by
    cases e : x.sle hi
    · exact absurd h1 (by simp [IntOp.cmpi, e])
    · rfl
  rw [BitVec.sle_iff_toInt_le, BitVec.toInt_eq_toNat_cond, BitVec.toInt_eq_toNat_cond] at e1
  split at e1 <;> split at e1 <;> omega

theorem and_one : ∀ a b : BitVec 1, a &&& b = 1#1 → a = 1#1 ∧ b = 1#1 := by decide

/-- The tables of a memory that meets the precondition. -/
theorem tabs_of_pre (te : S346.Idx → BitVec 32) (nt : S1.Idx → BitVec 32) (x2 : FVec Ideal S88576x1024 .f32) (x3 : FVec Ideal S32x1024x2048 .f32)
    (x4 : FVec Ideal S32x1x2048 .f32) (x5 : FVec Ideal S32x1024x1024 .f32) (x6 : FVec Ideal S32x1x1024 .f32)
    (h1 : (Cert.Pre_tables_in_range.fn (F := Ideal) te nt x2 x3 x4 x5 x6).1 = fun _ => 1#1)
    (h2 : (Cert.Pre_tables_in_range.fn (F := Ideal) te nt x2 x3 x4 x5 x6).2 = fun _ => 1#1) : ∃ T : Tabs, T.te = te ∧ T.nt = nt := by
  refine ⟨⟨te, nt, fun n => ?_, ?_, ?_⟩, rfl, rfl⟩
  · have e : IntOp.cmpi .sge (te (tix n)) 0#32 &&& IntOp.cmpi .slt (te (tix n)) 32#32 = 1#1 := congrFun h1 (tix n)
    obtain ⟨a, b⟩ := and_one _ _ e
    exact word_lt _ 32#32 (word_range _ 0#32 (by decide) a).1 (by decide) b
  · have e : IntOp.cmpi .sge (nt nix) 1#32 &&& IntOp.cmpi .sle (nt nix) 346#32 = 1#1 := congrFun h2 nix
    exact (word_range _ 1#32 (by decide) (and_one _ _ e).1).2
  · have e : IntOp.cmpi .sge (nt nix) 1#32 &&& IntOp.cmpi .sle (nt nix) 346#32 = 1#1 := congrFun h2 nix
    obtain ⟨a, b⟩ := and_one _ _ e
    exact word_le _ 346#32 (word_range _ 1#32 (by decide) a).1 (by decide) b

end Cert.KernelIdeal.Experts

end
-- ==== Proof.Experts.QuietIdeal.lean ====
/- The frame under the printed precondition. -/
module

public import proofs.«01_k».proof.Proof.Experts.RangeIdeal
public import proofs.«01_k».proof.Defs

@[expose] public section

noncomputable section

namespace Cert.KernelIdeal.Experts

open Cert.KernelIdeal Cert.KernelIdeal.Gen
open Idealize.ShloMosaic Idealize.SL.Sem

/-- The tables that the one device's memory holds. -/
theorem holds_of_pre (m : (ℓ : Loc nD τ sig) → Buf (Elt Ideal) ℓ) (hp : Cert.Pre_KernelIdeal m) : ∃ T : Tabs, Holds T m := by
  obtain ⟨T, h0, h1⟩ := tabs_of_pre _ _ _ _ _ _ _ (hp 0).1 (hp 0).2
  refine ⟨T, fun c => ?_, fun c => ?_⟩
  · rw [Subsingleton.elim c 0]; exact h0.symm
  · rw [Subsingleton.elim c 0]; exact h1.symm

theorem quiescent : Cert.quiescent_KernelIdeal := fun m g hp => by
  obtain ⟨T, hT⟩ := holds_of_pre m hp
  exact frame T m g hT

end Cert.KernelIdeal.Experts

end
-- ==== Proof.Experts.Mask.lean ====
/- The mask of the value claim read as a bound: a selected row lies below 256 times the live tiles. -/
module

public import proofs.«01_k».proof.Proof.Experts.RangeIdeal
public import proofs.«01_k».proof.On_live_rows
public import proofs.«01_k».proof.Proof.Gen.On_live_rows

@[expose] public section

noncomputable section

namespace Cert.KernelIdeal.Experts

open Cert.KernelIdeal Cert.KernelIdeal.Gen
open Idealize.ShloMosaic

theorem below (n : ℕ) (x : BitVec 32) (hn : n < 88576) (hx : x.toNat ≤ 346) (h : IntOp.cmpi .slt (BitVec.ofNat 32 n) (IntOp.muli x 256#32) = 1#1) : n < 256 * x.toNat := by
  have e : (IntOp.muli x 256#32).toNat = 256 * x.toNat := by
    show (x * 256#32).toNat = _
    rw [BitVec.toNat_mul]
    show x.toNat * 256 % 2 ^ 32 = _
    omega
  have e2 : (BitVec.ofNat 32 n).toNat = n := by rw [BitVec.toNat_ofNat]; omega
  have := word_lt _ _ (by rw [e2]; omega) (by rw [e]; omega) h
  omega

theorem mask_live (T : Tabs) (te : S346.Idx → BitVec 32) (nt : S1.Idx → BitVec 32) (hnt : T.nt = nt) (x2 : FVec Ideal S88576x1024 .f32) (x3 : FVec Ideal S32x1024x2048 .f32)
    (x4 : FVec Ideal S32x1x2048 .f32) (x5 : FVec Ideal S32x1024x1024 .f32) (x6 : FVec Ideal S32x1x1024 .f32) (i : S88576x1024.Idx)
    (h : Cert.On_live_rows.fn (F := Ideal) te nt x2 x3 x4 x5 x6 i = 1#1) : (i 0).val < 256 * T.live := by
  subst hnt
  have e : ∃ j : S1.Idx, IntOp.cmpi .slt (BitVec.ofNat 32 (i 0).val) (IntOp.muli (T.nt j) 256#32) = 1#1 := ⟨_, h⟩
  obtain ⟨j, e⟩ := e
  rw [idx1_eq j] at e
  exact below _ _ (i 0).isLt T.nt_le e

end Cert.KernelIdeal.Experts

end
-- ==== Proof.Experts.Spec.lean ====
/- What one expert computes of one row, as sums over the extended reals: the clamped SwiGLU
   feed-forward that the kernel and the reference both reduce to. -/
module

public import Idealize.ShloMosaic.Lib.Pointwise

@[expose] public section

noncomputable section

namespace Cert.Experts

open Idealize.ShloMosaic

/-- The hidden layer: column `f` of the row's product with the first weights, plus its bias. -/
def hid (x : Fin 1024 → EReal) (w : Fin 1024 → Fin 2048 → EReal) (b : Fin 2048 → EReal) (f : Fin 2048) : EReal := ∑ d, x d * w d f + b f

/-- The gate column, clamped from above at 7. -/
def gate (x : Fin 1024 → EReal) (w : Fin 1024 → Fin 2048 → EReal) (b : Fin 2048 → EReal) (f : Fin 1024) : EReal :=
  min (hid x w b ⟨f.val, by omega⟩) (Ideal.ofBits FTy.f32 1088421888#32)

/-- The activation: the clamped linear column plus one, times the gate, times the gate's sigmoid at 1.702. -/
def act (x : Fin 1024 → EReal) (w : Fin 1024 → Fin 2048 → EReal) (b : Fin 2048 → EReal) (f : Fin 1024) : EReal :=
  (min (Ideal.ofBits FTy.f32 1088421888#32) (max (Ideal.ofBits FTy.f32 3235905536#32) (hid x w b ⟨1024 + f.val, by omega⟩)) + 1) * gate x w b f
    * Ideal.div 1 (1 + Ideal.exp (-(Ideal.ofBits FTy.f32 1071242019#32 * gate x w b f)))

/-- The row's output: the activation's product with the second weights, plus the second bias. -/
def ffn (x : Fin 1024 → EReal) (w : Fin 1024 → Fin 2048 → EReal) (b : Fin 2048 → EReal) (v : Fin 1024 → Fin 1024 → EReal) (u : Fin 1024 → EReal)
    (c : Fin 1024) : EReal := ∑ f, act x w b f * v f c + u c

end Cert.Experts

end
-- ==== Proof.Experts.PureKernel.lean ====
/- The kernel's payloads at an index, over the extended reals: the stored row is the feed-forward of its row. -/
module

public import proofs.«01_k».proof.Proof.Gen.KernelIdeal.Skeleton
public import proofs.«01_k».proof.Proof.Experts.Spec
public import Idealize.ShloMosaic.Lib.Pointwise

@[expose] public section

set_option maxRecDepth 16384

noncomputable section

namespace Cert.KernelIdeal.Experts

open Idealize.ShloMosaic Idealize.ShloMosaic.TcCoe Idealize.SL.Sem
open Cert.KernelIdeal Cert.KernelIdeal.Gen Cert.Experts

theorem pay2_apply (v : Vec Ideal S1x1024x2048 .f32) (d : Fin 1024) (f : Fin 2048) : k0_pay2 (F := Ideal) v (ix2 d f) = v (ix3 0 d f) := by
  pointwise [k0_pay2]
theorem pay3_apply (v : Vec Ideal S1x1024x1024 .f32) (d : Fin 1024) (f : Fin 1024) : k0_pay3 (F := Ideal) v (ix2 d f) = v (ix3 0 d f) := by
  pointwise [k0_pay3]

/-- The hidden layer of row `r`. -/
theorem pay4_apply (x : Vec Ideal S256x1024 .f32) (w : Vec Ideal S1024x2048 .bf16) (b : Vec Ideal S1x1x2048 .f32) (r : Fin 256) (f : Fin 2048) :
    k0_pay4 (F := Ideal) x w b (ix2 r f) = hid (fun d => x (ix2 r d)) (fun d f => w (ix2 d f)) (fun f => b (ix3 0 0 f)) f := by
  pointwise [k0_pay4, hid]

/-- The stored row `r` is the feed-forward of row `r`, of the weights in the scratch buffers. -/
theorem pay1_apply (x : Vec Ideal S256x1024 .f32) (w : Vec Ideal S1024x2048 .bf16) (b : Vec Ideal S1x1x2048 .f32) (w2 : Vec Ideal S1024x1024 .bf16)
    (b2 : Vec Ideal S1x1x1024 .f32) (r : Fin 256) (c : Fin 1024) :
    k0_pay1 (k0_pay6 (F := Ideal) x w b) (k0_pay7 (F := Ideal) x w b) w2 b2 (ix2 r c)
      = ffn (fun d => x (ix2 r d)) (fun d f => w (ix2 d f)) (fun f => b (ix3 0 0 f)) (fun f c => w2 (ix2 f c)) (fun c => b2 (ix3 0 0 c)) c := by
  pointwise [k0_pay1, k0_pay6, k0_pay7, k0_pay5, pay4_apply, ffn, act, gate, zero_sub]

end Cert.KernelIdeal.Experts

end
-- ==== Proof.Experts.Value.lean ====
/- The kernel's result array after the run: every row of a live tile is the feed-forward of that row
   by the tile's expert. -/
module

public import proofs.«01_k».proof.Proof.Experts.LaunchIdeal
public import proofs.«01_k».proof.Proof.Experts.PureKernel
public import Idealize.ShloMosaic.Lib.Pipeline.Value
public import Idealize.ShloMosaic.Lib.Pipeline.ValueKit.Geometry

@[expose] public section

set_option maxRecDepth 16384
set_option Elab.async false

noncomputable section

namespace Cert.KernelIdeal.Experts

open Cert.KernelIdeal Cert.KernelIdeal.Gen Cert.Experts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (T : Tabs) (m : (ℓ : Loc nD τ sig) → Buf (Elt Ideal) ℓ) (ρ : Dev nD → PrngReg)

/-- What the result holds at a live row. -/
def G (c : Dev nD) (i : S88576x1024.Idx) : EReal :=
  ffn (fun d => m ((c : Thread nD τ).loc main_arg2) (ix2 (i 0) d))
    (fun d f => m ((c : Thread nD τ).loc main_arg3) (ix3 (exF T ⟨(i 0).val / 256, by have h : (i 0).val < 88576 := (i 0).isLt; omega⟩) d f))
    (fun f => m ((c : Thread nD τ).loc main_arg4) (ix3 (exF T ⟨(i 0).val / 256, by have h : (i 0).val < 88576 := (i 0).isLt; omega⟩) 0 f))
    (fun f d => m ((c : Thread nD τ).loc main_arg5) (ix3 (exF T ⟨(i 0).val / 256, by have h : (i 0).val < 88576 := (i 0).isLt; omega⟩) f d))
    (fun d => m ((c : Thread nD τ).loc main_arg6) (ix3 (exF T ⟨(i 0).val / 256, by have h : (i 0).val < 88576 := (i 0).isLt; omega⟩) 0 d)) (i 1)

theorem rowIx_eq (n : Fin 346) (y : S256x1024.Idx) : rowIx n y = ix2 (⟨n.val * 256 + (y 0).val, by have h1 : (y 0).val < 256 := (y 0).isLt; omega⟩ : Fin 88576) (y 1) := by
  funext a; match a with | ⟨0, _⟩ => rfl | ⟨1, _⟩ => rfl
theorem exIx_eq {B C : ℕ} (e : Fin 32) (z : Fin 1) (d : Fin B) (f : Fin C) : exIx e (ix3 z d f) = ix3 e d f := by
  funext a; match a with | ⟨0, _⟩ => rfl | ⟨1, _⟩ => rfl | ⟨2, _⟩ => rfl

/-- What tile `n` leaves in the staging buffer is the result's rows there. -/
theorem outv_ix (c : Dev nD) (n : ℕ) (r : Fin 256) (k : Fin 1024) : outv T m c n (ix2 r k) = G T m c (rowIx (lst T n) (ix2 r k)) := by
  unfold outv
  rw [pay1_apply]
  have hn : (⟨(rowIx (lst T n) (ix2 r k) 0).val / 256, by have h : (rowIx (lst T n) (ix2 r k) 0).val < 88576 := (rowIx (lst T n) (ix2 r k) 0).isLt; omega⟩ : Fin 346) = lst T n :=
    Fin.ext (by show ((lst T n).val * 256 + r.val) / 256 = (lst T n).val; omega)
  unfold G
  rw [hn]
  unfold xv w1v w2v b1v b2v rowsB
  simp only [pay2_apply, pay3_apply]
  unfold expB
  simp only [exIx_eq, rowIx_eq]
  rfl

theorem outv_eq (c : Dev nD) (n : ℕ) (y : S256x1024.Idx) : outv T m c n y = G T m c (rowIx (lst T n) y) := by
  have hy : y = ix2 (n0 := 256) (n1 := 1024) (y 0) (y 1) := eq_ix2 y
  exact hy.symm ▸ outv_ix T m c n (y 0) (y 1)

/-- A tile's block of the result array starts at its row. -/
theorem emb5 (t : Fin (cfgA T).N) (y : S256x1024.Idx) : (((cfgA T).win (5 : Fin 6)).rect t).emb y = rowIx (lst T t.val) y := by
  refine funext fun a => Fin.ext ?_
  refine (((cfgA T).win (5 : Fin 6)).rect_emb_val t y a).trans ?_
  exact rows_emb (((cfgA T).win (5 : Fin 6)).index t) (index5 T t) y a

theorem flushed_eq (c : Dev nD) (t : Fin (cfgA T).N) :
    (dats T m ρ 0 c).flushed (5 : Fin 6) t = (((cfgA T).win (5 : Fin 6)).blk t).view.read (Elt Ideal) (G T m c) := by
  funext y
  exact (outv_eq T m c t.val y).trans (congrArg (G T m c) (emb5 T t y).symm)

/-- The result array at the end, at every row of a live tile. -/
theorem arr_out (c : Dev nD) (i : S88576x1024.Idx) (hi : (i 0).val < 256 * T.live) :
    (dats T m ρ 0 c).arrAt (5 : Fin 6) (cfgA T).N i = G T m c i := by
  have hN : (cfgA T).N = 346 := N_A T
  have hl := T.live_le
  have hp := T.live_pos
  have h1 : (i 1).val < 1024 := (i 1).isLt
  -- the point that writes the row's tile out
  obtain ⟨t, ht, hf⟩ : ∃ t : Fin (cfgA T).N, min t.val (T.live - 1) = (i 0).val / 256 ∧ ((cfgA T).win (5 : Fin 6)).flush t = true := by
    by_cases hlast : (i 0).val / 256 + 1 < T.live
    · exact ⟨⟨(i 0).val / 256, by rw [hN]; omega⟩, by show min ((i 0).val / 256) (T.live - 1) = _; omega, (flush5 T _).2 (Or.inr hlast)⟩
    · exact ⟨⟨345, by rw [hN]; omega⟩, by show min 345 (T.live - 1) = _; omega, (flush5 T _).2 (Or.inl rfl)⟩
  refine (dats T m ρ 0 c).arrAt_apply_of_mem (5 : Fin 6) (G T m c) (fun t _ => flushed_eq T m ρ c t) _ t i t.isLt hf ?_
  refine (((cfgA T).win (5 : Fin 6)).emb_mem_blk_iff t i).2 fun a => ?_
  rw [index5, ht]
  match a with
  | ⟨0, _⟩ =>
    show (i 0).val / 256 * 256 ≤ (i 0).val ∧ (i 0).val < (i 0).val / 256 * 256 + 256
    omega
  | ⟨1, _⟩ =>
    show 0 * 1024 ≤ (i 1).val ∧ (i 1).val < 0 * 1024 + 1024
    omega

end Cert.KernelIdeal.Experts

end
-- ==== Proof.Experts.PureReference.lean ====
/- The reference's term at an index, over the extended reals: the one-hot sum over the experts keeps the
   row's own expert, whose feed-forward it is. -/
module

public import proofs.«01_k».proof.Proof.Gen.ReferenceIdeal.Run
public import proofs.«01_k».proof.Proof.Experts.Spec
public import Idealize.ShloMosaic.Lib.Pointwise

@[expose] public section

set_option maxRecDepth 16384

noncomputable section

namespace Cert.ReferenceIdeal.Experts
open Idealize.ShloMosaic Idealize.ShloMosaic.TcCoe Idealize.SL.Sem
open Cert.ReferenceIdeal Cert.ReferenceIdeal.Gen Cert.Experts

/-- The reference's composed term. -/
def REF (te : IVec S346 32) (x : FVec Ideal S88576x1024 .f32) (w1 : FVec Ideal S32x1024x2048 .f32) (b1 : FVec Ideal S32x1x2048 .f32) (w2 : FVec Ideal S32x1024x1024 .f32) (b2 : FVec Ideal S32x1x1024 .f32) : FVec Ideal S88576x1024 .f32 :=
  Host.reduceAdd (mulf (broadcastInDim S32x88576x1024 ![0, 1, 2] bcast_S32x88576x1_S32x88576x1024_0_1_2 (broadcastInDim S32x88576x1 ![0, 1] bcast_S32x88576_S32x88576x1_0_1 (transpose S32x88576 [1, 0] (uitofp .f32 (cmpi .eq (broadcastInDim S88576x32 ![0, 1] bcast_S88576x1_S88576x32_0_1 (broadcastInDim S88576x1 ![0] bcast_S88576_S88576x1_0 (shapeCast _ (broadcastInDim S346x256 ![0] bcast_S346_S346x256_0 te) shapeCasts_S346x256_S88576))) (broadcastInDim S88576x32 ![0, 1] bcast_S1x32_S88576x32_0_1 (iotaInDim S1x32 32 1)))) transposes_S88576x32_S32x88576_1_0))) (addf (Host.dotGeneral dot_S32x88576x1024_S32x1024x1024_S32x88576x1024_2_1_1_2_0_0 none (mulf (mulf (addf (minimumf (broadcastInDim S32x88576x1024 ![] bcast_S_S32x88576x1024 (id (constant S_ .f32 0x40E00000#32))) (maximumf (broadcastInDim S32x88576x1024 ![] bcast_S_S32x88576x1024 (id (constant S_ .f32 0xC0E00000#32))) (extractStridedSlice S32x88576x1024 ![0, 0, 1024] (addf (transpose S32x88576x2048 [0, 2, 1] (Host.dotGeneral dot_S32x1024x2048_S88576x1024_S32x2048x88576_1_1_02_0_n_n none w1 x) transposes_S32x2048x88576_S32x88576x2048_0_2_1) (broadcastInDim S32x88576x2048 ![0, 1, 2] bcast_S32x1x2048_S32x88576x2048_0_1_2 b1)) slices_S32x88576x2048_S32x88576x1024_0_0_1024))) (broadcastInDim S32x88576x1024 ![] bcast_S_S32x88576x1024 (constant S_ .f32 0x3F800000#32))) (minimumf (extractStridedSlice S32x88576x1024 ![0, 0, 0] (addf (transpose S32x88576x2048 [0, 2, 1] (Host.dotGeneral dot_S32x1024x2048_S88576x1024_S32x2048x88576_1_1_02_0_n_n none w1 x) transposes_S32x2048x88576_S32x88576x2048_0_2_1) (broadcastInDim S32x88576x2048 ![0, 1, 2] bcast_S32x1x2048_S32x88576x2048_0_1_2 b1)) slices_S32x88576x2048_S32x88576x1024_0_0_0) (broadcastInDim S32x88576x1024 ![] bcast_S_S32x88576x1024 (constant S_ .f32 0x40E00000#32)))) (Host.divf (broadcastInDim S32x88576x1024 ![] bcast_S_S32x88576x1024 (constant S_ .f32 0x3F800000#32)) (addf (broadcastInDim S32x88576x1024 ![] bcast_S_S32x88576x1024 (constant S_ .f32 0x3F800000#32)) (Host.exp (Host.negf (mulf (broadcastInDim S32x88576x1024 ![] bcast_S_S32x88576x1024 (constant S_ .f32 0x3FD9DB23#32)) (minimumf (extractStridedSlice S32x88576x1024 ![0, 0, 0] (addf (transpose S32x88576x2048 [0, 2, 1] (Host.dotGeneral dot_S32x1024x2048_S88576x1024_S32x2048x88576_1_1_02_0_n_n none w1 x) transposes_S32x2048x88576_S32x88576x2048_0_2_1) (broadcastInDim S32x88576x2048 ![0, 1, 2] bcast_S32x1x2048_S32x88576x2048_0_1_2 b1)) slices_S32x88576x2048_S32x88576x1024_0_0_0) (broadcastInDim S32x88576x1024 ![] bcast_S_S32x88576x1024 (constant S_ .f32 0x40E00000#32))))))))) w2) (broadcastInDim S32x88576x1024 ![0, 1, 2] bcast_S32x1x1024_S32x88576x1024_0_1_2 b2))) (constant S_ .f32 0x00000000#32) reducesTo_S32x88576x1024_S88576x1024_d0 h_S_

/-- The one-hot sum over the experts, at a row and a column. -/
theorem ref_sum (te : IVec S346 32) (x : FVec Ideal S88576x1024 .f32) (w1 : FVec Ideal S32x1024x2048 .f32) (b1 : FVec Ideal S32x1x2048 .f32)
    (w2 : FVec Ideal S32x1024x1024 .f32) (b2 : FVec Ideal S32x1x1024 .f32) (r : Fin 88576) (c : Fin 1024) :
    REF te x w1 b1 w2 b2 (ix2 r c)
      = ∑ e : Fin 32, (FloatOps.uitofp (F := Ideal) FTy.f32 (IntOp.cmpi CmpIPredicate.eq (te (ix1 ⟨r.val / 256, by omega⟩)) (BitVec.ofNat 32 e.val)) : EReal)
          * ffn (fun d => x (ix2 r d)) (fun d f => w1 (ix3 e d f)) (fun f => b1 (ix3 e 0 f)) (fun f c => w2 (ix3 e f c)) (fun c => b2 (ix3 e 0 c)) c := by
  pointwise [REF, ffn, act, gate, hid, id_eq]
  simp only [mul_comm (w1 _)]

/-- A one-hot entry, converted: one where the words agree, zero elsewhere. -/
theorem onehot (a b : BitVec 32) : (FloatOps.uitofp (F := Ideal) FTy.f32 (IntOp.cmpi CmpIPredicate.eq a b) : EReal) = if a = b then 1 else 0 := by
  by_cases h : a = b
  · subst h
    rw [if_pos rfl]
    have e : IntOp.cmpi CmpIPredicate.eq a a = 1#1 := by simp [IntOp.cmpi]
    rw [e]
    show (((1#1 : BitVec 1).toNat : ℝ) : EReal) = 1
    simp
  · rw [if_neg h]
    have e : IntOp.cmpi CmpIPredicate.eq a b = 0#1 := by
      show BitVec.ofBool (a == b) = 0#1
      rw [beq_eq_false_iff_ne.mpr h]; rfl
    rw [e]
    show (((0#1 : BitVec 1).toNat : ℝ) : EReal) = 0
    simp

/-- At a row whose tile's expert is `e`, the reference is that expert's feed-forward. -/
theorem ref_apply (te : IVec S346 32) (x : FVec Ideal S88576x1024 .f32) (w1 : FVec Ideal S32x1024x2048 .f32) (b1 : FVec Ideal S32x1x2048 .f32)
    (w2 : FVec Ideal S32x1024x1024 .f32) (b2 : FVec Ideal S32x1x1024 .f32) (r : Fin 88576) (c : Fin 1024) (e : Fin 32)
    (he : (te (ix1 ⟨r.val / 256, by omega⟩)).toNat = e.val) :
    REF te x w1 b1 w2 b2 (ix2 r c)
      = ffn (fun d => x (ix2 r d)) (fun d f => w1 (ix3 e d f)) (fun f => b1 (ix3 e 0 f)) (fun f c => w2 (ix3 e f c)) (fun c => b2 (ix3 e 0 c)) c := by
  rw [ref_sum, Finset.sum_eq_single e]
  · rw [onehot, if_pos, one_mul]
    exact BitVec.eq_of_toNat_eq (he.trans (by rw [BitVec.toNat_ofNat, Nat.mod_eq_of_lt]; omega))
  · intro e' _ hne
    rw [onehot, if_neg, zero_mul]
    intro h
    refine hne (Fin.ext ?_)
    have h2 := congrArg BitVec.toNat h
    rw [he, BitVec.toNat_ofNat, Nat.mod_eq_of_lt (by omega)] at h2
    exact h2.symm
  · intro h; exact absurd (Finset.mem_univ e) h

end Cert.ReferenceIdeal.Experts

end
-- ==== Proof.Experts.Agree.lean ====
/- Kernel and reference leave the same result at the selected rows. -/
module

public import proofs.«01_k».proof.Proof.Experts.QuietIdeal
public import proofs.«01_k».proof.Proof.Experts.Mask
public import proofs.«01_k».proof.Proof.Experts.Value
public import proofs.«01_k».proof.Proof.Experts.PureReference
public import Idealize.ShloMosaic.Lib.Claim
public import Idealize.ShloMosaic.Lib.Quiescent

@[expose] public section

noncomputable section

namespace Cert.Experts

open Idealize.ShloMosaic Idealize.SL.Sem
open Cert.KernelIdeal.Experts (Tabs Holds exF G)

/-- The reference's frame: it runs from any memory. -/
theorem reference_quiet (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun r h => ⟨fun c => (h c).2, sem_eq_zero_of_no_sems rfl r.2⟩) (Cert.ReferenceIdeal.Value.run m g)

/-- The reference's term at a live row is what the kernel's result holds there. -/
theorem ref_eq_G (T : Tabs) (m : (ℓ : Loc Cert.KernelIdeal.nD Cert.KernelIdeal.τ Cert.KernelIdeal.sig) → Buf (Elt Ideal) ℓ) (hT : Holds T m) (c : Dev Cert.KernelIdeal.nD)
    (r : Fin 88576) (k : Fin 1024) (hr : r.val < 256 * T.live) :
    Cert.ReferenceIdeal.Experts.REF (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (ix2 r k)
      = G T m c (ix2 r k) := by
  rw [Cert.ReferenceIdeal.Experts.ref_apply _ _ _ _ _ _ r k (exF T ⟨r.val / 256, by omega⟩)
    (by rw [hT.1 c]; exact congrArg (fun j => (T.te j).toNat) (Cert.KernelIdeal.Experts.idx346_eq _ ⟨r.val / 256, by omega⟩ rfl))]
  rfl

theorem agree : Cert.algebraic_KernelIdeal_ReferenceIdeal_on_live_rows := fun m g m' g' hp ha => by
  obtain ⟨T, hT⟩ := Cert.KernelIdeal.Experts.holds_of_pre m hp
  refine ⟨fun c => G T m c, ?_, ?_⟩
  · refine (θ_run Cert.KernelIdeal.defs _ _).mono (fun r h c => ⟨fun i hi => ?_, h.2 c⟩)
      (θ_run_and (Cert.KernelIdeal.Experts.run_main T m g hT) (Cert.KernelIdeal.Experts.unchanged T m g hT))
    exact (congrFun ((h.1 c).1 (5 : Fin 6)) i).trans
      (Cert.KernelIdeal.Experts.arr_out T m g c i (Cert.KernelIdeal.Experts.mask_live T _ _ (hT.2 c).symm _ _ _ _ _ i hi))
  · refine (θ_run Cert.ReferenceIdeal.defs _ _).mono (fun r h c => ⟨fun i hi => ?_, (h c).2⟩) (Cert.ReferenceIdeal.Value.run m' g')
    have hl := Cert.KernelIdeal.Experts.mask_live T _ _ (hT.2 c).symm _ _ _ _ _ i hi
    obtain ⟨a0, a1, a2, a3, a4, a5, a6⟩ := ha c
    have e := congrFun (h c).1 i
    rw [a0, a2, a3, a4, a5, a6] at e
    have hi' : i = ix2 (n0 := 88576) (n1 := 1024) (i 0) (i 1) := by funext a; match a with | ⟨0, _⟩ => rfl | ⟨1, _⟩ => rfl
    refine e.trans ?_
    have := ref_eq_G T m hT c (i 0) (i 1) hl
    rw [← hi'] at this
    exact this

end Cert.Experts

end
-- ==== Proof.Sample.Spec.lean ====
/- What the two sequence mixers compute of one batch of sample rows, over the extended reals: the
   in-projection, the gated mixer with its group norms, the four-tap convolution, the gates of the linear
   recurrence, its next state, and the two halves of the mixed output. -/
module

public import Idealize.ShloMosaic.Lib.Pointwise

@[expose] public section

noncomputable section

namespace Cert.Sample

open Idealize.ShloMosaic

/-- The arguments that one step of the mixers reads, entry by entry. -/
structure Args where
  /-- the rows of the stream -/
  x : Fin 256 → Fin 1024 → EReal
  /-- the weights of the norm before the in-projection -/
  gm : Fin 1024 → EReal
  /-- the in-projection -/
  w : Fin 1024 → Fin 2048 → EReal
  /-- the weights of the norm of `v` -/
  gv : Fin 512 → EReal
  /-- each column's token-mixing weight at the first position -/
  ws : Fin 512 → EReal
  /-- each column's token-mixing bias at the first position -/
  bs : Fin 512 → EReal
  /-- the convolution's taps -/
  cw : Fin 4 → Fin 512 → EReal
  /-- the convolution's bias -/
  cb : Fin 512 → EReal
  /-- the recurrence gate's weights, head by head -/
  wa : Fin 8 → Fin 64 → Fin 64 → EReal
  /-- the recurrence gate's bias -/
  ba : Fin 512 → EReal
  /-- the input gate's weights, head by head -/
  wx : Fin 8 → Fin 64 → Fin 64 → EReal
  /-- the input gate's bias -/
  bx : Fin 512 → EReal
  /-- the recurrence's parameter -/
  lam : Fin 512 → EReal
  /-- the weights of the first output norm -/
  ga : Fin 512 → EReal
  /-- the weights of the second output norm -/
  gb : Fin 512 → EReal
  /-- the convolution's state -/
  sc : Fin 3 → Fin 256 → Fin 512 → EReal
  /-- the recurrence's state -/
  sl : Fin 256 → Fin 512 → EReal

/-- The tanh form of gelu. -/
def gelu (u : EReal) : EReal :=
  u * (Ideal.ofBits FTy.f32 0x3F000000#32 * (1 + Ideal.tanh (Ideal.ofBits FTy.f32 0x3F4C422A#32 * (u + Ideal.ofBits FTy.f32 0x3D372713#32 * (u * u * u)))))

/-- The reciprocal root of a mean square `s / n`, with the norms' epsilon. -/
def rms (s n : EReal) : EReal := Ideal.rsqrt (Ideal.div s n + Ideal.ofBits FTy.f32 0x358637BD#32)

/-- The logistic function. -/
def sigm (u : EReal) : EReal := Ideal.div 1 (1 + Ideal.exp (-u))

/-- The softplus function. -/
def softplus (u : EReal) : EReal := max u 0 + Ideal.log1p (Ideal.exp (-(max u (-u))))

variable (A : Args)

/-- The normed row. -/
def nrm (r : Fin 256) (d : Fin 1024) : EReal :=
  A.x r d * rms (∑ e, A.x r e * A.x r e) (Ideal.ofBits FTy.f32 0x44800000#32) * A.gm d

/-- The in-projection. -/
def z (r : Fin 256) (j : Fin 2048) : EReal := ∑ d, nrm A r d * A.w d j

/-- Column `l` of the 128 columns that `c` lies among. -/
def in128 (c : Fin 512) (l : Fin 128) : Fin 512 := ⟨128 * (c.val / 128) + l.val, by omega⟩

/-- Column `l` of the 64 columns that `c` lies among. -/
def in64 (c : Fin 512) (l : Fin 64) : Fin 512 := ⟨64 * (c.val / 64) + l.val, by omega⟩

/-- The norm over groups of 128 columns. -/
def norm128 (u : Fin 512 → EReal) (c : Fin 512) : EReal :=
  u c * rms (∑ l, u (in128 c l) * u (in128 c l)) (Ideal.ofBits FTy.f32 0x43000000#32)

/-- The norm over groups of 64 columns. -/
def norm64 (u : Fin 512 → EReal) (c : Fin 512) : EReal :=
  u c * rms (∑ l, u (in64 c l) * u (in64 c l)) (Ideal.ofBits FTy.f32 0x42800000#32)

/-- The new row of `v`. -/
def v (r : Fin 256) (c : Fin 512) : EReal := norm128 (fun c => gelu (z A r ⟨512 + c.val, by omega⟩)) c * A.gv c

/-- The first mixer before its norm. -/
def ua (r : Fin 256) (c : Fin 512) : EReal := gelu (z A r ⟨c.val, by omega⟩) * (v A r c * A.ws c + A.bs c)

/-- The first half of the mixed row. -/
def ya (r : Fin 256) (c : Fin 512) : EReal := norm128 (ua A r) c * A.ga c

/-- The convolution's input row. -/
def xb (r : Fin 256) (c : Fin 512) : EReal := z A r ⟨1024 + c.val, by omega⟩

/-- The convolution's output. -/
def xc (r : Fin 256) (c : Fin 512) : EReal :=
  A.cb c + A.sc 0 r c * A.cw 0 c + A.sc 1 r c * A.cw 1 c + A.sc 2 r c * A.cw 2 c + xb A r c * A.cw 3 c

/-- A gate of the recurrence: the logistic of a block-diagonal product. -/
def gate (w : Fin 8 → Fin 64 → Fin 64 → EReal) (b : Fin 512 → EReal) (r : Fin 256) (c : Fin 512) : EReal :=
  sigm (∑ i, w ⟨c.val / 64, by omega⟩ i ⟨c.val % 64, by omega⟩ * xc A r (in64 c i) + b c)

/-- The logarithm of the recurrence's decay. -/
def loga (r : Fin 256) (c : Fin 512) : EReal := Ideal.ofBits FTy.f32 0xC1000000#32 * gate A A.wa A.ba r c * softplus (-A.lam c)

/-- The recurrence's next state. -/
def ht (r : Fin 256) (c : Fin 512) : EReal :=
  Ideal.exp (loga A r c) * A.sl r c
    + Ideal.sqrt (-(Ideal.exp (Ideal.ofBits FTy.f32 0x40000000#32 * loga A r c) - 1)) * gate A A.wx A.bx r c * xc A r c

/-- The second mixer before its norm. -/
def ub (r : Fin 256) (c : Fin 512) : EReal := ht A r c * gelu (z A r ⟨1536 + c.val, by omega⟩)

/-- The second half of the mixed row. -/
def yb (r : Fin 256) (c : Fin 512) : EReal := norm64 (ub A r) c * A.gb c

/-- The entries that the sample step reads of its whole arguments: the rows from 16384 on, the token-mixing weights
    and biases at the first position, a bias laid out head by head. -/
def args (h : FVec Ideal ⟨2, ![16640, 1024]⟩ .f32) (sconv : FVec Ideal ⟨3, ![3, 256, 512]⟩ .f32) (slru : FVec Ideal ⟨2, ![256, 512]⟩ .f32)
    (gmix : FVec Ideal ⟨1, ![1024]⟩ .f32) (win : FVec Ideal ⟨2, ![1024, 2048]⟩ .f32) (gv : FVec Ideal ⟨1, ![512]⟩ .f32)
    (ws : FVec Ideal ⟨3, ![4, 128, 128]⟩ .f32) (bs : FVec Ideal ⟨2, ![4, 128]⟩ .f32) (cw : FVec Ideal ⟨2, ![4, 512]⟩ .f32) (cb : FVec Ideal ⟨1, ![512]⟩ .f32)
    (wa : FVec Ideal ⟨3, ![8, 64, 64]⟩ .f32) (ba : FVec Ideal ⟨2, ![8, 64]⟩ .f32) (wx : FVec Ideal ⟨3, ![8, 64, 64]⟩ .f32) (bx : FVec Ideal ⟨2, ![8, 64]⟩ .f32)
    (lam ga gb : FVec Ideal ⟨1, ![512]⟩ .f32) : Args where
  x r d := h (ix2 ⟨16384 + r.val, by omega⟩ d)
  gm d := gmix (ix1 d)
  w d j := win (ix2 d j)
  gv c := gv (ix1 c)
  ws c := ws (ix3 ⟨c.val / 128, by omega⟩ 0 0)
  bs c := bs (ix2 ⟨c.val / 128, by omega⟩ 0)
  cw k c := cw (ix2 k c)
  cb c := cb (ix1 c)
  wa e i j := wa (ix3 e i j)
  ba c := ba (ix2 ⟨c.val / 64, by omega⟩ ⟨c.val % 64, by omega⟩)
  wx e i j := wx (ix3 e i j)
  bx c := bx (ix2 ⟨c.val / 64, by omega⟩ ⟨c.val % 64, by omega⟩)
  lam c := lam (ix1 c)
  ga c := ga (ix1 c)
  gb c := gb (ix1 c)
  sc k r c := sconv (ix3 k r c)
  sl r c := slru (ix2 r c)

end Cert.Sample

end
-- ==== Proof.Sample.Math.lean ====
/- Identities over the extended reals behind the two ways of writing the mixers' formulas: the halves of a
   masked sum, a block-diagonal product, a division by 64, the decay's complement, and gelu's two orders. -/
module

public import proofs.«01_k».proof.Proof.Sample.Spec
public import Idealize.ShloMosaic.Lib.IdealHost

@[expose] public section

noncomputable section

namespace Cert.Sample

open Idealize.ShloMosaic

theorem bits_two : Ideal.ofBits FTy.f32 0x40000000#32 = ((2 : ℝ) : EReal) := by
  simp [Ideal.ofBits, Ideal.ieee, ← EReal.coe_mul]; norm_num
theorem bits_64 : Ideal.ofBits FTy.f32 0x42800000#32 = ((64 : ℝ) : EReal) := by
  simp [Ideal.ofBits, Ideal.ieee, ← EReal.coe_mul]; norm_num
theorem bits_64inv : Ideal.ofBits FTy.f32 0x3C800000#32 = ((1 / 64 : ℝ) : EReal) := by
  simp [Ideal.ofBits, Ideal.ieee, ← EReal.coe_mul]; norm_num

/-- A mean over 64 entries, by a product or by a quotient. -/
theorem rms_64 (s : EReal) : Ideal.rsqrt (s * Ideal.ofBits FTy.f32 0x3C800000#32 + Ideal.ofBits FTy.f32 0x358637BD#32)
    = rms s (Ideal.ofBits FTy.f32 0x42800000#32) := by
  rw [rms, bits_64, bits_64inv, Ideal.div_coe (by norm_num)]

/-- gelu with the half taken first. -/
theorem gelu_half (u : EReal) : Ideal.ofBits FTy.f32 0x3F000000#32 * u
    * (1 + Ideal.tanh (Ideal.ofBits FTy.f32 0x3F4C422A#32 * (u + Ideal.ofBits FTy.f32 0x3D372713#32 * (u * u * u)))) = gelu u := by
  rw [gelu, mul_comm _ u, mul_assoc]

/-- One minus the squared decay, by the hyperbolic tangent. -/
theorem decay (L : EReal) : (0 - Ideal.tanh L) * (Ideal.exp L * Ideal.exp L + 1)
    = -(Ideal.exp (Ideal.ofBits FTy.f32 0x40000000#32 * L) - 1) := by
  rw [bits_two]
  induction L with
  | bot =>
    rw [EReal.coe_mul_bot_of_pos (by norm_num), Ideal.tanh_bot, Ideal.exp_bot]
    norm_num
  | top =>
    rw [EReal.coe_mul_top_of_pos (by norm_num), Ideal.tanh_top, Ideal.exp_top]
    have h1 : (⊤ : EReal) * ⊤ + 1 = ⊤ := by rw [EReal.top_mul_top]; rfl
    have h2 : (⊤ : EReal) - 1 = ⊤ := rfl
    have h3 : (0 : EReal) - 1 = ((-1 : ℝ) : EReal) := by rw [zero_sub]; rfl
    rw [h1, h2, h3, EReal.coe_mul_top_of_neg (by norm_num)]; rfl
  | coe l =>
    rw [← EReal.coe_mul, Ideal.tanh_coe, Ideal.exp_coe, Ideal.exp_coe, ← EReal.coe_one, ← EReal.coe_mul, ← EReal.coe_add, ← EReal.coe_zero,
      ← EReal.coe_sub, ← EReal.coe_mul, ← EReal.coe_sub, ← EReal.coe_neg]
    congr 1
    have e : Real.exp (2 * l) = Real.exp l * Real.exp l := by rw [two_mul, Real.exp_add]
    have hp := Real.exp_pos l
    rw [e, Real.tanh_eq_sinh_div_cosh, Real.sinh_eq, Real.cosh_eq, Real.exp_neg]
    field_simp
    ring

/-- The lanes below 64 of a masked sum. -/
theorem sum_low (f : Fin 128 → EReal) : (∑ l : Fin 128, if l.val < 64 then f l else 0) = ∑ i : Fin 64, f ⟨i.val, by omega⟩ := by
  refine (Fintype.sum_of_injective (fun i : Fin 64 => (⟨i.val, by omega⟩ : Fin 128)) (fun i j h => ?_) (fun i : Fin 64 => f ⟨i.val, by omega⟩)
    (fun l : Fin 128 => if l.val < 64 then f l else 0) (fun l hl => if_neg fun h => hl ⟨⟨l.val, h⟩, rfl⟩) (fun i => (if_pos i.isLt).symm)).symm
  have := congrArg Fin.val h; exact Fin.ext this

/-- The lanes from 64 on of a masked sum. -/
theorem sum_high (f : Fin 128 → EReal) : (∑ l : Fin 128, if l.val < 64 then 0 else f l) = ∑ i : Fin 64, f ⟨64 + i.val, by omega⟩ := by
  refine (Fintype.sum_of_injective (fun i : Fin 64 => (⟨64 + i.val, by omega⟩ : Fin 128)) (fun i j h => ?_) (fun i : Fin 64 => f ⟨64 + i.val, by omega⟩)
    (fun l : Fin 128 => if l.val < 64 then 0 else f l) (fun l hl => ?_) (fun i => ?_)).symm
  · have : 64 + i.val = 64 + j.val := congrArg Fin.val h
    exact Fin.ext (by omega)
  · by_cases h : l.val < 64
    · exact if_pos h
    · exact absurd ⟨(⟨l.val - 64, by omega⟩ : Fin 64), Fin.ext (by show 64 + (l.val - 64) = l.val; omega)⟩ hl
  · have : ¬ (64 + i.val < 64) := by omega
    exact (if_neg this).symm

/-- A product with a matrix whose entries off the diagonal blocks are zero. -/
theorem sum_block (g : Fin 512 → EReal) (c : Fin 512) (h : ∀ k : Fin 512, k.val / 64 ≠ c.val / 64 → g k = 0) :
    ∑ k, g k = ∑ i : Fin 64, g (in64 c i) :=
  (Fintype.sum_of_injective (in64 c) (fun i j h => Fin.ext (by have := congrArg Fin.val h; simp only [in64] at this; omega)) _ _
    (fun k hk => h k fun e => hk ⟨⟨k.val % 64, by omega⟩, Fin.ext (by simp only [in64]; omega)⟩) (fun _ => rfl)).symm

end Cert.Sample

end
-- ==== Proof.Sample.PureKernel.lean ====
/- The kernel's payloads at an index, over the extended reals: the four stored blocks are the mixers' values
   of their rows. -/
module

public import proofs.«01_k».proof.Proof.Gen.Kernel2Ideal.Skeleton
public import proofs.«01_k».proof.Proof.Sample.Math
public import Idealize.ShloMosaic.Lib.Pointwise

@[expose] public section

set_option maxRecDepth 16384

noncomputable section

namespace Cert.Kernel2Ideal.Sample

open Idealize.ShloMosaic Idealize.ShloMosaic.TcCoe Idealize.SL.Sem
open Cert.Kernel2Ideal Cert.Kernel2Ideal.Gen Cert.Sample

/-- Groups of 128: the group's number named. -/
theorem norm128_at (u : Fin 512 → EReal) (c : Fin 512) (q : Nat) (hq : c.val / 128 = q) :
    norm128 u c = u c * rms (∑ l : Fin 128, u ⟨128 * q + l.val, by omega⟩ * u ⟨128 * q + l.val, by omega⟩) (Ideal.ofBits FTy.f32 0x43000000#32) := by
  subst hq; rfl

/-- Groups of 64: the group's number named. -/
theorem norm64_at (u : Fin 512 → EReal) (c : Fin 512) (q : Nat) (hq : c.val / 64 = q) :
    norm64 u c = u c * rms (∑ l : Fin 64, u ⟨64 * q + l.val, by omega⟩ * u ⟨64 * q + l.val, by omega⟩) (Ideal.ofBits FTy.f32 0x42800000#32) := by
  subst hq; rfl

/-- The lanes below 64, as a mask. -/
theorem select_low {α : Type} (l : Fin 128) (a b : α) : Scalar.select (k0_pay31 (ix2 0 l)) a b = if l.val < 64 then a else b := by
  have h : k0_pay31 (ix2 0 l) = IntOp.cmpi CmpIPredicate.slt (BitVec.ofNat 32 l.val) 64#32 := by pointwise [k0_pay31]
  rw [h]
  revert l
  have hd : ∀ l : Fin 128, (IntOp.cmpi CmpIPredicate.slt (BitVec.ofNat 32 l.val) 64#32 = 1) ↔ l.val < 64 := by decide
  intro l _
  rw [Scalar.select]
  by_cases hl : l.val < 64
  · rw [if_pos hl, if_pos ((hd l).mpr hl)]
  · rw [if_neg hl, if_neg fun e => hl ((hd l).mp e)]

/-- The masked mean of a lane's half of 128 columns: the norm over groups of 64. -/
theorem half64 (u : Fin 512 → EReal) (c : Fin 512) (q : Nat) (hq : c.val / 128 = q) (l : Fin 128) (hl : 128 * q + l.val = c.val) :
    u c * Ideal.rsqrt ((if l.val < 64 then ∑ k : Fin 128, (if k.val < 64 then u ⟨128 * q + k.val, by omega⟩ * u ⟨128 * q + k.val, by omega⟩ else 0)
        else ∑ k : Fin 128, (if k.val < 64 then 0 else u ⟨128 * q + k.val, by omega⟩ * u ⟨128 * q + k.val, by omega⟩))
          * Ideal.ofBits FTy.f32 0x3C800000#32 + Ideal.ofBits FTy.f32 0x358637BD#32) = norm64 u c := by
  rw [rms_64, sum_low (fun k => u ⟨128 * q + k.val, by omega⟩ * u ⟨128 * q + k.val, by omega⟩),
    sum_high (fun k => u ⟨128 * q + k.val, by omega⟩ * u ⟨128 * q + k.val, by omega⟩)]
  by_cases h : l.val < 64
  · rw [if_pos h, norm64_at u c (2 * q) (by omega)]
    have e : 64 * (2 * q) = 128 * q := by omega
    simp only [e]
  · rw [if_neg h, norm64_at u c (2 * q + 1) (by omega)]
    have e : 64 * (2 * q + 1) = 128 * q + 64 := by omega
    simp only [e, Nat.add_assoc]

variable (A : Args)

/-- What the staged blocks hold: the arguments' entries, each gate's weights laid out as a block-diagonal matrix. -/
structure Holds (x : Vec Ideal S256x1024 .f32) (g : Vec Ideal S1x1024 .f32) (w : Vec Ideal S1024x2048 .bf16) (gv ws bs : Vec Ideal S1x512 .f32)
    (cw : Vec Ideal S4x512 .f32) (cb : Vec Ideal S1x512 .f32) (wa : Vec Ideal S512x512 .bf16) (ba : Vec Ideal S1x512 .f32)
    (wx : Vec Ideal S512x512 .bf16) (bx lam ga gb : Vec Ideal S1x512 .f32) (sc : Vec Ideal S3x256x512 .f32) (sl : Vec Ideal S256x512 .f32) : Prop where
  x : ∀ r d, x (ix2 r d) = A.x r d
  g : ∀ d, g (ix2 0 d) = A.gm d
  w : ∀ d j, w (ix2 d j) = A.w d j
  gv : ∀ c, gv (ix2 0 c) = A.gv c
  ws : ∀ c, ws (ix2 0 c) = A.ws c
  bs : ∀ c, bs (ix2 0 c) = A.bs c
  cw : ∀ k c, cw (ix2 k c) = A.cw k c
  cb : ∀ c, cb (ix2 0 c) = A.cb c
  wa : ∀ k c : Fin 512, wa (ix2 k c) = if k.val / 64 = c.val / 64 then A.wa ⟨c.val / 64, by omega⟩ ⟨k.val % 64, by omega⟩ ⟨c.val % 64, by omega⟩ else 0
  ba : ∀ c, ba (ix2 0 c) = A.ba c
  wx : ∀ k c : Fin 512, wx (ix2 k c) = if k.val / 64 = c.val / 64 then A.wx ⟨c.val / 64, by omega⟩ ⟨k.val % 64, by omega⟩ ⟨c.val % 64, by omega⟩ else 0
  bx : ∀ c, bx (ix2 0 c) = A.bx c
  lam : ∀ c, lam (ix2 0 c) = A.lam c
  ga : ∀ c, ga (ix2 0 c) = A.ga c
  gb : ∀ c, gb (ix2 0 c) = A.gb c
  sc : ∀ k r c, sc (ix3 k r c) = A.sc k r c
  sl : ∀ r c, sl (ix2 r c) = A.sl r c

section
variable (x : Vec Ideal S256x1024 .f32) (g : Vec Ideal S1x1024 .f32) (hx : ∀ r d, x (ix2 r d) = A.x r d) (hg : ∀ d, g (ix2 0 d) = A.gm d)
include hx hg

theorem pay2_eq (r : Fin 256) (d : Fin 1024) : k0_pay2 (F := Ideal) x g (ix2 r d) = nrm A r d := by
  pointwise [k0_pay2, nrm, rms, hx, hg]

theorem pay3_eq (w : Vec Ideal S1024x512 .bf16) (hw : ∀ d (c : Fin 512), w (ix2 d c) = A.w d ⟨512 + c.val, by omega⟩) (r : Fin 256) (c : Fin 512) :
    k0_pay3 (F := Ideal) x g w (ix2 r c) = gelu (z A r ⟨512 + c.val, by omega⟩) := by
  pointwise [k0_pay3, pay2_eq A x g hx hg, hw]
  exact gelu_half (z A r ⟨512 + c.val, by omega⟩)

/-- The stored row of `v`. -/
theorem pay7_eq (w : Vec Ideal S1024x512 .bf16) (hw : ∀ d (c : Fin 512), w (ix2 d c) = A.w d ⟨512 + c.val, by omega⟩)
    (gv : Vec Ideal S1x512 .f32) (hgv : ∀ c, gv (ix2 0 c) = A.gv c) (r : Fin 256) (c : Fin 512) :
    k0_pay7 (F := Ideal) (k0_pay3 x g w) (k0_pay4 gv) (k0_pay5 x g w) (k0_pay6 x g w) (Scalar.ofBits .f32 0x358637BD#32) (ix2 r c) = v A r c := by
  pointwise [k0_pay7, k0_pay4, k0_pay5, k0_pay6, pay3_eq A x g hx hg w hw, hgv, v]
  congr 1
  split
  · rw [norm128_at _ c 0 (by omega)]
    simp only [Nat.mul_zero, Nat.zero_add, rms]
  split
  · rw [norm128_at _ c 1 (by omega)]
    have e : 128 + (c.val - 128) = c.val := by omega
    simp only [Nat.mul_one, rms, e]
  split
  · rw [norm128_at _ c 2 (by omega)]
    have e : 256 + (c.val - 128 - 128) = c.val := by omega
    simp only [Nat.reduceMul, rms, e]
  · rw [norm128_at _ c 3 (by omega)]
    have e : 384 + (c.val - 128 - 128 - 128) = c.val := by omega
    simp only [Nat.reduceMul, rms, e]

/-- The first mixer before its norm. -/
theorem pay9_eq (w : Vec Ideal S1024x512 .bf16) (hw : ∀ d (c : Fin 512), w (ix2 d c) = A.w d ⟨c.val, by omega⟩)
    (p : FVec Ideal S256x512 .f32) (hp : ∀ r c, p (ix2 r c) = v A r c * A.ws c) (bs : Vec Ideal S1x512 .f32) (hbs : ∀ c, bs (ix2 0 c) = A.bs c)
    (r : Fin 256) (c : Fin 512) : k0_pay9 (F := Ideal) (k0_pay2 x g) p bs w (ix2 r c) = ua A r c := by
  pointwise [k0_pay9, pay2_eq A x g hx hg, hw, hp, hbs, ua]
  exact congrArg (· * (v A r c * A.ws c + A.bs c)) (gelu_half (z A r ⟨c.val, by omega⟩))

/-- The convolution's input row. -/
theorem pay15_eq (w : Vec Ideal S1024x512 .bf16) (hw : ∀ d (c : Fin 512), w (ix2 d c) = A.w d ⟨1024 + c.val, by omega⟩) (r : Fin 256) (c : Fin 512) :
    k0_pay15 (F := Ideal) (k0_pay2 x g) w (ix2 r c) = xb A r c := by
  pointwise [k0_pay15, pay2_eq A x g hx hg, hw, xb, z]

/-- The second mixer before its norm. -/
theorem pay29_eq (w : Vec Ideal S1024x512 .bf16) (hw : ∀ d (c : Fin 512), w (ix2 d c) = A.w d ⟨1536 + c.val, by omega⟩)
    (v185 v227 v229 : FVec Ideal S256x512 .f32) (v235 v236 v237 : FVec Ideal S1x512 .f32) (v253 : Vec Ideal S256x512 .f32)
    (hh : ∀ r c, k0_pay28 (F := Ideal) v185 v227 v229 v235 v236 v237 v253 (ix2 r c) = ht A r c) (r : Fin 256) (c : Fin 512) :
    k0_pay29 (F := Ideal) (k0_pay2 x g) v185 v227 v229 v235 v236 v237 v253 w (ix2 r c) = ub A r c := by
  pointwise [k0_pay29, pay2_eq A x g hx hg, hw, hh, ub]
  exact congrArg (ht A r c * ·) (gelu_half (z A r ⟨1536 + c.val, by omega⟩))

end

theorem pay8_eq (v31 : FVec Ideal S256x512 .f32) (v33 : FVec Ideal S1x512 .f32) (v34 : FVec Ideal S256x128 .f32) (v39 : FVec Ideal S256x1 .f32) (cst : Ideal .f32)
    (h : ∀ r c, k0_pay7 v31 v33 v34 v39 cst (ix2 r c) = v A r c) (ws : Vec Ideal S1x512 .f32) (hws : ∀ c, ws (ix2 0 c) = A.ws c) (r : Fin 256) (c : Fin 512) :
    k0_pay8 (F := Ideal) v31 v33 v34 v39 cst ws (ix2 r c) = v A r c * A.ws c := by
  pointwise [k0_pay8, h, hws]

/-- The stored first half of the mixed row. -/
theorem pay14_eq (v15 : FVec Ideal S256x1024 .bf16) (v85 : FVec Ideal S256x512 .f32) (v86 : Vec Ideal S1x512 .f32) (v90 : Vec Ideal S1024x512 .bf16)
    (h : ∀ r c, k0_pay9 (F := Ideal) v15 v85 v86 v90 (ix2 r c) = ua A r c) (ga : Vec Ideal S1x512 .f32) (hga : ∀ c, ga (ix2 0 c) = A.ga c) (r : Fin 256) (c : Fin 512) :
    k0_pay14 (F := Ideal) (k0_pay9 v15 v85 v86 v90) (k0_pay10 ga) (k0_pay11 v15 v85 v86 v90) (k0_pay12 v15 v85 v86 v90) (k0_pay13 v15 v85 v86 v90) (ix2 r c)
      = ya A r c := by
  pointwise [k0_pay14, k0_pay10, k0_pay11, k0_pay12, k0_pay13, h, hga, ya]
  congr 1
  split
  · rw [norm128_at _ c 0 (by omega)]
    simp only [Nat.mul_zero, Nat.zero_add, rms]
  split
  · rw [norm128_at _ c 1 (by omega)]
    have e : 128 + (c.val - 128) = c.val := by omega
    simp only [Nat.mul_one, rms, e]
  split
  · rw [norm128_at _ c 2 (by omega)]
    have e : 256 + (c.val - 128 - 128) = c.val := by omega
    simp only [Nat.reduceMul, rms, e]
  · rw [norm128_at _ c 3 (by omega)]
    have e : 384 + (c.val - 128 - 128 - 128) = c.val := by omega
    simp only [Nat.reduceMul, rms, e]

/-- The convolution's output. -/
theorem pay17_eq (v15 : FVec Ideal S256x1024 .bf16) (w : Vec Ideal S1024x512 .bf16) (h : ∀ r c, k0_pay15 (F := Ideal) v15 w (ix2 r c) = xb A r c)
    (cb c0 c1 c2 c3 : Vec Ideal S1x512 .f32) (s0 s1 s2 : Vec Ideal S1x256x512 .f32) (hcb : ∀ c, cb (ix2 0 c) = A.cb c)
    (h0 : ∀ c, c0 (ix2 0 c) = A.cw 0 c) (h1 : ∀ c, c1 (ix2 0 c) = A.cw 1 c) (h2 : ∀ c, c2 (ix2 0 c) = A.cw 2 c) (h3 : ∀ c, c3 (ix2 0 c) = A.cw 3 c)
    (g0 : ∀ r c, s0 (ix3 0 r c) = A.sc 0 r c) (g1 : ∀ r c, s1 (ix3 0 r c) = A.sc 1 r c) (g2 : ∀ r c, s2 (ix3 0 r c) = A.sc 2 r c)
    (r : Fin 256) (c : Fin 512) : k0_pay17 (F := Ideal) (k0_pay16 v15 w cb c3) c0 s0 c1 s1 c2 s2 (ix2 r c) = xc A r c := by
  pointwise [k0_pay17, k0_pay16, h, hcb, h0, h1, h2, h3, g0, g1, g2, xc]
  rw [mul_comm (A.cw 3 c), mul_comm (A.cw 0 c), mul_comm (A.cw 1 c), mul_comm (A.cw 2 c)]
  ac_rfl

/-- A row's product with a block-diagonal matrix keeps the column's own block. -/
theorem block_sum (wd : Fin 8 → Fin 64 → Fin 64 → EReal) (w : Vec Ideal S512x512 .bf16)
    (hw : ∀ k c : Fin 512, w (ix2 k c) = if k.val / 64 = c.val / 64 then wd ⟨c.val / 64, by omega⟩ ⟨k.val % 64, by omega⟩ ⟨c.val % 64, by omega⟩ else 0)
    (f : Fin 512 → EReal) (c : Fin 512) :
    ∑ k : Fin 512, f k * w (ix2 k c) = ∑ i : Fin 64, wd ⟨c.val / 64, by omega⟩ i ⟨c.val % 64, by omega⟩ * f (in64 c i) := by
  rw [sum_block (fun k => f k * w (ix2 k c)) c fun k hk => by rw [hw, if_neg hk, mul_zero]]
  refine Finset.sum_congr rfl fun i _ => ?_
  have e1 : (in64 c i).val / 64 = c.val / 64 := by show (64 * (c.val / 64) + i.val) / 64 = _; omega
  have e2 : (⟨(in64 c i).val % 64, by omega⟩ : Fin 64) = i := Fin.ext (by show (64 * (c.val / 64) + i.val) % 64 = _; omega)
  rw [hw, if_pos e1, e2, mul_comm]

section
variable (v199 : FVec Ideal S256x512 .bf16) (hv : ∀ r c, v199 (ix2 r c) = xc A r c)
include hv

/-- The input gate. -/
theorem pay22_eq (w : Vec Ideal S512x512 .bf16)
    (hw : ∀ k c : Fin 512, w (ix2 k c) = if k.val / 64 = c.val / 64 then A.wx ⟨c.val / 64, by omega⟩ ⟨k.val % 64, by omega⟩ ⟨c.val % 64, by omega⟩ else 0)
    (b : Vec Ideal S1x512 .f32) (hb : ∀ c, b (ix2 0 c) = A.bx c) (r : Fin 256) (c : Fin 512) :
    k0_pay22 (F := Ideal) v199 w b (ix2 r c) = gate A A.wx A.bx r c := by
  pointwise [k0_pay22, hv, hb, gate, sigm, zero_sub]
  rw [block_sum A.wx w hw (fun k => xc A r k) c]

/-- The recurrence's gate, times minus eight. -/
theorem pay23_eq (w : Vec Ideal S512x512 .bf16)
    (hw : ∀ k c : Fin 512, w (ix2 k c) = if k.val / 64 = c.val / 64 then A.wa ⟨c.val / 64, by omega⟩ ⟨k.val % 64, by omega⟩ ⟨c.val % 64, by omega⟩ else 0)
    (b : Vec Ideal S1x512 .f32) (hb : ∀ c, b (ix2 0 c) = A.ba c) (r : Fin 256) (c : Fin 512) :
    k0_pay23 (F := Ideal) v199 w b (ix2 r c) = Ideal.ofBits FTy.f32 0xC1000000#32 * gate A A.wa A.ba r c := by
  pointwise [k0_pay23, hv, hb, gate, sigm, zero_sub]
  rw [block_sum A.wa w hw (fun k => xc A r k) c]

end

/-- The stored next state. -/
theorem pay28_eq (v185 v227 v229 : FVec Ideal S256x512 .f32) (lam : Vec Ideal S1x512 .f32) (sl : Vec Ideal S256x512 .f32)
    (h185 : ∀ r c, v185 (ix2 r c) = xc A r c) (h227 : ∀ r c, v227 (ix2 r c) = gate A A.wx A.bx r c)
    (h229 : ∀ r c, v229 (ix2 r c) = Ideal.ofBits FTy.f32 0xC1000000#32 * gate A A.wa A.ba r c)
    (hl : ∀ c, lam (ix2 0 c) = A.lam c) (hs : ∀ r c, sl (ix2 r c) = A.sl r c) (r : Fin 256) (c : Fin 512) :
    k0_pay28 (F := Ideal) v185 v227 v229 (k0_pay25 lam) (k0_pay26 lam) (k0_pay27 (F := Ideal)) sl (ix2 r c) = ht A r c := by
  have habs : ∀ e : EReal, (FloatOps.absf (F := Ideal) (φ := .f32) e) = max e (-e) := fun _ => rfl
  pointwise [k0_pay28, k0_pay25, k0_pay26, k0_pay27, k0_pay24, h185, h227, h229, hl, hs, zero_sub, habs]
  rw [ht, ← decay, zero_sub, loga, softplus]

/-- The stored second half of the mixed row. -/
theorem pay1_eq (u : FVec Ideal S256x512 .f32) (hu : ∀ r c, u (ix2 r c) = ub A r c) (gb : Vec Ideal S1x512 .f32) (hgb : ∀ c, gb (ix2 0 c) = A.gb c)
    (r : Fin 256) (c : Fin 512) :
    k0_pay1 (F := Ideal) (k0_pay30 gb) (k0_pay32 u k0_pay31) (k0_pay36 (k0_pay33 u) (k0_pay34 u k0_pay31) (k0_pay35 (F := Ideal))) (k0_pay37 u k0_pay31)
      (k0_pay38 u) (k0_pay40 u k0_pay31) (k0_pay41 k0_pay31) (k0_pay42 u k0_pay31) (ix2 r c) = yb A r c := by
  pointwise [k0_pay1, k0_pay30, k0_pay32, k0_pay33, k0_pay34, k0_pay35, k0_pay36, k0_pay37, k0_pay38, k0_pay39, k0_pay40, k0_pay41, k0_pay42, hu, hgb, yb]
  simp only [select_low]
  congr 1
  split
  · rw [← half64 _ c 0 (by omega) ⟨c.val, by omega⟩ (by simp only; omega)]
    simp only [Nat.mul_zero, Nat.zero_add]
  split
  · rw [← half64 _ c 1 (by omega) ⟨c.val - 128, by omega⟩ (by simp only; omega)]
    have e : 128 + (c.val - 128) = c.val := by omega
    simp only [Nat.mul_one, e]
  split
  · rw [← half64 _ c 2 (by omega) ⟨c.val - 128 - 128, by omega⟩ (by simp only; omega)]
    have e : 256 + (c.val - 128 - 128) = c.val := by omega
    simp only [Nat.reduceMul, e]
  · rw [← half64 _ c 3 (by omega) ⟨c.val - 128 - 128 - 128, by omega⟩ (by simp only; omega)]
    have e : 384 + (c.val - 128 - 128 - 128) = c.val := by omega
    simp only [Nat.reduceMul, e]

end Cert.Kernel2Ideal.Sample

end
-- ==== Proof.Sample.Stored.lean ====
/- What the kernel's body leaves in the four staged output blocks: the mixers' values of the staged rows. -/
module

public import proofs.«01_k».proof.Proof.Gen.Kernel2Ideal.Value
public import proofs.«01_k».proof.Proof.Sample.PureKernel

@[expose] public section

set_option maxRecDepth 16384

noncomputable section

namespace Cert.Kernel2Ideal.Sample

open Idealize.ShloMosaic Idealize.ShloMosaic.TcCoe Idealize.SL.Sem
open Cert.Kernel2Ideal Cert.Kernel2Ideal.Gen Cert.Kernel2Ideal.Value Cert.Sample

theorem hz2 : (![0, 0] : Fin 2 → Nat) = fun _ => 0 := funext fun a => by fin_cases a <;> rfl

/-- A load of a unit-stride window of a whole staged block, at an index. -/
theorem load2 {n m p q : Nat} {e : EltTy} (a : Memref sig .tc .vmem ⟨2, ![n, m]⟩ e) (h : a.IsWhole) (x : Vec Ideal ⟨2, ![n, m]⟩ e) (i j : Nat)
    (inb : ∀ k, (![i, j] : Fin 2 → Nat) k + (![p, q] : Fin 2 → Nat) k ≤ (![n, m] : Fin 2 → Nat) k)
    (r : Fin p) (c : Fin q) (r' : Fin n) (c' : Fin m) (hr : r'.val = i + r.val) (hc : c'.val = j + c.val) :
    View.readAt (Elt Ideal) a.view (Rect.unit (s := ⟨2, ![n, m]⟩) ![i, j] ![p, q] inb).toLoadRect (h.unread x) (ix2 r c) = x (ix2 r' c') := by
  rw [View.readAt_eq_ld, h.read_unread, View.ld_unit]
  refine congrArg x (funext fun k => Fin.ext ?_)
  match k with
  | ⟨0, _⟩ => exact hr.symm
  | ⟨1, _⟩ => exact hc.symm

/-- A load of one slot of the staged convolution state, at an index. -/
theorem load3 {n m l : Nat} {e : EltTy} (a : Memref sig .tc .vmem ⟨3, ![n, m, l]⟩ e) (h : a.IsWhole) (x : Vec Ideal ⟨3, ![n, m, l]⟩ e) (i : Nat)
    (inb : ∀ k, (![i, 0, 0] : Fin 3 → Nat) k + (![1, m, l] : Fin 3 → Nat) k ≤ (![n, m, l] : Fin 3 → Nat) k)
    (r : Fin m) (c : Fin l) (s : Fin n) (hs : s.val = i) :
    View.readAt (Elt Ideal) a.view (Rect.unit (s := ⟨3, ![n, m, l]⟩) ![i, 0, 0] ![1, m, l] inb).toLoadRect (h.unread x) (ix3 0 r c) = x (ix3 s r c) := by
  rw [View.readAt_eq_ld, h.read_unread, View.ld_unit]
  refine congrArg x (funext fun k => Fin.ext ?_)
  match k with
  | ⟨0, _⟩ => exact hs.symm
  | ⟨1, _⟩ => exact Nat.zero_add _
  | ⟨2, _⟩ => exact Nat.zero_add _

/-- The mixed rows' block. -/
def Y0 (A : Args) : Vec Ideal S256x1024 .bf16 := fun y =>
  if h : (y 1).val < 512 then ya A (y 0) ⟨(y 1).val, h⟩ else yb A (y 0) ⟨(y 1).val - 512, have := (y 1).isLt; by simp at this; omega⟩

/-- The convolution's next state. -/
def C0 (A : Args) : Vec Ideal S3x256x512 .f32 := fun y =>
  if h : 1 + (y 0).val < 3 then A.sc ⟨1 + (y 0).val, h⟩ (y 1) (y 2) else xb A (y 1) (y 2)

section
variable {A : Args} (c : Dev nD) (i : grid0.Coords)
  {a1 : Memref sig .tc .vmem S256x1024 .f32} (h1 : a1.IsWhole)
  {a3 : Memref sig .tc .vmem S1x1024 .f32} (h3 : a3.IsWhole)
  {a4 : Memref sig .tc .vmem S1024x2048 .bf16} (h4 : a4.IsWhole)
  {a5 : Memref sig .tc .vmem S1x512 .f32} (h5 : a5.IsWhole)
  {a6 : Memref sig .tc .vmem S1x512 .f32} (h6 : a6.IsWhole)
  {a7 : Memref sig .tc .vmem S1x512 .f32} (h7 : a7.IsWhole)
  {a8 : Memref sig .tc .vmem S4x512 .f32} (h8 : a8.IsWhole)
  {a9 : Memref sig .tc .vmem S1x512 .f32} (h9 : a9.IsWhole)
  {a10 : Memref sig .tc .vmem S512x512 .bf16} (h10 : a10.IsWhole)
  {a11 : Memref sig .tc .vmem S1x512 .f32} (h11 : a11.IsWhole)
  {a12 : Memref sig .tc .vmem S512x512 .bf16} (h12 : a12.IsWhole)
  {a13 : Memref sig .tc .vmem S1x512 .f32} (h13 : a13.IsWhole)
  {a14 : Memref sig .tc .vmem S1x512 .f32} (h14 : a14.IsWhole)
  {a15 : Memref sig .tc .vmem S1x512 .f32} (h15 : a15.IsWhole)
  {a16 : Memref sig .tc .vmem S1x512 .f32} (h16 : a16.IsWhole)
  {a17 : Memref sig .tc .vmem S3x256x512 .f32} (h17 : a17.IsWhole)
  {a18 : Memref sig .tc .vmem S256x512 .f32} (h18 : a18.IsWhole)
  {a19 : Memref sig .tc .vmem S256x1024 .bf16} (h19 : a19.IsWhole)
  {a20 : Memref sig .tc .vmem S256x512 .f32} (h20 : a20.IsWhole)
  {a21 : Memref sig .tc .vmem S3x256x512 .f32} (h21 : a21.IsWhole)
  {a22 : Memref sig .tc .vmem S256x512 .f32} (h22 : a22.IsWhole)
  {x0 : Vec Ideal S256x1024 .f32} {x1 : Vec Ideal S1x1024 .f32} {x2 : Vec Ideal S1024x2048 .bf16} {x3 : Vec Ideal S1x512 .f32} {x4 : Vec Ideal S1x512 .f32} {x5 : Vec Ideal S1x512 .f32} {x6 : Vec Ideal S4x512 .f32} {x7 : Vec Ideal S1x512 .f32} {x8 : Vec Ideal S512x512 .bf16} {x9 : Vec Ideal S1x512 .f32} {x10 : Vec Ideal S512x512 .bf16} {x11 : Vec Ideal S1x512 .f32} {x12 : Vec Ideal S1x512 .f32} {x13 : Vec Ideal S1x512 .f32} {x14 : Vec Ideal S1x512 .f32} {x15 : Vec Ideal S3x256x512 .f32} {x16 : Vec Ideal S256x512 .f32}

  (H : Holds A x0 x1 x2 x3 x4 x5 x6 x7 x8 x9 x10 x11 x12 x13 x14 x15 x16)
include H

/-- Every load of the body reads the arguments' entries. -/
theorem lx (r : Fin 256) (d : Fin 1024) (inb) : View.readAt (Elt Ideal) a1.view (Rect.unit (s := S256x1024) ![0, 0] S256x1024.size inb).toLoadRect (h1.unread x0) (ix2 r d) = A.x r d :=
  (load2 a1 h1 x0 0 0 inb r d r d (Nat.zero_add _).symm (Nat.zero_add _).symm).trans (H.x r d)
theorem lg (d : Fin _) (inb) : View.readAt (Elt Ideal) a3.view (Rect.unit (s := S1x1024) ![0, 0] S1x1024.size inb).toLoadRect (h3.unread x1) (ix2 0 d) = A.gm d :=
  (load2 a3 h3 x1 0 0 inb 0 d 0 d rfl (Nat.zero_add _).symm).trans (H.g d)
theorem lw (j : Nat) (hj : j + 512 ≤ 2048) (d : Fin 1024) (k : Fin 512) (inb) : View.readAt (Elt Ideal) a4.view (Rect.unit (s := S1024x2048) ![0, j] S1024x512.size inb).toLoadRect (h4.unread x2) (ix2 d k)
    = A.w d ⟨j + k.val, by omega⟩ :=
  (load2 a4 h4 x2 0 j inb d k d ⟨j + k.val, by omega⟩ (Nat.zero_add _).symm rfl).trans (H.w d _)
theorem lw0 (d : Fin 1024) (k : Fin 512) (inb) : View.readAt (Elt Ideal) a4.view (Rect.unit (s := S1024x2048) ![0, 0] S1024x512.size inb).toLoadRect (h4.unread x2) (ix2 d k)
    = A.w d ⟨k.val, by omega⟩ :=
  (load2 a4 h4 x2 0 0 inb d k d ⟨k.val, by omega⟩ (Nat.zero_add _).symm (Nat.zero_add _).symm).trans (H.w d _)
theorem lgv (d : Fin _) (inb) : View.readAt (Elt Ideal) a5.view (Rect.unit (s := S1x512) ![0, 0] S1x512.size inb).toLoadRect (h5.unread x3) (ix2 0 d) = A.gv d :=
  (load2 a5 h5 x3 0 0 inb 0 d 0 d rfl (Nat.zero_add _).symm).trans (H.gv d)
theorem lws (d : Fin _) (inb) : View.readAt (Elt Ideal) a6.view (Rect.unit (s := S1x512) ![0, 0] S1x512.size inb).toLoadRect (h6.unread x4) (ix2 0 d) = A.ws d :=
  (load2 a6 h6 x4 0 0 inb 0 d 0 d rfl (Nat.zero_add _).symm).trans (H.ws d)
theorem lbs (d : Fin _) (inb) : View.readAt (Elt Ideal) a7.view (Rect.unit (s := S1x512) ![0, 0] S1x512.size inb).toLoadRect (h7.unread x5) (ix2 0 d) = A.bs d :=
  (load2 a7 h7 x5 0 0 inb 0 d 0 d rfl (Nat.zero_add _).symm).trans (H.bs d)
theorem lcb (d : Fin _) (inb) : View.readAt (Elt Ideal) a9.view (Rect.unit (s := S1x512) ![0, 0] S1x512.size inb).toLoadRect (h9.unread x7) (ix2 0 d) = A.cb d :=
  (load2 a9 h9 x7 0 0 inb 0 d 0 d rfl (Nat.zero_add _).symm).trans (H.cb d)
theorem lba (d : Fin _) (inb) : View.readAt (Elt Ideal) a11.view (Rect.unit (s := S1x512) ![0, 0] S1x512.size inb).toLoadRect (h11.unread x9) (ix2 0 d) = A.ba d :=
  (load2 a11 h11 x9 0 0 inb 0 d 0 d rfl (Nat.zero_add _).symm).trans (H.ba d)
theorem lbx (d : Fin _) (inb) : View.readAt (Elt Ideal) a13.view (Rect.unit (s := S1x512) ![0, 0] S1x512.size inb).toLoadRect (h13.unread x11) (ix2 0 d) = A.bx d :=
  (load2 a13 h13 x11 0 0 inb 0 d 0 d rfl (Nat.zero_add _).symm).trans (H.bx d)
theorem llam (d : Fin _) (inb) : View.readAt (Elt Ideal) a14.view (Rect.unit (s := S1x512) ![0, 0] S1x512.size inb).toLoadRect (h14.unread x12) (ix2 0 d) = A.lam d :=
  (load2 a14 h14 x12 0 0 inb 0 d 0 d rfl (Nat.zero_add _).symm).trans (H.lam d)
theorem lga (d : Fin _) (inb) : View.readAt (Elt Ideal) a15.view (Rect.unit (s := S1x512) ![0, 0] S1x512.size inb).toLoadRect (h15.unread x13) (ix2 0 d) = A.ga d :=
  (load2 a15 h15 x13 0 0 inb 0 d 0 d rfl (Nat.zero_add _).symm).trans (H.ga d)
theorem lgb (d : Fin _) (inb) : View.readAt (Elt Ideal) a16.view (Rect.unit (s := S1x512) ![0, 0] S1x512.size inb).toLoadRect (h16.unread x14) (ix2 0 d) = A.gb d :=
  (load2 a16 h16 x14 0 0 inb 0 d 0 d rfl (Nat.zero_add _).symm).trans (H.gb d)
theorem lcw (k : Nat) (hk : k < 4) (d : Fin 512) (inb) : View.readAt (Elt Ideal) a8.view (Rect.unit (s := S4x512) ![k, 0] S1x512.size inb).toLoadRect (h8.unread x6) (ix2 0 d) = A.cw ⟨k, hk⟩ d :=
  (load2 a8 h8 x6 k 0 inb 0 d ⟨k, hk⟩ d rfl (Nat.zero_add _).symm).trans (H.cw _ d)
theorem lsc (k : Nat) (hk : k < 3) (r : Fin 256) (d : Fin 512) (inb) : View.readAt (Elt Ideal) a17.view (Rect.unit (s := S3x256x512) ![k, 0, 0] S1x256x512.size inb).toLoadRect (h17.unread x15) (ix3 0 r d) = A.sc ⟨k, hk⟩ r d :=
  (load3 a17 h17 x15 k inb r d ⟨k, hk⟩ rfl).trans (H.sc _ r d)
theorem lsl (r : Fin 256) (d : Fin 512) (inb) : View.readAt (Elt Ideal) a18.view (Rect.unit (s := S256x512) ![0, 0] S256x512.size inb).toLoadRect (h18.unread x16) (ix2 r d) = A.sl r d :=
  (load2 a18 h18 x16 0 0 inb r d r d (Nat.zero_add _).symm (Nat.zero_add _).symm).trans (H.sl r d)
theorem lwa (k d : Fin 512) (inb) : View.readAt (Elt Ideal) a10.view (Rect.unit (s := S512x512) ![0, 0] S512x512.size inb).toLoadRect (h10.unread x8) (ix2 k d)
    = if k.val / 64 = d.val / 64 then A.wa ⟨d.val / 64, by omega⟩ ⟨k.val % 64, by omega⟩ ⟨d.val % 64, by omega⟩ else 0 :=
  (load2 a10 h10 x8 0 0 inb k d k d (Nat.zero_add _).symm (Nat.zero_add _).symm).trans (H.wa k d)
theorem lwx (k d : Fin 512) (inb) : View.readAt (Elt Ideal) a12.view (Rect.unit (s := S512x512) ![0, 0] S512x512.size inb).toLoadRect (h12.unread x10) (ix2 k d)
    = if k.val / 64 = d.val / 64 then A.wx ⟨d.val / 64, by omega⟩ ⟨k.val % 64, by omega⟩ ⟨d.val % 64, by omega⟩ else 0 :=
  (load2 a12 h12 x10 0 0 inb k d k d (Nat.zero_add _).symm (Nat.zero_add _).symm).trans (H.wx k d)

/-- The stored row of `v`. -/
theorem out18 (r : Fin 256) (d : Fin 512) : out0_A_18 c i a1 h1 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 (ix2 r d) = v A r d := by
  unfold out0_A_18
  rw [View.read_writes_junk_eq_canon]
  unfold kernelRun0_A
  dsimp only
  rw [View.canon_unit_zero hz2]
  exact pay7_eq A _ _ (lx h1 H · · _) (lg h3 H · _) _ (lw h4 H 512 (by omega) · · _) _ (lgv h5 H · _) r d

/-- The first mixer before its norm. -/
theorem r6_eq (r : Fin 256) (d : Fin 512) : kernelRun0_A.sl.r_6 c a1 h1 a3 h3 a4 h4 a5 h5 a6 h6 a7 h7 x0 x1 x2 x3 x4 x5 (ix2 r d) = ua A r d :=
  pay9_eq A _ _ (lx h1 H · · _) (lg h3 H · _) _ (lw0 h4 H · · _) _
    (fun r d => pay8_eq A _ _ _ _ _ (fun r d => pay7_eq A _ _ (lx h1 H · · _) (lg h3 H · _) _ (lw h4 H 512 (by omega) · · _) _ (lgv h5 H · _) r d) _ (lws h6 H · _) r d)
    _ (lbs h7 H · _) r d

/-- The convolution's input row. -/
theorem r11_eq (r : Fin 256) (d : Fin 512) : kernelRun0_A.sl.r_11 c a1 h1 a3 h3 a4 h4 x0 x1 x2 (ix2 r d) = xb A r d :=
  pay15_eq A _ _ (lx h1 H · · _) (lg h3 H · _) _ (lw h4 H 1024 (by omega) · · _) r d

/-- The convolution's output. -/
theorem r14_eq (r : Fin 256) (d : Fin 512) : kernelRun0_A.sl.r_14 c a1 h1 a3 h3 a4 h4 a8 h8 a9 h9 a17 h17 x0 x1 x2 x6 x7 x15 (ix2 r d) = xc A r d :=
  pay17_eq A _ _ (r11_eq c h1 h3 h4 H) _ _ _ _ _ _ _ _ (lcb h9 H · _) (lcw h8 H 0 (by omega) · _) (lcw h8 H 1 (by omega) · _) (lcw h8 H 2 (by omega) · _)
    (lcw h8 H 3 (by omega) · _) (lsc h17 H 0 (by omega) · · _) (lsc h17 H 1 (by omega) · · _) (lsc h17 H 2 (by omega) · · _) r d

/-- The recurrence's next state, as every use of it states it. -/
theorem state_eq (r : Fin 256) (d : Fin 512) (inb14 inb18) : k0_pay28 (F := Ideal) (kernelRun0_A.sl.r_14 c a1 h1 a3 h3 a4 h4 a8 h8 a9 h9 a17 h17 x0 x1 x2 x6 x7 x15)
    (k0_pay22 (kernelRun0_A.sl.r_15 c a1 h1 a3 h3 a4 h4 a8 h8 a9 h9 a17 h17 x0 x1 x2 x6 x7 x15) (View.readAt (Elt Ideal) a12.view (Rect.unit (s := S512x512) ![0, 0] S512x512.size inb_S512x512_S512x512_0_0).toLoadRect (h12.unread x10))
      (View.readAt (Elt Ideal) a13.view (Rect.unit (s := S1x512) ![0, 0] S1x512.size inb_S1x512_S1x512_0_0).toLoadRect (h13.unread x11)))
    (k0_pay23 (kernelRun0_A.sl.r_15 c a1 h1 a3 h3 a4 h4 a8 h8 a9 h9 a17 h17 x0 x1 x2 x6 x7 x15) (View.readAt (Elt Ideal) a10.view (Rect.unit (s := S512x512) ![0, 0] S512x512.size inb_S512x512_S512x512_0_0).toLoadRect (h10.unread x8))
      (View.readAt (Elt Ideal) a11.view (Rect.unit (s := S1x512) ![0, 0] S1x512.size inb_S1x512_S1x512_0_0).toLoadRect (h11.unread x9)))
    (k0_pay25 (View.readAt (Elt Ideal) a14.view (Rect.unit (s := S1x512) ![0, 0] S1x512.size inb14).toLoadRect (h14.unread x12)))
    (k0_pay26 (View.readAt (Elt Ideal) a14.view (Rect.unit (s := S1x512) ![0, 0] S1x512.size inb14).toLoadRect (h14.unread x12))) (k0_pay27 (F := Ideal))
    (View.readAt (Elt Ideal) a18.view (Rect.unit (s := S256x512) ![0, 0] S256x512.size inb18).toLoadRect (h18.unread x16)) (ix2 r d) = ht A r d :=
  pay28_eq A _ _ _ _ _ (r14_eq c h1 h3 h4 h8 h9 h17 H)
    (pay22_eq A _ (r14_eq c h1 h3 h4 h8 h9 h17 H) _ (lwx h12 H · · _) _ (lbx h13 H · _))
    (pay23_eq A _ (r14_eq c h1 h3 h4 h8 h9 h17 H) _ (lwa h10 H · · _) _ (lba h11 H · _))
    (llam h14 H · _) (lsl h18 H · · _) r d

/-- The second mixer before its norm. -/
theorem r20_eq (r : Fin 256) (d : Fin 512) : kernelRun0_A.sl.r_20 c a1 h1 a3 h3 a4 h4 a8 h8 a9 h9 a10 h10 a11 h11 a12 h12 a13 h13 a14 h14 a17 h17 a18 h18 x0 x1 x2 x6 x7 x8 x9 x10 x11 x12 x15 x16 (ix2 r d) = ub A r d :=
  pay29_eq A _ _ (lx h1 H · · _) (lg h3 H · _) _ (lw h4 H 1536 (by omega) · · _) _ _ _ _ _ _ _ (state_eq c h1 h3 h4 h8 h9 h10 h11 h12 h13 h14 h17 h18 H · · _ _) r d

/-- The stored next state. -/
theorem out20 (r : Fin 256) (d : Fin 512) : out0_A_20 c i a1 h1 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 (ix2 r d) = ht A r d := by
  unfold out0_A_20
  rw [View.read_writes_junk_eq_canon]
  unfold kernelRun0_A
  dsimp only
  rw [View.canon_unit_zero hz2]
  exact state_eq c h1 h3 h4 h8 h9 h10 h11 h12 h13 h14 h17 h18 H r d _ _

/-- The stored mixed rows: the two halves' columns side by side. -/
theorem out17 : out0_A_17 c i a1 h1 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 = Y0 A := by
  funext y
  unfold out0_A_17
  rw [View.read_writes_eq_canon _ _ _ (cover0_A_17 c i a1 h1 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16)]
  refine View.canon_apply_of_pieces (Y0 A) _ (fun p hp j => ?_) y (cover0_A_17 c i a1 h1 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 y)
  unfold kernelRun0_A at hp
  dsimp only at hp
  simp only [List.mem_cons, List.mem_nil_iff, or_false] at hp
  rcases hp with rfl | rfl
  · obtain ⟨r, d, rfl⟩ : ∃ (r : Fin 256) (d : Fin 512), j = ix2 r d := ⟨j 0, j 1, by funext a; match a with | ⟨0, _⟩ => rfl | ⟨1, _⟩ => rfl⟩
    refine (pay1_eq A _ (r20_eq c h1 h3 h4 h8 h9 h10 h11 h12 h13 h14 h17 h18 H) _ (lgb h16 H · _) r d).trans ?_
    have e : (Rect.unit (s := S256x1024) ![0, 512] ![256, 512] inb_S256x1024_S256x512_0_512).emb (ix2 r d) = ix2 (n0 := 256) (n1 := 1024) r ⟨512 + d.val, by omega⟩ := by
      funext a; apply Fin.ext; rw [Rect.emb_apply]; match a with | ⟨0, _⟩ => simp | ⟨1, _⟩ => simp
    rw [e]
    show _ = if h : 512 + d.val < 512 then _ else yb A r ⟨512 + d.val - 512, _⟩
    rw [dif_neg (by omega)]
    exact congrArg (yb A r) (Fin.ext (by show d.val = 512 + d.val - 512; omega))
  · obtain ⟨r, d, rfl⟩ : ∃ (r : Fin 256) (d : Fin 512), j = ix2 r d := ⟨j 0, j 1, by funext a; match a with | ⟨0, _⟩ => rfl | ⟨1, _⟩ => rfl⟩
    refine (pay14_eq A _ _ _ _ (r6_eq c h1 h3 h4 h5 h6 h7 H) _ (lga h15 H · _) r d).trans ?_
    have e : (Rect.unit (s := S256x1024) ![0, 0] ![256, 512] inb_S256x1024_S256x512_0_0).emb (ix2 r d) = ix2 (n0 := 256) (n1 := 1024) r ⟨d.val, by omega⟩ := by
      funext a; apply Fin.ext; rw [Rect.emb_apply]; match a with | ⟨0, _⟩ => simp | ⟨1, _⟩ => simp
    rw [e]
    show _ = if h : d.val < 512 then ya A r ⟨d.val, h⟩ else _
    rw [dif_pos d.isLt]

/-- The stored convolution state: the last two slots moved up, the new row last. -/
theorem out19 : out0_A_19 c i a1 h1 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 = C0 A := by
  funext y
  unfold out0_A_19
  rw [View.read_writes_eq_canon _ _ _ (cover0_A_19 c i a1 h1 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16)]
  refine View.canon_apply_of_pieces (C0 A) _ (fun p hp j => ?_) y (cover0_A_19 c i a1 h1 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 y)
  unfold kernelRun0_A at hp
  dsimp only at hp
  simp only [List.mem_cons, List.mem_nil_iff, or_false] at hp
  have emb : ∀ (k : Nat) (hk : k < 3) (inb) (r : Fin 256) (d : Fin 512), (Rect.unit (s := S3x256x512) ![k, 0, 0] ![1, 256, 512] inb).emb (ix3 0 r d) = ix3 (n0 := 3) (n1 := 256) (n2 := 512) ⟨k, hk⟩ r d := by
    intro k hk inb r d; funext a; apply Fin.ext; rw [Rect.emb_apply]; match a with | ⟨0, _⟩ => simp | ⟨1, _⟩ => simp | ⟨2, _⟩ => simp
  rcases hp with rfl | rfl | rfl
  all_goals
    obtain ⟨r, d, rfl⟩ : ∃ (r : Fin 256) (d : Fin 512), j = ix3 (n0 := 1) 0 r d :=
      ⟨j 1, j 2, by funext a; match a with | ⟨0, _⟩ => exact Fin.ext (Nat.lt_one_iff.mp (j 0).isLt) | ⟨1, _⟩ => rfl | ⟨2, _⟩ => rfl⟩
  · rw [emb 2 (by omega)]
    refine Eq.trans ?_ (r11_eq c h1 h3 h4 H r d)
    pointwise [k0_pay20]
  · rw [emb 1 (by omega)]
    refine Eq.trans ?_ (lsc h17 H 2 (by omega) r d inb_S3x256x512_S1x256x512_2_0_0)
    pointwise [k0_pay19]
  · rw [emb 0 (by omega)]
    refine Eq.trans ?_ (lsc h17 H 1 (by omega) r d inb_S3x256x512_S1x256x512_1_0_0)
    pointwise [k0_pay18]

end
end Cert.Kernel2Ideal.Sample

end
-- ==== Proof.Sample.Value.lean ====
/- The kernel's staged input blocks as the arguments' entries, and its four result arrays as the mixers' values. -/
module

public import proofs.«01_k».proof.Proof.Sample.Stored
public import Idealize.ShloMosaic.Lib.Claim

@[expose] public section

set_option maxRecDepth 16384

noncomputable section

namespace Cert.Kernel2Ideal.Sample

open Idealize.ShloMosaic Idealize.ShloMosaic.TcCoe Idealize.SL.Sem
open Cert.Kernel2Ideal Cert.Kernel2Ideal.Gen Cert.Kernel2Ideal.Value Cert.Sample

variable (m : (ℓ : Loc nD τ sig) → Buf (Elt Ideal) ℓ) (ρ : Dev nD → PrngReg) (c : Dev nD)

/-- The entries that the step reads of the launch memory. -/
def argsM : Args :=
  args (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-! ## The arrays as the host lines leave them -/

/-- The identity matrix's entries. -/
theorem eye_at (a b : Nat) (ha : a < 8) (hb : b < 8) :
    FloatOps.uitofp (F := Ideal) FTy.f32 (IntOp.cmpi CmpIPredicate.eq (IntOp.addi (BitVec.ofNat 32 a) 0#32) (BitVec.ofNat 32 b)) = if a = b then (1 : EReal) else 0 := by
  have h : ∀ a b : Fin 8, IntOp.cmpi CmpIPredicate.eq (IntOp.addi (BitVec.ofNat 32 a.val) 0#32) (BitVec.ofNat 32 b.val) = if a.val = b.val then 1#1 else 0#1 := by decide
  rw [show IntOp.cmpi CmpIPredicate.eq (IntOp.addi (BitVec.ofNat 32 a) 0#32) (BitVec.ofNat 32 b) = _ from h ⟨a, ha⟩ ⟨b, hb⟩]
  by_cases e : a = b
  · rw [if_pos e, if_pos e]
    simp [FloatOps.uitofp]
  · rw [if_neg e, if_neg e]
    simp [FloatOps.uitofp]

/-- A head's weight times the identity's entry: the block-diagonal matrix at an index. -/
theorem diag_at (w : Fin 8 → Fin 64 → Fin 64 → EReal) (k d : Fin 512) :
    w ⟨k.val / 64, by omega⟩ ⟨k.val % 64, by omega⟩ ⟨d.val % 64, by omega⟩
        * FloatOps.uitofp (F := Ideal) FTy.f32 (IntOp.cmpi CmpIPredicate.eq (IntOp.addi (BitVec.ofNat 32 (k.val / 64)) 0#32) (BitVec.ofNat 32 (d.val / 64)))
      = if k.val / 64 = d.val / 64 then w ⟨d.val / 64, by omega⟩ ⟨k.val % 64, by omega⟩ ⟨d.val % 64, by omega⟩ else 0 := by
  rw [eye_at _ _ (by omega) (by omega)]
  by_cases e : k.val / 64 = d.val / 64
  · rw [if_pos e, if_pos e, mul_one]
    simp only [e]
  · rw [if_neg e, if_neg e, mul_zero]

theorem v6_at (d : Fin _) : V m c main_v6 (ix2 0 d) = (argsM m c).gm d := by
  entry_read
  pointwise [argsM, args]
theorem v7_at (d : Fin 1024) (j : Fin 2048) : V m c main_v7 (ix2 d j) = (argsM m c).w d j := by
  entry_read
  pointwise [argsM, args]
theorem v8_at (d : Fin _) : V m c main_v8 (ix2 0 d) = (argsM m c).gv d := by
  entry_read
  pointwise [argsM, args]
theorem v13_at (d : Fin _) : V m c main_v13 (ix2 0 d) = (argsM m c).ws d := by
  entry_read
  pointwise [argsM, args]
theorem v18_at (d : Fin _) : V m c main_v18 (ix2 0 d) = (argsM m c).bs d := by
  entry_read
  pointwise [argsM, args]
theorem v19_at (d : Fin _) : V m c main_v19 (ix2 0 d) = (argsM m c).cb d := by
  entry_read
  pointwise [argsM, args]
theorem v27_at (d : Fin _) : V m c main_v27 (ix2 0 d) = (argsM m c).ba d := by
  entry_read
  pointwise [argsM, args]
theorem v35_at (d : Fin _) : V m c main_v35 (ix2 0 d) = (argsM m c).bx d := by
  entry_read
  pointwise [argsM, args]
theorem v36_at (d : Fin _) : V m c main_v36 (ix2 0 d) = (argsM m c).lam d := by
  entry_read
  pointwise [argsM, args]
theorem v37_at (d : Fin _) : V m c main_v37 (ix2 0 d) = (argsM m c).ga d := by
  entry_read
  pointwise [argsM, args]
theorem v38_at (d : Fin _) : V m c main_v38 (ix2 0 d) = (argsM m c).gb d := by
  entry_read
  pointwise [argsM, args]
theorem v26_at (k d : Fin 512) : V m c main_v26 (ix2 k d)
    = if k.val / 64 = d.val / 64 then (argsM m c).wa ⟨d.val / 64, by omega⟩ ⟨k.val % 64, by omega⟩ ⟨d.val % 64, by omega⟩ else 0 := by
  entry_read
  pointwise [argsM, args]
  exact diag_at (argsM m c).wa k d
theorem v34_at (k d : Fin 512) : V m c main_v34 (ix2 k d)
    = if k.val / 64 = d.val / 64 then (argsM m c).wx ⟨d.val / 64, by omega⟩ ⟨k.val % 64, by omega⟩ ⟨d.val % 64, by omega⟩ else 0 := by
  entry_read
  pointwise [argsM, args]
  exact diag_at (argsM m c).wx k d

/-! ## The windows' blocks -/

theorem iblk0_at (t : Fin cfg0.N) (r : Fin 256) (d : Fin 1024) : iblk m c 0 t (ix2 r d) = V m c main_arg0 (ix2 ⟨16384 + r.val, by omega⟩ d) := by
  have e : ∀ t : Fin cfg0.N, win0_0.index t (0 : Fin 2) = 64 ∧ win0_0.index t (1 : Fin 2) = 0 := (by decide +kernel : ∀ t : Fin grid0.N, _)
  show V m c main_arg0 (((cfg0.win 0).blk t).view.emb (ix2 r d)) = _
  refine congrArg (V m c main_arg0) (funext fun a => Fin.ext ?_)
  match a with
  | ⟨0, _⟩ => show win0_0.index t (0 : Fin 2) * 256 + 1 * r.val = 16384 + r.val; rw [(e t).1]; omega
  | ⟨1, _⟩ => show win0_0.index t (1 : Fin 2) * 1024 + 1 * d.val = d.val; rw [(e t).2]; omega
theorem iblk1_at (t : Fin cfg0.N) (r : Fin 1) (d : Fin 1024) : iblk m c 1 t (ix2 r d) = V m c main_v6 (ix2 r d) := by
  have e : ∀ t : Fin cfg0.N, win0_1.index t (0 : Fin 2) = 0 ∧ win0_1.index t (1 : Fin 2) = 0 := (by decide +kernel : ∀ t : Fin grid0.N, _)
  show V m c main_v6 (((cfg0.win 1).blk t).view.emb (ix2 r d)) = _
  refine congrArg (V m c main_v6) (funext fun a => Fin.ext ?_)
  match a with
  | ⟨0, _⟩ => show win0_1.index t (0 : Fin 2) * 1 + 1 * r.val = r.val; rw [(e t).1]; omega
  | ⟨1, _⟩ => show win0_1.index t (1 : Fin 2) * 1024 + 1 * d.val = d.val; rw [(e t).2]; omega
theorem iblk2_at (t : Fin cfg0.N) (r : Fin 1024) (d : Fin 2048) : iblk m c 2 t (ix2 r d) = V m c main_v7 (ix2 r d) := by
  have e : ∀ t : Fin cfg0.N, win0_2.index t (0 : Fin 2) = 0 ∧ win0_2.index t (1 : Fin 2) = 0 := (by decide +kernel : ∀ t : Fin grid0.N, _)
  show V m c main_v7 (((cfg0.win 2).blk t).view.emb (ix2 r d)) = _
  refine congrArg (V m c main_v7) (funext fun a => Fin.ext ?_)
  match a with
  | ⟨0, _⟩ => show win0_2.index t (0 : Fin 2) * 1024 + 1 * r.val = r.val; rw [(e t).1]; omega
  | ⟨1, _⟩ => show win0_2.index t (1 : Fin 2) * 2048 + 1 * d.val = d.val; rw [(e t).2]; omega
theorem iblk3_at (t : Fin cfg0.N) (r : Fin 1) (d : Fin 512) : iblk m c 3 t (ix2 r d) = V m c main_v8 (ix2 r d) := by
  have e : ∀ t : Fin cfg0.N, win0_3.index t (0 : Fin 2) = 0 ∧ win0_3.index t (1 : Fin 2) = 0 := (by decide +kernel : ∀ t : Fin grid0.N, _)
  show V m c main_v8 (((cfg0.win 3).blk t).view.emb (ix2 r d)) = _
  refine congrArg (V m c main_v8) (funext fun a => Fin.ext ?_)
  match a with
  | ⟨0, _⟩ => show win0_3.index t (0 : Fin 2) * 1 + 1 * r.val = r.val; rw [(e t).1]; omega
  | ⟨1, _⟩ => show win0_3.index t (1 : Fin 2) * 512 + 1 * d.val = d.val; rw [(e t).2]; omega
theorem iblk4_at (t : Fin cfg0.N) (r : Fin 1) (d : Fin 512) : iblk m c 4 t (ix2 r d) = V m c main_v13 (ix2 r d) := by
  have e : ∀ t : Fin cfg0.N, win0_4.index t (0 : Fin 2) = 0 ∧ win0_4.index t (1 : Fin 2) = 0 := (by decide +kernel : ∀ t : Fin grid0.N, _)
  show V m c main_v13 (((cfg0.win 4).blk t).view.emb (ix2 r d)) = _
  refine congrArg (V m c main_v13) (funext fun a => Fin.ext ?_)
  match a with
  | ⟨0, _⟩ => show win0_4.index t (0 : Fin 2) * 1 + 1 * r.val = r.val; rw [(e t).1]; omega
  | ⟨1, _⟩ => show win0_4.index t (1 : Fin 2) * 512 + 1 * d.val = d.val; rw [(e t).2]; omega
theorem iblk5_at (t : Fin cfg0.N) (r : Fin 1) (d : Fin 512) : iblk m c 5 t (ix2 r d) = V m c main_v18 (ix2 r d) := by
  have e : ∀ t : Fin cfg0.N, win0_5.index t (0 : Fin 2) = 0 ∧ win0_5.index t (1 : Fin 2) = 0 := (by decide +kernel : ∀ t : Fin grid0.N, _)
  show V m c main_v18 (((cfg0.win 5).blk t).view.emb (ix2 r d)) = _
  refine congrArg (V m c main_v18) (funext fun a => Fin.ext ?_)
  match a with
  | ⟨0, _⟩ => show win0_5.index t (0 : Fin 2) * 1 + 1 * r.val = r.val; rw [(e t).1]; omega
  | ⟨1, _⟩ => show win0_5.index t (1 : Fin 2) * 512 + 1 * d.val = d.val; rw [(e t).2]; omega
theorem iblk6_at (t : Fin cfg0.N) (r : Fin 4) (d : Fin 512) : iblk m c 6 t (ix2 r d) = V m c main_arg9 (ix2 r d) := by
  have e : ∀ t : Fin cfg0.N, win0_6.index t (0 : Fin 2) = 0 ∧ win0_6.index t (1 : Fin 2) = 0 := (by decide +kernel : ∀ t : Fin grid0.N, _)
  show V m c main_arg9 (((cfg0.win 6).blk t).view.emb (ix2 r d)) = _
  refine congrArg (V m c main_arg9) (funext fun a => Fin.ext ?_)
  match a with
  | ⟨0, _⟩ => show win0_6.index t (0 : Fin 2) * 4 + 1 * r.val = r.val; rw [(e t).1]; omega
  | ⟨1, _⟩ => show win0_6.index t (1 : Fin 2) * 512 + 1 * d.val = d.val; rw [(e t).2]; omega
theorem iblk7_at (t : Fin cfg0.N) (r : Fin 1) (d : Fin 512) : iblk m c 7 t (ix2 r d) = V m c main_v19 (ix2 r d) := by
  have e : ∀ t : Fin cfg0.N, win0_7.index t (0 : Fin 2) = 0 ∧ win0_7.index t (1 : Fin 2) = 0 := (by decide +kernel : ∀ t : Fin grid0.N, _)
  show V m c main_v19 (((cfg0.win 7).blk t).view.emb (ix2 r d)) = _
  refine congrArg (V m c main_v19) (funext fun a => Fin.ext ?_)
  match a with
  | ⟨0, _⟩ => show win0_7.index t (0 : Fin 2) * 1 + 1 * r.val = r.val; rw [(e t).1]; omega
  | ⟨1, _⟩ => show win0_7.index t (1 : Fin 2) * 512 + 1 * d.val = d.val; rw [(e t).2]; omega
theorem iblk8_at (t : Fin cfg0.N) (r : Fin 512) (d : Fin 512) : iblk m c 8 t (ix2 r d) = V m c main_v26 (ix2 r d) := by
  have e : ∀ t : Fin cfg0.N, win0_8.index t (0 : Fin 2) = 0 ∧ win0_8.index t (1 : Fin 2) = 0 := (by decide +kernel : ∀ t : Fin grid0.N, _)
  show V m c main_v26 (((cfg0.win 8).blk t).view.emb (ix2 r d)) = _
  refine congrArg (V m c main_v26) (funext fun a => Fin.ext ?_)
  match a with
  | ⟨0, _⟩ => show win0_8.index t (0 : Fin 2) * 512 + 1 * r.val = r.val; rw [(e t).1]; omega
  | ⟨1, _⟩ => show win0_8.index t (1 : Fin 2) * 512 + 1 * d.val = d.val; rw [(e t).2]; omega
theorem iblk9_at (t : Fin cfg0.N) (r : Fin 1) (d : Fin 512) : iblk m c 9 t (ix2 r d) = V m c main_v27 (ix2 r d) := by
  have e : ∀ t : Fin cfg0.N, win0_9.index t (0 : Fin 2) = 0 ∧ win0_9.index t (1 : Fin 2) = 0 := (by decide +kernel : ∀ t : Fin grid0.N, _)
  show V m c main_v27 (((cfg0.win 9).blk t).view.emb (ix2 r d)) = _
  refine congrArg (V m c main_v27) (funext fun a => Fin.ext ?_)
  match a with
  | ⟨0, _⟩ => show win0_9.index t (0 : Fin 2) * 1 + 1 * r.val = r.val; rw [(e t).1]; omega
  | ⟨1, _⟩ => show win0_9.index t (1 : Fin 2) * 512 + 1 * d.val = d.val; rw [(e t).2]; omega
theorem iblk10_at (t : Fin cfg0.N) (r : Fin 512) (d : Fin 512) : iblk m c 10 t (ix2 r d) = V m c main_v34 (ix2 r d) := by
  have e : ∀ t : Fin cfg0.N, win0_10.index t (0 : Fin 2) = 0 ∧ win0_10.index t (1 : Fin 2) = 0 := (by decide +kernel : ∀ t : Fin grid0.N, _)
  show V m c main_v34 (((cfg0.win 10).blk t).view.emb (ix2 r d)) = _
  refine congrArg (V m c main_v34) (funext fun a => Fin.ext ?_)
  match a with
  | ⟨0, _⟩ => show win0_10.index t (0 : Fin 2) * 512 + 1 * r.val = r.val; rw [(e t).1]; omega
  | ⟨1, _⟩ => show win0_10.index t (1 : Fin 2) * 512 + 1 * d.val = d.val; rw [(e t).2]; omega
theorem iblk11_at (t : Fin cfg0.N) (r : Fin 1) (d : Fin 512) : iblk m c 11 t (ix2 r d) = V m c main_v35 (ix2 r d) := by
  have e : ∀ t : Fin cfg0.N, win0_11.index t (0 : Fin 2) = 0 ∧ win0_11.index t (1 : Fin 2) = 0 := (by decide +kernel : ∀ t : Fin grid0.N, _)
  show V m c main_v35 (((cfg0.win 11).blk t).view.emb (ix2 r d)) = _
  refine congrArg (V m c main_v35) (funext fun a => Fin.ext ?_)
  match a with
  | ⟨0, _⟩ => show win0_11.index t (0 : Fin 2) * 1 + 1 * r.val = r.val; rw [(e t).1]; omega
  | ⟨1, _⟩ => show win0_11.index t (1 : Fin 2) * 512 + 1 * d.val = d.val; rw [(e t).2]; omega
theorem iblk12_at (t : Fin cfg0.N) (r : Fin 1) (d : Fin 512) : iblk m c 12 t (ix2 r d) = V m c main_v36 (ix2 r d) := by
  have e : ∀ t : Fin cfg0.N, win0_12.index t (0 : Fin 2) = 0 ∧ win0_12.index t (1 : Fin 2) = 0 := (by decide +kernel : ∀ t : Fin grid0.N, _)
  show V m c main_v36 (((cfg0.win 12).blk t).view.emb (ix2 r d)) = _
  refine congrArg (V m c main_v36) (funext fun a => Fin.ext ?_)
  match a with
  | ⟨0, _⟩ => show win0_12.index t (0 : Fin 2) * 1 + 1 * r.val = r.val; rw [(e t).1]; omega
  | ⟨1, _⟩ => show win0_12.index t (1 : Fin 2) * 512 + 1 * d.val = d.val; rw [(e t).2]; omega
theorem iblk13_at (t : Fin cfg0.N) (r : Fin 1) (d : Fin 512) : iblk m c 13 t (ix2 r d) = V m c main_v37 (ix2 r d) := by
  have e : ∀ t : Fin cfg0.N, win0_13.index t (0 : Fin 2) = 0 ∧ win0_13.index t (1 : Fin 2) = 0 := (by decide +kernel : ∀ t : Fin grid0.N, _)
  show V m c main_v37 (((cfg0.win 13).blk t).view.emb (ix2 r d)) = _
  refine congrArg (V m c main_v37) (funext fun a => Fin.ext ?_)
  match a with
  | ⟨0, _⟩ => show win0_13.index t (0 : Fin 2) * 1 + 1 * r.val = r.val; rw [(e t).1]; omega
  | ⟨1, _⟩ => show win0_13.index t (1 : Fin 2) * 512 + 1 * d.val = d.val; rw [(e t).2]; omega
theorem iblk14_at (t : Fin cfg0.N) (r : Fin 1) (d : Fin 512) : iblk m c 14 t (ix2 r d) = V m c main_v38 (ix2 r d) := by
  have e : ∀ t : Fin cfg0.N, win0_14.index t (0 : Fin 2) = 0 ∧ win0_14.index t (1 : Fin 2) = 0 := (by decide +kernel : ∀ t : Fin grid0.N, _)
  show V m c main_v38 (((cfg0.win 14).blk t).view.emb (ix2 r d)) = _
  refine congrArg (V m c main_v38) (funext fun a => Fin.ext ?_)
  match a with
  | ⟨0, _⟩ => show win0_14.index t (0 : Fin 2) * 1 + 1 * r.val = r.val; rw [(e t).1]; omega
  | ⟨1, _⟩ => show win0_14.index t (1 : Fin 2) * 512 + 1 * d.val = d.val; rw [(e t).2]; omega
theorem iblk16_at (t : Fin cfg0.N) (r : Fin 256) (d : Fin 512) : iblk m c 16 t (ix2 r d) = V m c main_arg3 (ix2 r d) := by
  have e : ∀ t : Fin cfg0.N, win0_16.index t (0 : Fin 2) = 0 ∧ win0_16.index t (1 : Fin 2) = 0 := (by decide +kernel : ∀ t : Fin grid0.N, _)
  show V m c main_arg3 (((cfg0.win 16).blk t).view.emb (ix2 r d)) = _
  refine congrArg (V m c main_arg3) (funext fun a => Fin.ext ?_)
  match a with
  | ⟨0, _⟩ => show win0_16.index t (0 : Fin 2) * 256 + 1 * r.val = r.val; rw [(e t).1]; omega
  | ⟨1, _⟩ => show win0_16.index t (1 : Fin 2) * 512 + 1 * d.val = d.val; rw [(e t).2]; omega
theorem iblk15_at (t : Fin cfg0.N) (k : Fin 3) (r : Fin 256) (d : Fin 512) : iblk m c 15 t (ix3 k r d) = V m c main_arg2 (ix3 k r d) := by
  have e : ∀ t : Fin cfg0.N, win0_15.index t (0 : Fin 3) = 0 ∧ win0_15.index t (1 : Fin 3) = 0 ∧ win0_15.index t (2 : Fin 3) = 0 := (by decide +kernel : ∀ t : Fin grid0.N, _)
  show V m c main_arg2 (((cfg0.win 15).blk t).view.emb (ix3 k r d)) = _
  refine congrArg (V m c main_arg2) (funext fun a => Fin.ext ?_)
  match a with
  | ⟨0, _⟩ => show win0_15.index t (0 : Fin 3) * 3 + 1 * k.val = k.val; rw [(e t).1]; omega
  | ⟨1, _⟩ => show win0_15.index t (1 : Fin 3) * 256 + 1 * r.val = r.val; rw [(e t).2.1]; omega
  | ⟨2, _⟩ => show win0_15.index t (2 : Fin 3) * 512 + 1 * d.val = d.val; rw [(e t).2.2]; omega

/-- The staged blocks hold the arguments' entries. -/
theorem holds (t : Fin cfg0.N) : Holds (argsM m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) where
  x r d := (iblk0_at m c t r d).trans (by rw [V_main_arg0]; rfl)
  g d := (iblk1_at m c t 0 d).trans (v6_at m c d)
  w d j := (iblk2_at m c t d j).trans (v7_at m c d j)
  gv d := (iblk3_at m c t 0 d).trans (v8_at m c d)
  ws d := (iblk4_at m c t 0 d).trans (v13_at m c d)
  bs d := (iblk5_at m c t 0 d).trans (v18_at m c d)
  cw k d := (iblk6_at m c t k d).trans (by rw [V_main_arg9]; rfl)
  cb d := (iblk7_at m c t 0 d).trans (v19_at m c d)
  wa k d := (iblk8_at m c t k d).trans (v26_at m c k d)
  ba d := (iblk9_at m c t 0 d).trans (v27_at m c d)
  wx k d := (iblk10_at m c t k d).trans (v34_at m c k d)
  bx d := (iblk11_at m c t 0 d).trans (v35_at m c d)
  lam d := (iblk12_at m c t 0 d).trans (v36_at m c d)
  ga d := (iblk13_at m c t 0 d).trans (v37_at m c d)
  gb d := (iblk14_at m c t 0 d).trans (v38_at m c d)
  sc k r d := (iblk15_at m c t k r d).trans (by rw [V_main_arg2]; rfl)
  sl r d := (iblk16_at m c t r d).trans (by rw [V_main_arg3]; rfl)

/-! ## The result arrays -/

theorem emb17 (t : Fin cfg0.N) (r : Fin 256) (d : Fin 1024) : ((cfg0.win 17).blk t).view.emb (ix2 r d) = ix2 (n0 := 16640) (n1 := 1024) ⟨16384 + r.val, by omega⟩ d := by
  have e : ∀ t : Fin cfg0.N, win0_17.index t (0 : Fin 2) = 64 ∧ win0_17.index t (1 : Fin 2) = 0 := (by decide +kernel : ∀ t : Fin grid0.N, _)
  funext a; apply Fin.ext
  match a with
  | ⟨0, _⟩ => show win0_17.index t (0 : Fin 2) * 256 + 1 * r.val = 16384 + r.val; rw [(e t).1]; omega
  | ⟨1, _⟩ => show win0_17.index t (1 : Fin 2) * 1024 + 1 * d.val = d.val; rw [(e t).2]; omega

/-- The rows that the step writes. -/
theorem blk17_at (r : Fin 256) (d : Fin 1024) : (dats m 0 c).arrAt 17 cfg0.N (ix2 (n0 := 16640) (n1 := 1024) ⟨16384 + r.val, by omega⟩ d)
    = Y0 (argsM m c) (ix2 r d) := by
  have hb := congrFun (blocks17 m c t0_0 (flush0_17 _)) (ix2 r d)
  rw [flushed17_A, out17 c (grid0.coords t0_0) (hs0_0 t0_0) (hs0_1 t0_0) (hs0_2 t0_0) (hs0_3 t0_0) (hs0_4 t0_0) (hs0_5 t0_0) (hs0_6 t0_0) (hs0_7 t0_0) (hs0_8 t0_0) (hs0_9 t0_0) (hs0_10 t0_0) (hs0_11 t0_0) (hs0_12 t0_0) (hs0_13 t0_0) (hs0_14 t0_0) (hs0_15 t0_0) (hs0_16 t0_0) (hs0_17 t0_0) (hs0_18 t0_0) (hs0_19 t0_0) (hs0_20 t0_0) (holds m c t0_0)] at hb
  have hb' : (dats m 0 c).arrAt 17 cfg0.N (((cfg0.win 17).blk t0_0).view.emb (ix2 r d)) = Y0 (argsM m c) (ix2 r d) := hb
  rw [emb17] at hb'
  exact hb'

/-- The mixed rows behind the rows that the step leaves. -/
theorem res17 (r : Fin 16640) (d : Fin 1024) : (dats m 0 c).arrAt 17 cfg0.N (ix2 r d)
    = if h : r.val < 16384 then m ((c : Thread nD τ).loc main_arg1) (ix2 r d)
      else if hk : d.val < 512 then ya (argsM m c) ⟨r.val - 16384, by omega⟩ ⟨d.val, hk⟩ else yb (argsM m c) ⟨r.val - 16384, by omega⟩ ⟨d.val - 512, by omega⟩ := by
  by_cases h : r.val < 16384
  · rw [dif_pos h]
    refine (entry17 m c (ix2 r d) fun t _ hm => ?_).trans ?_
    · obtain ⟨y, hy⟩ := View.exists_emb_of_mem_set _ hm
      obtain ⟨r', d', rfl⟩ : ∃ (r' : Fin 256) (d' : Fin 1024), y = ix2 r' d' := ⟨y 0, y 1, by funext a; match a with | ⟨0, _⟩ => rfl | ⟨1, _⟩ => rfl⟩
      rw [emb17] at hy
      have := congrArg Fin.val (congrFun hy (0 : Fin 2))
      have h2 : 16384 + r'.val = r.val := this
      omega
    · show V m c main_v39_0 (ix2 r d) = _
      entry_read
      rfl
  · rw [dif_neg h]
    have er : (⟨16384 + (r.val - 16384), by omega⟩ : Fin 16640) = r := Fin.ext (Nat.add_sub_cancel' (Nat.le_of_not_lt h))
    have hb := blk17_at m c ⟨r.val - 16384, by omega⟩ d
    rw [er] at hb
    exact hb

theorem emb18 (t : Fin cfg0.N) (r : Fin 256) (d : Fin 512) : ((cfg0.win 18).blk t).view.emb (ix2 r d) = ix2 (n0 := 256) (n1 := 512) r d := by
  have e : ∀ t : Fin cfg0.N, win0_18.index t (0 : Fin 2) = 0 ∧ win0_18.index t (1 : Fin 2) = 0 := (by decide +kernel : ∀ t : Fin grid0.N, _)
  funext a; apply Fin.ext
  match a with
  | ⟨0, _⟩ => show win0_18.index t (0 : Fin 2) * 256 + 1 * r.val = r.val; rw [(e t).1]; omega
  | ⟨1, _⟩ => show win0_18.index t (1 : Fin 2) * 512 + 1 * d.val = d.val; rw [(e t).2]; omega

/-- The new row of `v`. -/
theorem res18 (r : Fin 256) (d : Fin 512) : (dats m 0 c).arrAt 18 cfg0.N (ix2 r d) = v (argsM m c) r d := by
  have hb := congrFun (blocks18 m c t0_0 (flush0_18 _)) (ix2 r d)
  rw [flushed18_A] at hb
  have hb' : (dats m 0 c).arrAt 18 cfg0.N (((cfg0.win 18).blk t0_0).view.emb (ix2 r d)) = _ := hb
  rw [emb18] at hb'
  exact hb'.trans (out18 c (grid0.coords t0_0) (hs0_0 t0_0) (hs0_1 t0_0) (hs0_2 t0_0) (hs0_3 t0_0) (hs0_4 t0_0) (hs0_5 t0_0) (hs0_6 t0_0) (hs0_7 t0_0) (hs0_8 t0_0) (hs0_9 t0_0) (hs0_10 t0_0) (hs0_11 t0_0) (hs0_12 t0_0) (hs0_13 t0_0) (hs0_14 t0_0) (hs0_15 t0_0) (hs0_16 t0_0) (hs0_17 t0_0) (hs0_18 t0_0) (hs0_19 t0_0) (hs0_20 t0_0) (holds m c t0_0) r d)

theorem emb20 (t : Fin cfg0.N) (r : Fin 256) (d : Fin 512) : ((cfg0.win 20).blk t).view.emb (ix2 r d) = ix2 (n0 := 256) (n1 := 512) r d := by
  have e : ∀ t : Fin cfg0.N, win0_20.index t (0 : Fin 2) = 0 ∧ win0_20.index t (1 : Fin 2) = 0 := (by decide +kernel : ∀ t : Fin grid0.N, _)
  funext a; apply Fin.ext
  match a with
  | ⟨0, _⟩ => show win0_20.index t (0 : Fin 2) * 256 + 1 * r.val = r.val; rw [(e t).1]; omega
  | ⟨1, _⟩ => show win0_20.index t (1 : Fin 2) * 512 + 1 * d.val = d.val; rw [(e t).2]; omega

/-- The next state. -/
theorem res20 (r : Fin 256) (d : Fin 512) : (dats m 0 c).arrAt 20 cfg0.N (ix2 r d) = ht (argsM m c) r d := by
  have hb := congrFun (blocks20 m c t0_0 (flush0_20 _)) (ix2 r d)
  rw [flushed20_A] at hb
  have hb' : (dats m 0 c).arrAt 20 cfg0.N (((cfg0.win 20).blk t0_0).view.emb (ix2 r d)) = _ := hb
  rw [emb20] at hb'
  exact hb'.trans (out20 c (grid0.coords t0_0) (hs0_0 t0_0) (hs0_1 t0_0) (hs0_2 t0_0) (hs0_3 t0_0) (hs0_4 t0_0) (hs0_5 t0_0) (hs0_6 t0_0) (hs0_7 t0_0) (hs0_8 t0_0) (hs0_9 t0_0) (hs0_10 t0_0) (hs0_11 t0_0) (hs0_12 t0_0) (hs0_13 t0_0) (hs0_14 t0_0) (hs0_15 t0_0) (hs0_16 t0_0) (hs0_17 t0_0) (hs0_18 t0_0) (hs0_19 t0_0) (hs0_20 t0_0) (holds m c t0_0) r d)

theorem emb19 (t : Fin cfg0.N) (k : Fin 3) (r : Fin 256) (d : Fin 512) : ((cfg0.win 19).blk t).view.emb (ix3 k r d) = ix3 (n0 := 3) (n1 := 256) (n2 := 512) k r d := by
  have e : ∀ t : Fin cfg0.N, win0_19.index t (0 : Fin 3) = 0 ∧ win0_19.index t (1 : Fin 3) = 0 ∧ win0_19.index t (2 : Fin 3) = 0 := (by decide +kernel : ∀ t : Fin grid0.N, _)
  funext a; apply Fin.ext
  match a with
  | ⟨0, _⟩ => show win0_19.index t (0 : Fin 3) * 3 + 1 * k.val = k.val; rw [(e t).1]; omega
  | ⟨1, _⟩ => show win0_19.index t (1 : Fin 3) * 256 + 1 * r.val = r.val; rw [(e t).2.1]; omega
  | ⟨2, _⟩ => show win0_19.index t (2 : Fin 3) * 512 + 1 * d.val = d.val; rw [(e t).2.2]; omega

/-- The convolution's next state. -/
theorem res19 (k : Fin 3) (r : Fin 256) (d : Fin 512) : (dats m 0 c).arrAt 19 cfg0.N (ix3 k r d)
    = if h : 1 + k.val < 3 then (argsM m c).sc ⟨1 + k.val, h⟩ r d else xb (argsM m c) r d := by
  have hb := congrFun (blocks19 m c t0_0 (flush0_19 _)) (ix3 k r d)
  rw [flushed19_A, out19 c (grid0.coords t0_0) (hs0_0 t0_0) (hs0_1 t0_0) (hs0_2 t0_0) (hs0_3 t0_0) (hs0_4 t0_0) (hs0_5 t0_0) (hs0_6 t0_0) (hs0_7 t0_0) (hs0_8 t0_0) (hs0_9 t0_0) (hs0_10 t0_0) (hs0_11 t0_0) (hs0_12 t0_0) (hs0_13 t0_0) (hs0_14 t0_0) (hs0_15 t0_0) (hs0_16 t0_0) (hs0_17 t0_0) (hs0_18 t0_0) (hs0_19 t0_0) (hs0_20 t0_0) (holds m c t0_0)] at hb
  have hb' : (dats m 0 c).arrAt 19 cfg0.N (((cfg0.win 19).blk t0_0).view.emb (ix3 k r d)) = C0 (argsM m c) (ix3 k r d) := hb
  rw [emb19] at hb'
  exact hb'

end Cert.Kernel2Ideal.Sample

end
-- ==== Proof.Sample.PureReference.lean ====
/- The reference's terms at an index, over the extended reals: they are the mixers' values of the sample rows. -/
module

public import proofs.«01_k».proof.Proof.Gen.Reference2Ideal.Run
public import proofs.«01_k».proof.Proof.Sample.Math
public import Idealize.ShloMosaic.Lib.Pointwise

@[expose] public section

set_option maxRecDepth 16384

noncomputable section

namespace Cert.Reference2Ideal.Sample

open Idealize.ShloMosaic Idealize.ShloMosaic.TcCoe Idealize.SL.Sem
open Cert.Reference2Ideal Cert.Reference2Ideal.Gen Cert.Reference2Ideal.Value Cert.Sample

/-- The entries that a valuation's arguments hold. -/
def argsOf (V : Valuation τ sig (Elt Ideal)) : Args :=
  args (V (Proc.devRef .tc main_arg0)) (V (Proc.devRef .tc main_arg2)) (V (Proc.devRef .tc main_arg3)) (V (Proc.devRef .tc main_arg4))
    (V (Proc.devRef .tc main_arg5)) (V (Proc.devRef .tc main_arg6)) (V (Proc.devRef .tc main_arg7)) (V (Proc.devRef .tc main_arg8))
    (V (Proc.devRef .tc main_arg9)) (V (Proc.devRef .tc main_arg10)) (V (Proc.devRef .tc main_arg11)) (V (Proc.devRef .tc main_arg12))
    (V (Proc.devRef .tc main_arg13)) (V (Proc.devRef .tc main_arg14)) (V (Proc.devRef .tc main_arg15)) (V (Proc.devRef .tc main_arg16))
    (V (Proc.devRef .tc main_arg17))

variable (V : Valuation τ sig (Elt Ideal))

theorem v0_apply (r : Fin 256) (d : Fin 1024) : res_main_v0 V (ix2 r d) = (argsOf V).x r d := by
  pointwise [res_main_v0, argsOf, args]

theorem v14_apply (r : Fin 256) (j : Fin 2048) : res_main_v14 V (ix2 r j) = z (argsOf V) r j := by
  pointwise [res_main_v14, v0_apply, z, nrm, rms]
  rfl

/-- The columns of `v` after gelu, group by group. -/
theorem v32_apply (r : Fin 256) (q : Fin 4) (l : Fin 128) :
    res_main_v32 V (ix3 r q l) = gelu (z (argsOf V) r ⟨512 + (q.val * 128 + l.val), by omega⟩) := by
  pointwise [res_main_v32, res_main_v16, v14_apply, gelu]

/-- A norm over groups of 128, the group and the lane named by division. -/
theorem norm128_div (u : Fin 512 → EReal) (c : Fin 512) :
    u ⟨c.val / 128 * 128 + c.val % 128, by omega⟩ * Ideal.rsqrt (Ideal.div (∑ l : Fin 128, u ⟨c.val / 128 * 128 + l.val, by omega⟩ * u ⟨c.val / 128 * 128 + l.val, by omega⟩)
        (Ideal.ofBits FTy.f32 0x43000000#32) + Ideal.ofBits FTy.f32 0x358637BD#32) = norm128 u c := by
  have e : c.val / 128 * 128 + c.val % 128 = c.val := by omega
  have e2 : c.val / 128 * 128 = 128 * (c.val / 128) := Nat.mul_comm _ _
  simp only [e]
  simp only [e2]
  rfl

/-- A norm over groups of 64, the group and the lane named by division. -/
theorem norm64_div (u : Fin 512 → EReal) (c : Fin 512) :
    u ⟨c.val / 64 * 64 + c.val % 64, by omega⟩ * Ideal.rsqrt (Ideal.div (∑ l : Fin 64, u ⟨c.val / 64 * 64 + l.val, by omega⟩ * u ⟨c.val / 64 * 64 + l.val, by omega⟩)
        (Ideal.ofBits FTy.f32 0x42800000#32) + Ideal.ofBits FTy.f32 0x358637BD#32) = norm64 u c := by
  have e : c.val / 64 * 64 + c.val % 64 = c.val := by omega
  have e2 : c.val / 64 * 64 = 64 * (c.val / 64) := Nat.mul_comm _ _
  simp only [e]
  simp only [e2]
  rfl

/-- The reference's term for the new rows of `v`. -/
def V46 : FVec Ideal S256x512 .f32 :=
  mulf (shapeCast _ (mulf (res_main_v32 V) (broadcastInDim S256x4x128 ![0, 1, 2] bcast_S256x4x1_S256x4x128_0_1_2 (Host.rsqrt (addf (Host.divf (broadcastInDim S256x4x1 ![0, 1] bcast_S256x4_S256x4x1_0_1 (Host.reduceAdd (mulf (res_main_v32 V) (res_main_v32 V)) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32)))))) shapeCasts_S256x4x128_S256x512) (broadcastInDim S256x512 ![0, 1] bcast_S1x512_S256x512_0_1 (broadcastInDim S1x512 ![1] bcast_S512_S1x512_1 (V (Proc.devRef .tc main_arg6))))

theorem v46_apply (r : Fin 256) (c : Fin 512) : V46 V (ix2 r c) = v (argsOf V) r c := by
  pointwise [V46, v32_apply, v]
  exact congrArg (· * (argsOf V).gv c) (norm128_div (fun c => gelu (z (argsOf V) r ⟨512 + c.val, by omega⟩)) c)

theorem v167_eq : res_main_v167 V = shapeCast _ (mulf (mulf (res_main_v15 V) (mulf (broadcastInDim S256x512 ![] bcast_S_S256x512 (constant S_ .f32 0x3F000000#32)) (addf (broadcastInDim S256x512 ![] bcast_S_S256x512 (constant S_ .f32 0x3F800000#32)) (Host.tanh (mulf (broadcastInDim S256x512 ![] bcast_S_S256x512 (constant S_ .f32 0x3F4C422A#32)) (addf (res_main_v15 V) (mulf (broadcastInDim S256x512 ![] bcast_S_S256x512 (constant S_ .f32 0x3D372713#32)) (mulf (mulf (res_main_v15 V) (res_main_v15 V)) (res_main_v15 V))))))))) (shapeCast _ (addf (mulf (shapeCast _ (V46 V) shapeCasts_S256x512_S256x4x128) (broadcastInDim S256x4x128 ![0, 1, 2] bcast_S1x4x1_S256x4x128_0_1_2 (broadcastInDim S1x4x1 ![1, 2] bcast_S4x1_S1x4x1_1_2 (broadcastInDim S4x1 ![0] bcast_S4_S4x1_0 (shapeCast _ (extractStridedSlice S4x1x1 ![0, 0, 0] (V (Proc.devRef .tc main_arg7)) slices_S4x128x128_S4x1x1_0_0_0) shapeCasts_S4x1x1_S4))))) (broadcastInDim S256x4x128 ![0, 1, 2] bcast_S1x4x1_S256x4x128_0_1_2 (broadcastInDim S1x4x1 ![1, 2] bcast_S4x1_S1x4x1_1_2 (broadcastInDim S4x1 ![0] bcast_S4_S4x1_0 (shapeCast _ (extractStridedSlice S4x1 ![0, 0] (V (Proc.devRef .tc main_arg8)) slices_S4x128_S4x1_0_0) shapeCasts_S4x1_S4))))) shapeCasts_S256x4x128_S256x512)) shapeCasts_S256x512_S256x4x128 := rfl

/-- The first mixer before its norm, group by group. -/
theorem v167_apply (r : Fin 256) (q : Fin 4) (l : Fin 128) :
    res_main_v167 V (ix3 r q l) = ua (argsOf V) r ⟨q.val * 128 + l.val, by omega⟩ := by
  have e : (⟨(q.val * 128 + l.val) / 128, by omega⟩ : Fin 4) = q := Fin.ext (by show (q.val * 128 + l.val) / 128 = q.val; omega)
  have hw : V (Proc.devRef .tc main_arg7) (ix3 q 0 0) = (argsOf V).ws ⟨q.val * 128 + l.val, by omega⟩ :=
    congrArg (fun k => V (Proc.devRef .tc main_arg7) (ix3 k 0 0)) e.symm
  have hb : V (Proc.devRef .tc main_arg8) (ix2 q 0) = (argsOf V).bs ⟨q.val * 128 + l.val, by omega⟩ :=
    congrArg (fun k => V (Proc.devRef .tc main_arg8) (ix2 k 0)) e.symm
  rw [v167_eq]
  pointwise [res_main_v15, v14_apply, v46_apply, ua, gelu, hw, hb]

theorem v76_apply (k : Fin 4) (r : Fin 256) (c : Fin 512) :
    res_main_v76 V (ix3 k r c) = if h : k.val < 3 then (argsOf V).sc ⟨k.val, h⟩ r c else xb (argsOf V) r c := by
  pointwise [res_main_v76, v14_apply, xb]
  rfl

/-- The convolution's output. -/
theorem v110_apply (r : Fin 256) (c : Fin 512) : res_main_v110 V (ix2 r c) = xc (argsOf V) r c := by
  pointwise [res_main_v110, v76_apply]
  rfl

theorem v138_apply (c : Fin 512) : res_main_v138 V (ix1 c) = -(argsOf V).lam c := by
  pointwise [res_main_v138]
  rfl

theorem cst_apply : res_main_call0_cst V ix0 = (0 : EReal) := by
  pointwise [res_main_call0_cst]

theorem call0_v3_apply (c : Fin 512) : res_main_call0_v3 V (ix1 c) = -(argsOf V).lam c := by
  pointwise [res_main_call0_v3, v138_apply, cst_apply, sub_zero]

/-- The logarithm of the decay. -/
theorem v142_apply (r : Fin 256) (c : Fin 512) : res_main_v142 V (ix2 r c) = loga (argsOf V) r c := by
  pointwise [res_main_v142, res_main_v111, v110_apply]
  rw [if_neg (fun h => h rfl), v138_apply, cst_apply, call0_v3_apply]
  have e2 : c.val / 64 * 64 = 64 * (c.val / 64) := Nat.mul_comm _ _
  simp only [e2]
  rfl

/-- The reference's term for the first half of the mixed rows. -/
def YA : FVec Ideal S256x512 .f32 :=
  (mulf (shapeCast _ (mulf (res_main_v167 V) (broadcastInDim S256x4x128 ![0, 1, 2] bcast_S256x4x1_S256x4x128_0_1_2 (Host.rsqrt (addf (Host.divf (broadcastInDim S256x4x1 ![0, 1] bcast_S256x4_S256x4x1_0_1 (Host.reduceAdd (mulf (res_main_v167 V) (res_main_v167 V)) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32)))))) shapeCasts_S256x4x128_S256x512) (broadcastInDim S256x512 ![0, 1] bcast_S1x512_S256x512_0_1 (broadcastInDim S1x512 ![1] bcast_S512_S1x512_1 (V (Proc.devRef .tc main_arg16)))))

theorem ya_apply (r : Fin 256) (c : Fin 512) : YA V (ix2 r c) = ya (argsOf V) r c := by
  pointwise [YA, v167_apply, ya]
  exact congrArg (· * (argsOf V).ga c) (norm128_div (ua (argsOf V) r) c)

/-- The reference's term for the recurrence's next state. -/
def HT : FVec Ideal S256x512 .f32 :=
  addf (mulf (Host.exp (res_main_v142 V)) (V (Proc.devRef .tc main_arg3))) (mulf (mulf (Host.sqrt (Host.negf (Host.expm1 (mulf (broadcastInDim S256x512 ![] bcast_S_S256x512 (constant S_ .f32 0x40000000#32)) (res_main_v142 V))))) (shapeCast _ (Host.divf (broadcastInDim S256x8x64 ![] bcast_S_S256x8x64 (constant S_ .f32 0x3F800000#32)) (addf (broadcastInDim S256x8x64 ![] bcast_S_S256x8x64 (constant S_ .f32 0x3F800000#32)) (Host.exp (Host.negf (addf (transpose S256x8x64 [2, 0, 1] (Host.dotGeneral (φ₁ := .f32) (φ₂ := .f32) dot_S8x64x64_S256x8x64_S8x64x256_1_2_2_0_0_1 none (V (Proc.devRef .tc main_arg13)) (res_main_v111 V)) transposes_S8x64x256_S256x8x64_2_0_1) (broadcastInDim S256x8x64 ![0, 1, 2] bcast_S1x8x64_S256x8x64_0_1_2 (broadcastInDim S1x8x64 ![1, 2] bcast_S8x64_S1x8x64_1_2 (V (Proc.devRef .tc main_arg14))))))))) shapeCasts_S256x8x64_S256x512)) (res_main_v110 V))

theorem ht_apply (r : Fin 256) (c : Fin 512) : HT V (ix2 r c) = ht (argsOf V) r c := by
  pointwise [HT, res_main_v111, v110_apply, v142_apply]
  have e2 : c.val / 64 * 64 = 64 * (c.val / 64) := Nat.mul_comm _ _
  simp only [e2]
  rfl

theorem v182_eq : res_main_v182 V = shapeCast _ (mulf (HT V) (mulf (res_main_v18 V) (mulf (broadcastInDim S256x512 ![] bcast_S_S256x512 (constant S_ .f32 0x3F000000#32)) (addf (broadcastInDim S256x512 ![] bcast_S_S256x512 (constant S_ .f32 0x3F800000#32)) (Host.tanh (mulf (broadcastInDim S256x512 ![] bcast_S_S256x512 (constant S_ .f32 0x3F4C422A#32)) (addf (res_main_v18 V) (mulf (broadcastInDim S256x512 ![] bcast_S_S256x512 (constant S_ .f32 0x3D372713#32)) (mulf (mulf (res_main_v18 V) (res_main_v18 V)) (res_main_v18 V)))))))))) shapeCasts_S256x512_S256x8x64 := rfl

/-- The second mixer before its norm, group by group. -/
theorem v182_apply (r : Fin 256) (e : Fin 8) (i : Fin 64) : res_main_v182 V (ix3 r e i) = ub (argsOf V) r ⟨e.val * 64 + i.val, by omega⟩ := by
  rw [v182_eq]
  pointwise [res_main_v18, v14_apply, ht_apply, ub, gelu]

/-- The reference's term for the second half of the mixed rows. -/
def YB : FVec Ideal S256x512 .f32 :=
  (mulf (shapeCast _ (mulf (res_main_v182 V) (broadcastInDim S256x8x64 ![0, 1, 2] bcast_S256x8x1_S256x8x64_0_1_2 (Host.rsqrt (addf (Host.divf (broadcastInDim S256x8x1 ![0, 1] bcast_S256x8_S256x8x1_0_1 (Host.reduceAdd (mulf (res_main_v182 V) (res_main_v182 V)) (constant S_ .f32 0x00000000#32) reducesTo_S256x8x64_S256x8_d2 h_S_)) (broadcastInDim S256x8x1 ![] bcast_S_S256x8x1 (constant S_ .f32 0x42800000#32))) (broadcastInDim S256x8x1 ![] bcast_S_S256x8x1 (constant S_ .f32 0x358637BD#32)))))) shapeCasts_S256x8x64_S256x512) (broadcastInDim S256x512 ![0, 1] bcast_S1x512_S256x512_0_1 (broadcastInDim S1x512 ![1] bcast_S512_S1x512_1 (V (Proc.devRef .tc main_arg17)))))

theorem yb_apply (r : Fin 256) (c : Fin 512) : YB V (ix2 r c) = yb (argsOf V) r c := by
  pointwise [YB, v182_apply, yb]
  exact congrArg (· * (argsOf V).gb c) (norm64_div (ub (argsOf V) r) c)

/-- The reference's term for the mixed rows, behind the rows that the step leaves. -/
def Y : FVec Ideal S16640x1024 .bf16 :=
  concatenate S16640x1024 0 [⟨S16384x1024, (extractStridedSlice S16384x1024 ![0, 0] (V (Proc.devRef .tc main_arg1)) slices_S16640x1024_S16384x1024_0_0)⟩, ⟨S256x1024, (truncf .bf16 (concatenate S256x1024 1 [⟨S256x512, (YA V)⟩, ⟨S256x512, (YB V)⟩] concatenates_S256x512_S256x512_S256x1024_d1) bitsLt_bf16_f32)⟩] concatenates_S16384x1024_S256x1024_S16640x1024_d0

theorem y_apply (r : Fin 16640) (k : Fin 1024) : Y V (ix2 r k)
    = if h : r.val < 16384 then V (Proc.devRef .tc main_arg1) (ix2 r k)
      else if hk : k.val < 512 then ya (argsOf V) ⟨r.val - 16384, by omega⟩ ⟨k.val, hk⟩ else yb (argsOf V) ⟨r.val - 16384, by omega⟩ ⟨k.val - 512, by omega⟩ := by
  pointwise [Y, ya_apply, yb_apply]

/-- The convolution's next state. -/
def CONV : FVec Ideal S3x256x512 .f32 := extractStridedSlice S3x256x512 ![1, 0, 0] (res_main_v76 V) slices_S4x256x512_S3x256x512_1_0_0

theorem conv_apply (k : Fin 3) (r : Fin 256) (c : Fin 512) :
    CONV V (ix3 k r c) = if h : 1 + k.val < 3 then (argsOf V).sc ⟨1 + k.val, h⟩ r c else xb (argsOf V) r c := by
  pointwise [CONV, v76_apply]

end Cert.Reference2Ideal.Sample

end
-- ==== Proof.Sample.Agree.lean ====
/- The sample step's kernel and reference leave the same four results. -/
module

public import proofs.«01_k».proof.Defs
public import proofs.«01_k».proof.Proof.Sample.Value
public import proofs.«01_k».proof.Proof.Sample.PureReference
public import Idealize.ShloMosaic.Lib.Claim
public import Idealize.ShloMosaic.Lib.Quiescent

@[expose] public section

set_option maxRecDepth 16384

noncomputable section

namespace Cert.Sample

open Idealize.ShloMosaic Idealize.SL.Sem
open Cert.Kernel2Ideal.Sample (argsM res17 res18 res19 res20)
open Cert.Reference2Ideal.Sample (argsOf V46 HT Y CONV v46_apply ht_apply y_apply conv_apply)

/-- The reference's frame: it runs from any memory. -/
theorem reference_quiet (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0) :=
  (θ_run Cert.Reference2Ideal.defs _ _).mono (fun r h => ⟨fun c => (h c).2.2.2.2, sem_eq_zero_of_no_sems rfl r.2⟩) (Cert.Reference2Ideal.Value.run m g)

theorem agree : Cert.algebraic_Kernel2Ideal_Reference2Ideal := fun m g m' g' _ ha => by
  refine ⟨fun c => (Cert.Kernel2Ideal.Gen.dats m 0 c).arrAt 17 Cert.Kernel2Ideal.cfg0.N, fun c => (Cert.Kernel2Ideal.Gen.dats m 0 c).arrAt 18 Cert.Kernel2Ideal.cfg0.N,
    fun c => (Cert.Kernel2Ideal.Gen.dats m 0 c).arrAt 19 Cert.Kernel2Ideal.cfg0.N, fun c => (Cert.Kernel2Ideal.Gen.dats m 0 c).arrAt 20 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨e0, e1, e2, e3, rest⟩ := h c
  obtain ⟨a0, a1, a2, a3, a4, a5, a6, a7, a8, a9, a10, a11, a12, a13, a14, a15, a16, a17⟩ := ha c
  have eA : argsOf (StableHlo.launchContents m' c) = argsM m c := by
    show args (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) (m' ((c.tc : Thread Cert.Reference2Ideal.nD Cert.Reference2Ideal.τ).loc Cert.Reference2Ideal.main_arg15)) (m' ((c.tc : Thread Cert.Reference2Ideal.nD Cert.Reference2Ideal.τ).loc Cert.Reference2Ideal.main_arg16)) (m' ((c.tc : Thread Cert.Reference2Ideal.nD Cert.Reference2Ideal.τ).loc Cert.Reference2Ideal.main_arg17)) = _
    rw [a0, a2, a3, a4, a5, a6, a7, a8, a9, a10, a11, a12, a13, a14, a15, a16, a17]
    rfl
  refine ⟨e0.trans ?_, e1.trans ?_, e2.trans ?_, e3.trans ?_, rest⟩
  · funext i
    obtain ⟨r, k, rfl⟩ : ∃ (r : Fin 16640) (k : Fin 1024), i = ix2 r k := ⟨i 0, i 1, by funext a; match a with | ⟨0, _⟩ => rfl | ⟨1, _⟩ => rfl⟩
    refine (y_apply _ r k).trans (Eq.trans ?_ (res17 m c r k).symm)
    rw [eA]
    split
    · exact congrFun a1 (ix2 r k)
    · rfl
  · funext i
    obtain ⟨r, k, rfl⟩ : ∃ (r : Fin 256) (k : Fin 512), i = ix2 r k := ⟨i 0, i 1, by funext a; match a with | ⟨0, _⟩ => rfl | ⟨1, _⟩ => rfl⟩
    refine (v46_apply _ r k).trans (Eq.trans ?_ (res18 m c r k).symm)
    rw [eA]
  · funext i
    obtain ⟨s, r, k, rfl⟩ : ∃ (s : Fin 3) (r : Fin 256) (k : Fin 512), i = ix3 s r k := ⟨i 0, i 1, i 2, by funext a; match a with | ⟨0, _⟩ => rfl | ⟨1, _⟩ => rfl | ⟨2, _⟩ => rfl⟩
    refine (conv_apply _ s r k).trans (Eq.trans ?_ (res19 m c s r k).symm)
    rw [eA]
  · funext i
    obtain ⟨r, k, rfl⟩ : ∃ (r : Fin 256) (k : Fin 512), i = ix2 r k := ⟨i 0, i 1, by funext a; match a with | ⟨0, _⟩ => rfl | ⟨1, _⟩ => rfl⟩
    refine (ht_apply _ r k).trans (Eq.trans ?_ (res20 m c r k).symm)
    rw [eA]

end Cert.Sample

end
-- ==== Proof.Prompt.LoopBits.lean ====
/- The prompt mixer's recurrence, carried over a block's 64 steps: the loop by its invariant. -/
module

public import proofs.«01_k».proof.Defs
public import proofs.«01_k».proof.Proof.Gen.Kernel3.Skeleton
public import proofs.«01_k».proof.Proof.Gen.Kernel3.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3.Prompt

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- One step of the recurrence: the decay's rows times the state, plus the input's rows; past the last step, the state itself. -/
def hstep (arg24 arg25 : Memref sig .tc .vmem S512x512 .f32) (X24 : BufTy.Contents (Elt Bits) arg24.view.ty) (X25 : BufTy.Contents (Elt Bits) arg25.view.ty) (k : ℕ) (acc : Vec Bits S8x512 .f32) : Vec Bits S8x512 .f32 :=
  if h : k < k0_t1_loop.trips then
    k0_pay41 acc (View.readAt (Elt Bits) arg24.view (Rect.unit (s := S512x512) (k0_off6 ⟨k, h⟩) S8x512.size (k0_off6_inb ⟨k, h⟩)).toLoadRect X24)
      (View.readAt (Elt Bits) arg25.view (Rect.unit (s := S512x512) (k0_off6 ⟨k, h⟩) S8x512.size (k0_off6_inb ⟨k, h⟩)).toLoadRect X25)
  else acc

/-- The state after `k` steps. -/
def hrun (arg24 arg25 : Memref sig .tc .vmem S512x512 .f32) (X24 : BufTy.Contents (Elt Bits) arg24.view.ty) (X25 : BufTy.Contents (Elt Bits) arg25.view.ty) (init : Vec Bits S8x512 .f32) : ℕ → Vec Bits S8x512 .f32
  | 0 => init
  | k + 1 => hstep arg24 arg25 X24 X25 k (hrun arg24 arg25 X24 X25 init k)

theorem hrun_zero (arg24 arg25 : Memref sig .tc .vmem S512x512 .f32) (X24 : BufTy.Contents (Elt Bits) arg24.view.ty) (X25 : BufTy.Contents (Elt Bits) arg25.view.ty) (init : Vec Bits S8x512 .f32) :
    init = hrun arg24 arg25 X24 X25 init 0 := rfl

theorem hrun_succ (arg24 arg25 : Memref sig .tc .vmem S512x512 .f32) (X24 : BufTy.Contents (Elt Bits) arg24.view.ty) (X25 : BufTy.Contents (Elt Bits) arg25.view.ty) (init : Vec Bits S8x512 .f32) (k : Fin k0_t1_loop.trips) :
    hrun arg24 arg25 X24 X25 init (k.val + 1) = k0_pay41 (hrun arg24 arg25 X24 X25 init k.val)
      (View.readAt (Elt Bits) arg24.view (Rect.unit (s := S512x512) (k0_off6 k) S8x512.size (k0_off6_inb k)).toLoadRect X24)
      (View.readAt (Elt Bits) arg25.view (Rect.unit (s := S512x512) (k0_off6 k) S8x512.size (k0_off6_inb k)).toLoadRect X25) := by
  show hstep arg24 arg25 X24 X25 k.val _ = _
  unfold hstep
  exact dif_pos k.isLt

set_option backward.proofsInPublic true in
set_option maxHeartbeats 4000000 in
/-- One step of the loop's body: what it carries on is the recurrence's step; it only writes the third buffer. -/
theorem trip (𝒱 : Variants) (c : Dev nD) (bd : Option 𝒱.V) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x512 .f32) (harg4 : arg4.IsWhole) (arg5 : Memref sig .tc .vmem S2x4x512x512 .bf16) (harg5 : arg5.IsWhole) (arg6 : Memref sig .tc .vmem S4x512x512 .bf16) (harg6 : arg6.IsWhole) (arg7 : Memref sig .tc .vmem S2x512x512 .f32) (harg7 : arg7.IsWhole) (arg8 : Memref sig .tc .vmem S4x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x1024 .bf16) (harg17 : arg17.IsWhole) (arg18 : Memref sig .tc .vmem S512x512 .f32) (harg18 : arg18.IsWhole) (arg19 : Memref sig .tc .vmem S24x512 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S536x512 .f32) (harg22 : arg22.IsWhole) (arg23 : Memref sig .tc .vmem S512x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (v31 : FVec Bits S512x1024 .bf16) (v245 : FVec Bits S512x512 .f32) (v278 : FVec Bits S512x512 .f32) (v295 : FVec Bits S512x512 .f32) (v303 : FVec Bits S512x512 .f32) (cst_142 : Bits .f32) (v310 : IVec S512x1 1)
    (X24 : BufTy.Contents (Elt Bits) arg24.view.ty) (X25 : BufTy.Contents (Elt Bits) arg25.view.ty) (f : BufTy.Contents (Elt Bits) arg26.view.ty) (k : Fin k0_t1_loop.trips) (acc : Vec Bits S8x512 .f32) (K : Vec Bits S8x512 .f32 → sProp 𝕄) :
    iprop((arg24.view.loc (c : Thread nD τ) ↦[arg24.view.set]{fullShare} X24) ∗ (arg25.view.loc (c : Thread nD τ) ↦[arg25.view.set]{fullShare} X25)
      ∗ (arg26.view.loc (c : Thread nD τ) ↦[arg26.view.set]{fullShare} f)
      ∗ (∀ f', iprop((arg24.view.loc (c : Thread nD τ) ↦[arg24.view.set]{fullShare} X24) ∗ (arg25.view.loc (c : Thread nD τ) ↦[arg25.view.set]{fullShare} X25)
          ∗ (arg26.view.loc (c : Thread nD τ) ↦[arg26.view.set]{fullShare} f')) -∗
          K (k0_pay41 acc (View.readAt (Elt Bits) arg24.view (Rect.unit (s := S512x512) (k0_off6 k) S8x512.size (k0_off6_inb k)).toLoadRect X24)
              (View.readAt (Elt Bits) arg25.view (Rect.unit (s := S512x512) (k0_off6 k) S8x512.size (k0_off6_inb k)).toLoadRect X25))))
      ⊢ wp frame (wpE (defs₀ (F := Bits)) 𝒱 (c : Thread nD τ) bd) E (k0_t1_body (F := Bits) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v31 v245 v278 v295 v303 cst_142 v310 k acc) K := by
  have hk : k.val < 64 := Nat.lt_of_lt_of_le k.isLt k0_t1_abs.2.1
  unfold k0_t1_body
  iintro ⟨H24, H25, H26, Hk⟩
  sl_exec
  sl_step
  iapply Hk
  isplitl [H24]; · iexact H24
  isplitl [H25]; · iexact H25
  iexact H26

set_option warn.classDefReducibility false in
/-- The loop by its invariant: before step `k` the carried state is `hrun … k`, the buffers it reads are unchanged. -/
@[sl_loop] def loopInv (𝒱 : Variants) (c : Dev nD) (bd : Option 𝒱.V) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x512 .f32) (harg4 : arg4.IsWhole) (arg5 : Memref sig .tc .vmem S2x4x512x512 .bf16) (harg5 : arg5.IsWhole) (arg6 : Memref sig .tc .vmem S4x512x512 .bf16) (harg6 : arg6.IsWhole) (arg7 : Memref sig .tc .vmem S2x512x512 .f32) (harg7 : arg7.IsWhole) (arg8 : Memref sig .tc .vmem S4x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x1024 .bf16) (harg17 : arg17.IsWhole) (arg18 : Memref sig .tc .vmem S512x512 .f32) (harg18 : arg18.IsWhole) (arg19 : Memref sig .tc .vmem S24x512 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S536x512 .f32) (harg22 : arg22.IsWhole) (arg23 : Memref sig .tc .vmem S512x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (v31 : FVec Bits S512x1024 .bf16) (v245 : FVec Bits S512x512 .f32) (v278 : FVec Bits S512x512 .f32) (v295 : FVec Bits S512x512 .f32) (v303 : FVec Bits S512x512 .f32) (cst_142 : Bits .f32) (v310 : IVec S512x1 1)
    (X24 : BufTy.Contents (Elt Bits) arg24.view.ty) (X25 : BufTy.Contents (Elt Bits) arg25.view.ty) (init : Vec Bits S8x512 .f32) :
    Idealize.ShloMosaic.LoopInv (M := 𝕄) Idealize.ShloMosaic.frame (wpE defs₀ 𝒱 (c : Thread nD τ) bd) E
      k0_t1_loop.lb k0_t1_loop.ub k0_t1_loop.st k0_t1_ok init (k0_t1_body (F := Bits) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v31 v245 v278 v295 v303 cst_142 v310) where
  inv k acc := iprop((arg24.view.loc (c : Thread nD τ) ↦[arg24.view.set]{fullShare} X24) ∗ (arg25.view.loc (c : Thread nD τ) ↦[arg25.view.set]{fullShare} X25)
    ∗ (∃ f, (arg26.view.loc (c : Thread nD τ) ↦[arg26.view.set]{fullShare} f)) ∗ ⌜acc = hrun arg24 arg25 X24 X25 init k⌝)
  step k acc := by
    iintro ⟨H24, H25, ⟨%f, H26⟩, %h⟩
    subst h
    iapply (trip 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v31 v245 v278 v295 v303 cst_142 v310 X24 X25 f k)
    isplitl [H24]; · iexact H24
    isplitl [H25]; · iexact H25
    isplitl [H26]; · iexact H26
    iintro %f' ⟨H24, H25, H26⟩
    isplitl [H24]; · iexact H24
    isplitl [H25]; · iexact H25
    isplitl [H26]; · iexists _; iexact H26
    ipureintro
    exact (hrun_succ arg24 arg25 X24 X25 init k).symm

end Cert.Kernel3.Prompt

end
-- ==== Proof.Prompt.BodyBits.lean ====
/- The prompt mixer's body at every block: what its windows hold, and what the body does to them. -/
module

public import proofs.«01_k».proof.Proof.Prompt.QuietABits
public import proofs.«01_k».proof.Proof.Prompt.QuietBBits
public import proofs.«01_k».proof.Proof.Prompt.QuietCBits
public import proofs.«01_k».proof.Proof.Prompt.QuietDBits
public import proofs.«01_k».proof.Proof.Prompt.QuietEBits
public import proofs.«01_k».proof.Proof.Gen.Kernel3.Frame
public import Idealize.ShloMosaic.Lib.Pipeline.TableIdle

@[expose] public section

set_option maxRecDepth 16384

noncomputable section

namespace Cert.Kernel3.Prompt

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable (m : (ℓ : Loc nD τ sig) → Buf (Elt Bits) ℓ)

/-- The windows nothing is said of. -/
def unsaid : Fin 20 → Bool := fun w => w.val == 16 || w.val == 17 || w.val == 18 || w.val == 19

/-- What each window's buffer holds after the body at a block. -/
def dats (_ : Fin 1) (c : Dev nD) : Dat τ (Elt Bits) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => Dat.unnamed 16 t
    | ⟨17, _⟩ => Dat.unnamed 17 t
    | ⟨18, _⟩ => Dat.unnamed 18 t
    | ⟨19, _⟩ => Dat.unnamed 19 t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- Every block is the first, an even one in between, an odd one in between, the last but one, or the last. -/
theorem block_cases : ∀ t : Fin cfg0.N,
    (isFirst (grid0.coords t) = 1#1 ∧ isEven (grid0.coords t) = 1#1 ∧ (¬ k0_cond3 (grid0.coords t) = 1#1) ∧ ¬ k0_cond4 (grid0.coords t) = 1#1)
    ∨ ((¬ isFirst (grid0.coords t) = 1#1) ∧ isEven (grid0.coords t) = 1#1 ∧ (¬ k0_cond3 (grid0.coords t) = 1#1) ∧ ¬ k0_cond4 (grid0.coords t) = 1#1)
    ∨ ((¬ isFirst (grid0.coords t) = 1#1) ∧ (¬ isEven (grid0.coords t) = 1#1) ∧ (¬ k0_cond3 (grid0.coords t) = 1#1) ∧ ¬ k0_cond4 (grid0.coords t) = 1#1)
    ∨ ((¬ isFirst (grid0.coords t) = 1#1) ∧ isEven (grid0.coords t) = 1#1 ∧ k0_cond3 (grid0.coords t) = 1#1 ∧ ¬ k0_cond4 (grid0.coords t) = 1#1)
    ∨ ((¬ isFirst (grid0.coords t) = 1#1) ∧ (¬ isEven (grid0.coords t) = 1#1) ∧ k0_cond3 (grid0.coords t) = 1#1 ∧ k0_cond4 (grid0.coords t) = 1#1) := by
  decide +kernel

/-- What the body is called with at a block, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d))

/-- A scratch buffer whole is its memref. -/
theorem scratch_all (c : Dev nD) : (Pipeline.scopedRest (Ix := Unit) (Name := ℕ) (U := UR sig nD τ) (Lvl := ℕ) (Val := Elt Bits) spec0 c : sProp 𝕄)
    = iprop((∃ f, (scH.view.loc (c : Thread nD τ) ↦[scH.view.set]{fullShare} f)) ∗ (∃ f, (scX.view.loc (c : Thread nD τ) ↦[scX.view.set]{fullShare} f)) ∗ (∃ f, (scV.view.loc (c : Thread nD τ) ↦[scV.view.set]{fullShare} f)) ∗ (∃ f, (scA.view.loc (c : Thread nD τ) ↦[scA.view.set]{fullShare} f)) ∗ (∃ f, (scB.view.loc (c : Thread nD τ) ↦[scB.view.set]{fullShare} f)) ∗ (∃ f, (scO.view.loc (c : Thread nD τ) ↦[scO.view.set]{fullShare} f))) := by
  rw [scopedRest0_eq]
  simp only [show ∀ b : Ref sig .tc, (Memref.whole b : Memref sig .tc _ _ _).view.set = Finset.univ from fun b => View.set_whole b]

set_option maxHeartbeats 4000000 in
/-- The body's triple in case A. -/
theorem bodyA (c : Dev nD) (t : Fin cfg0.N) (k1 : isFirst (grid0.coords t) = 1#1) (k2 : isEven (grid0.coords t) = 1#1) (k3 : ¬ k0_cond3 (grid0.coords t) = 1#1) (k4 : ¬ k0_cond4 (grid0.coords t) = 1#1) :
    bodyPre m c t ⊢ wp frame (wpE (defs₀ (F := Bits)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runA c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexists _; iexact H17
  isplitl [H18]; · iexists _; iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexact H17
  isplitl [H18]; · iexact H18
  iexact H19

set_option maxHeartbeats 4000000 in
/-- The body's triple in case B. -/
theorem bodyB (c : Dev nD) (t : Fin cfg0.N) (k1 : ¬ isFirst (grid0.coords t) = 1#1) (k2 : isEven (grid0.coords t) = 1#1) (k3 : ¬ k0_cond3 (grid0.coords t) = 1#1) (k4 : ¬ k0_cond4 (grid0.coords t) = 1#1) :
    bodyPre m c t ⊢ wp frame (wpE (defs₀ (F := Bits)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runB c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexists _; iexact H17
  isplitl [H18]; · iexists _; iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexact H17
  isplitl [H18]; · iexact H18
  iexact H19

set_option maxHeartbeats 4000000 in
/-- The body's triple in case C. -/
theorem bodyC (c : Dev nD) (t : Fin cfg0.N) (k1 : ¬ isFirst (grid0.coords t) = 1#1) (k2 : ¬ isEven (grid0.coords t) = 1#1) (k3 : ¬ k0_cond3 (grid0.coords t) = 1#1) (k4 : ¬ k0_cond4 (grid0.coords t) = 1#1) :
    bodyPre m c t ⊢ wp frame (wpE (defs₀ (F := Bits)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runC c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexists _; iexact H17
  isplitl [H18]; · iexists _; iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexact H17
  isplitl [H18]; · iexact H18
  iexact H19

set_option maxHeartbeats 4000000 in
/-- The body's triple in case D. -/
theorem bodyD (c : Dev nD) (t : Fin cfg0.N) (k1 : ¬ isFirst (grid0.coords t) = 1#1) (k2 : isEven (grid0.coords t) = 1#1) (k3 : k0_cond3 (grid0.coords t) = 1#1) (k4 : ¬ k0_cond4 (grid0.coords t) = 1#1) :
    bodyPre m c t ⊢ wp frame (wpE (defs₀ (F := Bits)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runD c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexists _; iexact H17
  isplitl [H18]; · iexists _; iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexact H17
  isplitl [H18]; · iexact H18
  iexact H19

set_option maxHeartbeats 4000000 in
/-- The body's triple in case E. -/
theorem bodyE (c : Dev nD) (t : Fin cfg0.N) (k1 : ¬ isFirst (grid0.coords t) = 1#1) (k2 : ¬ isEven (grid0.coords t) = 1#1) (k3 : k0_cond3 (grid0.coords t) = 1#1) (k4 : k0_cond4 (grid0.coords t) = 1#1) :
    bodyPre m c t ⊢ wp frame (wpE (defs₀ (F := Bits)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runE c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexists _; iexact H17
  isplitl [H18]; · iexists _; iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexact H17
  isplitl [H18]; · iexact H18
  iexact H19

/-- The body's triple at every block. -/
theorem sound_body (c : Dev nD) (t : Fin cfg0.N) :
    bodyPre m c t ⊢ wp frame (wpE (defs₀ (F := Bits)) Variants.none c none) Set.univ (bodyAt0 t) (fun _ => bodyPost m c t) := by
  rcases block_cases t with ⟨k1, k2, k3, k4⟩ | ⟨k1, k2, k3, k4⟩ | ⟨k1, k2, k3, k4⟩ | ⟨k1, k2, k3, k4⟩ | ⟨k1, k2, k3, k4⟩
  · exact bodyA m c t k1 k2 k3 k4
  · exact bodyB m c t k1 k2 k3 k4
  · exact bodyC m c t k1 k2 k3 k4
  · exact bodyD m c t k1 k2 k3 k4
  · exact bodyE m c t k1 k2 k3 k4

theorem row (t : Fin cfg0.N) :
    defs₀ (F := Bits) .tc cfg0.body (cfg0.bodyArgs t (cfg0.slots t)) = bodyAt0 t := by
  unfold defs₀; rw [Defs.onTc_tc]

/-- The body's obligation. -/
theorem body_obligation (c : Dev nD) : BodyObligation (dats m 0 c) (defs₀ (F := Bits)) Variants.none () Set.univ unsaid := fun t => by
  rw [bigSep_W0, bigSep_W0, row]
  exact triple_restated (sound_body m c t) rfl .rfl fun _ => .rfl

end Cert.Kernel3.Prompt

end
-- ==== Proof.Prompt.LaunchBits.lean ====
/- The prompt mixer's launch: it runs, leaves its arguments as they were and ends quiescent. -/
module

public import proofs.«01_k».proof.Proof.Prompt.BodyBits
public import Idealize.ShloMosaic.Lib.Claim

@[expose] public section

set_option maxRecDepth 16384

noncomputable section

namespace Cert.Kernel3.Prompt

open Cert.Kernel3 Cert.Kernel3.Gen
open Idealize.ShloMosaic Idealize.ShloMosaic.TcCoe Idealize.SL.Sem

variable (m : (ℓ : Loc nD τ sig) → Buf (Elt Bits) ℓ) (ρ : Dev nD → PrngReg)

set_option backward.isDefEq.respectTransparency.types false in
/-- The run: the read-back arrays as the blocks leave them, and every counter at zero. -/
theorem run_quiescent : θ_run (defs (F := Bits)) (onTc (τ := τ) (main (F := Bits))) ⟨m, fun _ => 0, ρ⟩
    (fun r => Pipeline.RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The arguments end as they began. -/
theorem args_kept (r : PUnit × MemSt nD τ sig (Elt Bits)) (h : Pipeline.RDat.FramePost cfg0 (fun c => (dats m 0 c).toRForget unsaid) (V m) r) (c : Dev nD) :
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 7 rfl).trans ((A_eq m c 7).trans (V_main_arg6 m c)),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- The frame. -/
theorem frame : θ_run (Cert.Kernel3.defs (F := Bits)) (onTc (τ := Cert.Kernel3.τ) (Cert.Kernel3.main (F := Bits))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0) :=
  (θ_run (defs (F := Bits)) _ _).mono (fun r h => ⟨args_kept m r h.1, h.2⟩) (run_quiescent m ρ)

end Cert.Kernel3.Prompt

end
-- ==== Proof.Prompt.LoopIdeal.lean ====
/- The prompt mixer's recurrence, carried over a block's 64 steps: the loop by its invariant. -/
module

public import proofs.«01_k».proof.Defs
public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Prompt

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- One step of the recurrence: the decay's rows times the state, plus the input's rows; past the last step, the state itself. -/
def hstep (arg24 arg25 : Memref sig .tc .vmem S512x512 .f32) (X24 : BufTy.Contents (Elt Ideal) arg24.view.ty) (X25 : BufTy.Contents (Elt Ideal) arg25.view.ty) (k : ℕ) (acc : Vec Ideal S8x512 .f32) : Vec Ideal S8x512 .f32 :=
  if h : k < k0_t1_loop.trips then
    k0_pay41 acc (View.readAt (Elt Ideal) arg24.view (Rect.unit (s := S512x512) (k0_off6 ⟨k, h⟩) S8x512.size (k0_off6_inb ⟨k, h⟩)).toLoadRect X24)
      (View.readAt (Elt Ideal) arg25.view (Rect.unit (s := S512x512) (k0_off6 ⟨k, h⟩) S8x512.size (k0_off6_inb ⟨k, h⟩)).toLoadRect X25)
  else acc

/-- The state after `k` steps. -/
def hrun (arg24 arg25 : Memref sig .tc .vmem S512x512 .f32) (X24 : BufTy.Contents (Elt Ideal) arg24.view.ty) (X25 : BufTy.Contents (Elt Ideal) arg25.view.ty) (init : Vec Ideal S8x512 .f32) : ℕ → Vec Ideal S8x512 .f32
  | 0 => init
  | k + 1 => hstep arg24 arg25 X24 X25 k (hrun arg24 arg25 X24 X25 init k)

theorem hrun_zero (arg24 arg25 : Memref sig .tc .vmem S512x512 .f32) (X24 : BufTy.Contents (Elt Ideal) arg24.view.ty) (X25 : BufTy.Contents (Elt Ideal) arg25.view.ty) (init : Vec Ideal S8x512 .f32) :
    init = hrun arg24 arg25 X24 X25 init 0 := rfl

theorem hrun_succ (arg24 arg25 : Memref sig .tc .vmem S512x512 .f32) (X24 : BufTy.Contents (Elt Ideal) arg24.view.ty) (X25 : BufTy.Contents (Elt Ideal) arg25.view.ty) (init : Vec Ideal S8x512 .f32) (k : Fin k0_t1_loop.trips) :
    hrun arg24 arg25 X24 X25 init (k.val + 1) = k0_pay41 (hrun arg24 arg25 X24 X25 init k.val)
      (View.readAt (Elt Ideal) arg24.view (Rect.unit (s := S512x512) (k0_off6 k) S8x512.size (k0_off6_inb k)).toLoadRect X24)
      (View.readAt (Elt Ideal) arg25.view (Rect.unit (s := S512x512) (k0_off6 k) S8x512.size (k0_off6_inb k)).toLoadRect X25) := by
  show hstep arg24 arg25 X24 X25 k.val _ = _
  unfold hstep
  exact dif_pos k.isLt

set_option backward.proofsInPublic true in
set_option maxHeartbeats 4000000 in
/-- One step of the loop's body: what it carries on is the recurrence's step; it only writes the third buffer. -/
theorem trip (𝒱 : Variants) (c : Dev nD) (bd : Option 𝒱.V) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x512 .f32) (harg4 : arg4.IsWhole) (arg5 : Memref sig .tc .vmem S2x4x512x512 .bf16) (harg5 : arg5.IsWhole) (arg6 : Memref sig .tc .vmem S4x512x512 .bf16) (harg6 : arg6.IsWhole) (arg7 : Memref sig .tc .vmem S2x512x512 .f32) (harg7 : arg7.IsWhole) (arg8 : Memref sig .tc .vmem S4x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x1024 .bf16) (harg17 : arg17.IsWhole) (arg18 : Memref sig .tc .vmem S512x512 .f32) (harg18 : arg18.IsWhole) (arg19 : Memref sig .tc .vmem S24x512 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S536x512 .f32) (harg22 : arg22.IsWhole) (arg23 : Memref sig .tc .vmem S512x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (v31 : FVec Ideal S512x1024 .bf16) (v245 : FVec Ideal S512x512 .f32) (v278 : FVec Ideal S512x512 .f32) (v295 : FVec Ideal S512x512 .f32) (v303 : FVec Ideal S512x512 .f32) (cst_142 : Ideal .f32) (v310 : IVec S512x1 1)
    (X24 : BufTy.Contents (Elt Ideal) arg24.view.ty) (X25 : BufTy.Contents (Elt Ideal) arg25.view.ty) (f : BufTy.Contents (Elt Ideal) arg26.view.ty) (k : Fin k0_t1_loop.trips) (acc : Vec Ideal S8x512 .f32) (K : Vec Ideal S8x512 .f32 → sProp 𝕄) :
    iprop((arg24.view.loc (c : Thread nD τ) ↦[arg24.view.set]{fullShare} X24) ∗ (arg25.view.loc (c : Thread nD τ) ↦[arg25.view.set]{fullShare} X25)
      ∗ (arg26.view.loc (c : Thread nD τ) ↦[arg26.view.set]{fullShare} f)
      ∗ (∀ f', iprop((arg24.view.loc (c : Thread nD τ) ↦[arg24.view.set]{fullShare} X24) ∗ (arg25.view.loc (c : Thread nD τ) ↦[arg25.view.set]{fullShare} X25)
          ∗ (arg26.view.loc (c : Thread nD τ) ↦[arg26.view.set]{fullShare} f')) -∗
          K (k0_pay41 acc (View.readAt (Elt Ideal) arg24.view (Rect.unit (s := S512x512) (k0_off6 k) S8x512.size (k0_off6_inb k)).toLoadRect X24)
              (View.readAt (Elt Ideal) arg25.view (Rect.unit (s := S512x512) (k0_off6 k) S8x512.size (k0_off6_inb k)).toLoadRect X25))))
      ⊢ wp frame (wpE (defs₀ (F := Ideal)) 𝒱 (c : Thread nD τ) bd) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v31 v245 v278 v295 v303 cst_142 v310 k acc) K := by
  have hk : k.val < 64 := Nat.lt_of_lt_of_le k.isLt k0_t1_abs.2.1
  unfold k0_t1_body
  iintro ⟨H24, H25, H26, Hk⟩
  sl_exec
  sl_step
  iapply Hk
  isplitl [H24]; · iexact H24
  isplitl [H25]; · iexact H25
  iexact H26

set_option warn.classDefReducibility false in
/-- The loop by its invariant: before step `k` the carried state is `hrun … k`, the buffers it reads are unchanged. -/
@[sl_loop] def loopInv (𝒱 : Variants) (c : Dev nD) (bd : Option 𝒱.V) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x512 .f32) (harg4 : arg4.IsWhole) (arg5 : Memref sig .tc .vmem S2x4x512x512 .bf16) (harg5 : arg5.IsWhole) (arg6 : Memref sig .tc .vmem S4x512x512 .bf16) (harg6 : arg6.IsWhole) (arg7 : Memref sig .tc .vmem S2x512x512 .f32) (harg7 : arg7.IsWhole) (arg8 : Memref sig .tc .vmem S4x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x1024 .bf16) (harg17 : arg17.IsWhole) (arg18 : Memref sig .tc .vmem S512x512 .f32) (harg18 : arg18.IsWhole) (arg19 : Memref sig .tc .vmem S24x512 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S536x512 .f32) (harg22 : arg22.IsWhole) (arg23 : Memref sig .tc .vmem S512x512 .bf16) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (v31 : FVec Ideal S512x1024 .bf16) (v245 : FVec Ideal S512x512 .f32) (v278 : FVec Ideal S512x512 .f32) (v295 : FVec Ideal S512x512 .f32) (v303 : FVec Ideal S512x512 .f32) (cst_142 : Ideal .f32) (v310 : IVec S512x1 1)
    (X24 : BufTy.Contents (Elt Ideal) arg24.view.ty) (X25 : BufTy.Contents (Elt Ideal) arg25.view.ty) (init : Vec Ideal S8x512 .f32) :
    Idealize.ShloMosaic.LoopInv (M := 𝕄) Idealize.ShloMosaic.frame (wpE defs₀ 𝒱 (c : Thread nD τ) bd) E
      k0_t1_loop.lb k0_t1_loop.ub k0_t1_loop.st k0_t1_ok init (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v31 v245 v278 v295 v303 cst_142 v310) where
  inv k acc := iprop((arg24.view.loc (c : Thread nD τ) ↦[arg24.view.set]{fullShare} X24) ∗ (arg25.view.loc (c : Thread nD τ) ↦[arg25.view.set]{fullShare} X25)
    ∗ (∃ f, (arg26.view.loc (c : Thread nD τ) ↦[arg26.view.set]{fullShare} f)) ∗ ⌜acc = hrun arg24 arg25 X24 X25 init k⌝)
  step k acc := by
    iintro ⟨H24, H25, ⟨%f, H26⟩, %h⟩
    subst h
    iapply (trip 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v31 v245 v278 v295 v303 cst_142 v310 X24 X25 f k)
    isplitl [H24]; · iexact H24
    isplitl [H25]; · iexact H25
    isplitl [H26]; · iexact H26
    iintro %f' ⟨H24, H25, H26⟩
    isplitl [H24]; · iexact H24
    isplitl [H25]; · iexact H25
    isplitl [H26]; · iexists _; iexact H26
    ipureintro
    exact (hrun_succ arg24 arg25 X24 X25 init k).symm

end Cert.Kernel3Ideal.Prompt

end
-- ==== Proof.Prompt.ScratchIdeal.lean ====
/- The prompt mixer's scratch buffers and the tests its body makes of a block's number. -/
module

public import proofs.«01_k».proof.Defs
public import proofs.«01_k».proof.Proof.Gen.Kernel3Ideal.Skeleton
public import proofs.«01_k».proof.Proof.Gen.Kernel3Ideal.Launch
public import proofs.«01_k».proof.Proof.Prompt.LoopIdeal
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Prompt

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- Scratch buffer 0, whole. -/
abbrev scH : Memref sig .tc .vmem S8x512 .f32 := Memref.whole cc0_scratch0
/-- Scratch buffer 1, whole. -/
abbrev scX : Memref sig .tc .vmem S536x512 .f32 := Memref.whole cc0_scratch1
/-- Scratch buffer 2, whole. -/
abbrev scV : Memref sig .tc .vmem S512x512 .bf16 := Memref.whole cc0_scratch2
/-- Scratch buffer 3, whole. -/
abbrev scA : Memref sig .tc .vmem S512x512 .f32 := Memref.whole cc0_scratch3
/-- Scratch buffer 4, whole. -/
abbrev scB : Memref sig .tc .vmem S512x512 .f32 := Memref.whole cc0_scratch4
/-- Scratch buffer 5, whole. -/
abbrev scO : Memref sig .tc .vmem S512x512 .f32 := Memref.whole cc0_scratch5

/-- The test of the first block. -/
abbrev isFirst (i : grid0.Coords) : BitVec 1 := Scalar.cmpi .ne (Scalar.extui (Scalar.cmpi .eq (BitVec.ofNat 32 (i 0).val) 0#32)) 0#32
/-- The test of an even block. -/
abbrev isEven (i : grid0.Coords) : BitVec 1 :=
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .ne (Scalar.extui (Scalar.cmpi .eq v9 0#32)) 0#32

end Cert.Kernel3Ideal.Prompt

end
-- ==== Proof.Prompt.QuietAIdeal.lean ====
/- The prompt mixer's body at the first block: it runs to its end. -/
module

public import proofs.«01_k».proof.Defs
public import proofs.«01_k».proof.Proof.Gen.Kernel3Ideal.Skeleton
public import proofs.«01_k».proof.Proof.Gen.Kernel3Ideal.Launch
public import proofs.«01_k».proof.Proof.Prompt.ScratchIdeal
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Prompt

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.proofsInPublic true in
set_option maxHeartbeats 16000000 in
/-- The first block: the body runs on its buffers, whatever the scratch holds; an output it does not store is as it was. -/
theorem runA (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x512 .f32) (harg4 : arg4.IsWhole) (arg5 : Memref sig .tc .vmem S2x4x512x512 .bf16) (harg5 : arg5.IsWhole) (arg6 : Memref sig .tc .vmem S4x512x512 .bf16) (harg6 : arg6.IsWhole) (arg7 : Memref sig .tc .vmem S2x512x512 .f32) (harg7 : arg7.IsWhole) (arg8 : Memref sig .tc .vmem S4x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x1024 .bf16) (harg17 : arg17.IsWhole) (arg18 : Memref sig .tc .vmem S512x512 .f32) (harg18 : arg18.IsWhole) (arg19 : Memref sig .tc .vmem S24x512 .f32) (harg19 : arg19.IsWhole) (arg20 : Memref sig .tc .vmem S8x512 .f32) (harg20 : arg20.IsWhole) (x0 : S512x1024.Idx → Elt Ideal .f32) (x1 : S1x1024.Idx → Elt Ideal .f32) (x2 : S1024x2048.Idx → Elt Ideal .bf16) (x3 : S1x512.Idx → Elt Ideal .f32) (x4 : S2x4x512x512.Idx → Elt Ideal .bf16) (x5 : S4x512x512.Idx → Elt Ideal .bf16) (x6 : S2x512x512.Idx → Elt Ideal .f32) (x7 : S4x512.Idx → Elt Ideal .f32) (x8 : S1x512.Idx → Elt Ideal .f32) (x9 : S512x512.Idx → Elt Ideal .bf16) (x10 : S1x512.Idx → Elt Ideal .f32) (x11 : S512x512.Idx → Elt Ideal .bf16) (x12 : S1x512.Idx → Elt Ideal .f32) (x13 : S1x512.Idx → Elt Ideal .f32) (x14 : S1x512.Idx → Elt Ideal .f32) (x15 : S1x512.Idx → Elt Ideal .f32) (y17 : FVec Ideal S512x512 .f32) (y18 : FVec Ideal S24x512 .f32) (k1 : isFirst i = 1#1) (k2 : isEven i = 1#1) (k3 : ¬ k0_cond3 i = 1#1) (k4 : ¬ k0_cond4 i = 1#1) (K : PUnit → sProp 𝕄) :
    iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ owns (c : Thread nD τ) arg18 fullShare y17
          ∗ owns (c : Thread nD τ) arg19 fullShare y18
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ owns (c : Thread nD τ) arg18 fullShare y17
          ∗ owns (c : Thread nD τ) arg19 fullShare y18
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))) -∗ K ⟨⟩))
      ⊢ wp frame (wpE (defs₀ (F := Ideal)) Variants.none c none) Set.univ (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 scH (Memref.isWhole_whole _) scX (Memref.isWhole_whole _) scV (Memref.isWhole_whole _) scA (Memref.isWhole_whole _) scB (Memref.isWhole_whole _) scO (Memref.isWhole_whole _)) K := by
  unfold owns
  rw [cc0_mix_prompt_eq_skeleton]; unfold cc0_mix_prompt_skel
  iintro ⟨H0, H1, H2, H3, H4, H5, H6, H7, H8, H9, H10, H11, H12, H13, H14, H15, ⟨%d16, %f16, -, H16⟩, ⟨%f17, %e17, H17⟩, ⟨%f18, %e18, H18⟩, ⟨%d19, %f19, -, H19⟩, ⟨%s0, S0⟩, ⟨%s1, S1⟩, ⟨%s2, S2⟩, ⟨%s3, S3⟩, ⟨%s4, S4⟩, ⟨%s5, S5⟩, Hk⟩
  have hS0 : scH.IsWhole := Memref.isWhole_whole _
  have hS1 : scX.IsWhole := Memref.isWhole_whole _
  have hS2 : scV.IsWhole := Memref.isWhole_whole _
  have hS3 : scA.IsWhole := Memref.isWhole_whole _
  have hS4 : scB.IsWhole := Memref.isWhole_whole _
  have hS5 : scO.IsWhole := Memref.isWhole_whole _
  sl_exec! (disch := first | (guard_target = ¬ (k0_cond3 _ = _); exact k3) | (guard_target = ¬ (k0_cond4 _ = _); exact k4) | exact k1 | exact k2)
  sl_step

  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexists _; isplitr; swap; · iexact H16
                   · ipureintro; rfl
  isplitl [H17]; · iexists _; isplitr; swap; · iexact H17
                   · ipureintro; exact e17
  isplitl [H18]; · iexists _; isplitr; swap; · iexact H18
                   · ipureintro; exact e18
  isplitl [H19]; · iexists _; iexists _; isplitr; swap; · iexact H19
                   · ipureintro; rfl
  isplitl [S0]; · iexists _; iexact S0
  isplitl [S1]; · iexists _; iexact S1
  isplitl [S2]; · iexists _; iexact S2
  isplitl [S3]; · iexists _; iexact S3
  isplitl [S4]; · iexists _; iexact S4
  iexists _; iexact S5

end Cert.Kernel3Ideal.Prompt

end
-- ==== Proof.Prompt.QuietBIdeal.lean ====
/- The prompt mixer's body at an even block in between: it runs to its end. -/
module

public import proofs.«01_k».proof.Defs
public import proofs.«01_k».proof.Proof.Gen.Kernel3Ideal.Skeleton
public import proofs.«01_k».proof.Proof.Gen.Kernel3Ideal.Launch
public import proofs.«01_k».proof.Proof.Prompt.ScratchIdeal
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Prompt

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.proofsInPublic true in
set_option maxHeartbeats 16000000 in
/-- An even block in between: the body runs on its buffers, whatever the scratch holds; an output it does not store is as it was. -/
theorem runB (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x512 .f32) (harg4 : arg4.IsWhole) (arg5 : Memref sig .tc .vmem S2x4x512x512 .bf16) (harg5 : arg5.IsWhole) (arg6 : Memref sig .tc .vmem S4x512x512 .bf16) (harg6 : arg6.IsWhole) (arg7 : Memref sig .tc .vmem S2x512x512 .f32) (harg7 : arg7.IsWhole) (arg8 : Memref sig .tc .vmem S4x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x1024 .bf16) (harg17 : arg17.IsWhole) (arg18 : Memref sig .tc .vmem S512x512 .f32) (harg18 : arg18.IsWhole) (arg19 : Memref sig .tc .vmem S24x512 .f32) (harg19 : arg19.IsWhole) (arg20 : Memref sig .tc .vmem S8x512 .f32) (harg20 : arg20.IsWhole) (x0 : S512x1024.Idx → Elt Ideal .f32) (x1 : S1x1024.Idx → Elt Ideal .f32) (x2 : S1024x2048.Idx → Elt Ideal .bf16) (x3 : S1x512.Idx → Elt Ideal .f32) (x4 : S2x4x512x512.Idx → Elt Ideal .bf16) (x5 : S4x512x512.Idx → Elt Ideal .bf16) (x6 : S2x512x512.Idx → Elt Ideal .f32) (x7 : S4x512.Idx → Elt Ideal .f32) (x8 : S1x512.Idx → Elt Ideal .f32) (x9 : S512x512.Idx → Elt Ideal .bf16) (x10 : S1x512.Idx → Elt Ideal .f32) (x11 : S512x512.Idx → Elt Ideal .bf16) (x12 : S1x512.Idx → Elt Ideal .f32) (x13 : S1x512.Idx → Elt Ideal .f32) (x14 : S1x512.Idx → Elt Ideal .f32) (x15 : S1x512.Idx → Elt Ideal .f32) (y17 : FVec Ideal S512x512 .f32) (y18 : FVec Ideal S24x512 .f32) (k1 : ¬ isFirst i = 1#1) (k2 : isEven i = 1#1) (k3 : ¬ k0_cond3 i = 1#1) (k4 : ¬ k0_cond4 i = 1#1) (K : PUnit → sProp 𝕄) :
    iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ owns (c : Thread nD τ) arg18 fullShare y17
          ∗ owns (c : Thread nD τ) arg19 fullShare y18
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ owns (c : Thread nD τ) arg18 fullShare y17
          ∗ owns (c : Thread nD τ) arg19 fullShare y18
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))) -∗ K ⟨⟩))
      ⊢ wp frame (wpE (defs₀ (F := Ideal)) Variants.none c none) Set.univ (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 scH (Memref.isWhole_whole _) scX (Memref.isWhole_whole _) scV (Memref.isWhole_whole _) scA (Memref.isWhole_whole _) scB (Memref.isWhole_whole _) scO (Memref.isWhole_whole _)) K := by
  unfold owns
  rw [cc0_mix_prompt_eq_skeleton]; unfold cc0_mix_prompt_skel
  iintro ⟨H0, H1, H2, H3, H4, H5, H6, H7, H8, H9, H10, H11, H12, H13, H14, H15, ⟨%d16, %f16, -, H16⟩, ⟨%f17, %e17, H17⟩, ⟨%f18, %e18, H18⟩, ⟨%d19, %f19, -, H19⟩, ⟨%s0, S0⟩, ⟨%s1, S1⟩, ⟨%s2, S2⟩, ⟨%s3, S3⟩, ⟨%s4, S4⟩, ⟨%s5, S5⟩, Hk⟩
  have hS0 : scH.IsWhole := Memref.isWhole_whole _
  have hS1 : scX.IsWhole := Memref.isWhole_whole _
  have hS2 : scV.IsWhole := Memref.isWhole_whole _
  have hS3 : scA.IsWhole := Memref.isWhole_whole _
  have hS4 : scB.IsWhole := Memref.isWhole_whole _
  have hS5 : scO.IsWhole := Memref.isWhole_whole _
  sl_exec! (disch := first | (guard_target = ¬ (k0_cond3 _ = _); exact k3) | (guard_target = ¬ (k0_cond4 _ = _); exact k4) | exact k1 | exact k2)
  sl_step

  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexists _; isplitr; swap; · iexact H16
                   · ipureintro; rfl
  isplitl [H17]; · iexists _; isplitr; swap; · iexact H17
                   · ipureintro; exact e17
  isplitl [H18]; · iexists _; isplitr; swap; · iexact H18
                   · ipureintro; exact e18
  isplitl [H19]; · iexists _; iexists _; isplitr; swap; · iexact H19
                   · ipureintro; rfl
  isplitl [S0]; · iexists _; iexact S0
  isplitl [S1]; · iexists _; iexact S1
  isplitl [S2]; · iexists _; iexact S2
  isplitl [S3]; · iexists _; iexact S3
  isplitl [S4]; · iexists _; iexact S4
  iexists _; iexact S5

end Cert.Kernel3Ideal.Prompt

end
-- ==== Proof.Prompt.QuietCIdeal.lean ====
/- The prompt mixer's body at an odd block in between: it runs to its end. -/
module

public import proofs.«01_k».proof.Defs
public import proofs.«01_k».proof.Proof.Gen.Kernel3Ideal.Skeleton
public import proofs.«01_k».proof.Proof.Gen.Kernel3Ideal.Launch
public import proofs.«01_k».proof.Proof.Prompt.ScratchIdeal
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Prompt

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.proofsInPublic true in
set_option maxHeartbeats 16000000 in
/-- An odd block in between: the body runs on its buffers, whatever the scratch holds; an output it does not store is as it was. -/
theorem runC (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x512 .f32) (harg4 : arg4.IsWhole) (arg5 : Memref sig .tc .vmem S2x4x512x512 .bf16) (harg5 : arg5.IsWhole) (arg6 : Memref sig .tc .vmem S4x512x512 .bf16) (harg6 : arg6.IsWhole) (arg7 : Memref sig .tc .vmem S2x512x512 .f32) (harg7 : arg7.IsWhole) (arg8 : Memref sig .tc .vmem S4x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x1024 .bf16) (harg17 : arg17.IsWhole) (arg18 : Memref sig .tc .vmem S512x512 .f32) (harg18 : arg18.IsWhole) (arg19 : Memref sig .tc .vmem S24x512 .f32) (harg19 : arg19.IsWhole) (arg20 : Memref sig .tc .vmem S8x512 .f32) (harg20 : arg20.IsWhole) (x0 : S512x1024.Idx → Elt Ideal .f32) (x1 : S1x1024.Idx → Elt Ideal .f32) (x2 : S1024x2048.Idx → Elt Ideal .bf16) (x3 : S1x512.Idx → Elt Ideal .f32) (x4 : S2x4x512x512.Idx → Elt Ideal .bf16) (x5 : S4x512x512.Idx → Elt Ideal .bf16) (x6 : S2x512x512.Idx → Elt Ideal .f32) (x7 : S4x512.Idx → Elt Ideal .f32) (x8 : S1x512.Idx → Elt Ideal .f32) (x9 : S512x512.Idx → Elt Ideal .bf16) (x10 : S1x512.Idx → Elt Ideal .f32) (x11 : S512x512.Idx → Elt Ideal .bf16) (x12 : S1x512.Idx → Elt Ideal .f32) (x13 : S1x512.Idx → Elt Ideal .f32) (x14 : S1x512.Idx → Elt Ideal .f32) (x15 : S1x512.Idx → Elt Ideal .f32) (y17 : FVec Ideal S512x512 .f32) (y18 : FVec Ideal S24x512 .f32) (k1 : ¬ isFirst i = 1#1) (k2 : ¬ isEven i = 1#1) (k3 : ¬ k0_cond3 i = 1#1) (k4 : ¬ k0_cond4 i = 1#1) (K : PUnit → sProp 𝕄) :
    iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ owns (c : Thread nD τ) arg18 fullShare y17
          ∗ owns (c : Thread nD τ) arg19 fullShare y18
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ owns (c : Thread nD τ) arg18 fullShare y17
          ∗ owns (c : Thread nD τ) arg19 fullShare y18
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))) -∗ K ⟨⟩))
      ⊢ wp frame (wpE (defs₀ (F := Ideal)) Variants.none c none) Set.univ (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 scH (Memref.isWhole_whole _) scX (Memref.isWhole_whole _) scV (Memref.isWhole_whole _) scA (Memref.isWhole_whole _) scB (Memref.isWhole_whole _) scO (Memref.isWhole_whole _)) K := by
  unfold owns
  rw [cc0_mix_prompt_eq_skeleton]; unfold cc0_mix_prompt_skel
  iintro ⟨H0, H1, H2, H3, H4, H5, H6, H7, H8, H9, H10, H11, H12, H13, H14, H15, ⟨%d16, %f16, -, H16⟩, ⟨%f17, %e17, H17⟩, ⟨%f18, %e18, H18⟩, ⟨%d19, %f19, -, H19⟩, ⟨%s0, S0⟩, ⟨%s1, S1⟩, ⟨%s2, S2⟩, ⟨%s3, S3⟩, ⟨%s4, S4⟩, ⟨%s5, S5⟩, Hk⟩
  have hS0 : scH.IsWhole := Memref.isWhole_whole _
  have hS1 : scX.IsWhole := Memref.isWhole_whole _
  have hS2 : scV.IsWhole := Memref.isWhole_whole _
  have hS3 : scA.IsWhole := Memref.isWhole_whole _
  have hS4 : scB.IsWhole := Memref.isWhole_whole _
  have hS5 : scO.IsWhole := Memref.isWhole_whole _
  sl_exec! (disch := first | (guard_target = ¬ (k0_cond3 _ = _); exact k3) | (guard_target = ¬ (k0_cond4 _ = _); exact k4) | exact k1 | exact k2)
  sl_step

  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexists _; isplitr; swap; · iexact H16
                   · ipureintro; rfl
  isplitl [H17]; · iexists _; isplitr; swap; · iexact H17
                   · ipureintro; exact e17
  isplitl [H18]; · iexists _; isplitr; swap; · iexact H18
                   · ipureintro; exact e18
  isplitl [H19]; · iexists _; iexists _; isplitr; swap; · iexact H19
                   · ipureintro; rfl
  isplitl [S0]; · iexists _; iexact S0
  isplitl [S1]; · iexists _; iexact S1
  isplitl [S2]; · iexists _; iexact S2
  isplitl [S3]; · iexists _; iexact S3
  isplitl [S4]; · iexists _; iexact S4
  iexists _; iexact S5

end Cert.Kernel3Ideal.Prompt

end
-- ==== Proof.Prompt.ValuesIdeal.lean ====
/- The prompt mixer's block, as values: what its body stores, of the blocks it reads, the padded rows and the state. -/
module

public import proofs.«01_k».proof.Defs
public import proofs.«01_k».proof.Proof.Gen.Kernel3Ideal.Skeleton
public import proofs.«01_k».proof.Proof.Gen.Kernel3Ideal.Launch
public import proofs.«01_k».proof.Proof.Prompt.ScratchIdeal
public import Idealize.ShloMosaic.Lib.Pipeline.Value
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Prompt

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A window of a whole value is the value. -/
theorem window_all {α : Type} {s : Shape} (x : s.Idx → α) (off : Fin s.rank → ℕ) (inb : ∀ a, off a + s.size a ≤ s.size a) : VecWindow.window x off s.size inb = x :=
  funext fun y => congrArg x (funext fun a => Fin.ext (by show off a + 1 * (y a).val = _; have := inb a; omega))

/-- A whole store leaves its value. -/
theorem whole_store (b : Ref sig .tc) (f : b.ty.Contents (Elt Ideal)) {off : Fin b.ty.shape.rank → ℕ}
    (inb : ∀ a, off a + b.ty.shape.size a ≤ b.ty.shape.size a) (w : b.ty.shape.Idx → Elt Ideal b.ty.elt) (L : List ((r : Rect b.ty.shape) × (r.shape.Idx → Elt Ideal b.ty.elt))) :
    (Memref.whole b).view.writes (Elt Ideal) f (⟨Rect.unit off b.ty.shape.size inb, w⟩ :: L) = w :=
  (View.read_whole b _).symm.trans (View.read_writes_full (Memref.whole b).view f inb w L)

/-- A whole load reads the buffer. -/
theorem whole_load (b : Ref sig .tc) {off : Fin b.ty.shape.rank → ℕ}
    (inb : ∀ a, off a + b.ty.shape.size a ≤ b.ty.shape.size a) (f : b.ty.Contents (Elt Ideal)) :
    (Memref.whole b).view.readAt (Elt Ideal) (Rect.unit off b.ty.shape.size inb).toLoadRect f = f :=
  (View.readAt_full (Memref.whole b).view f inb).trans (View.read_whole b f)

/-- The branch's rows of a block: its third part times the weights' third columns. -/
def xbV (x0 : Vec Ideal S512x1024 .f32) (x1 : Vec Ideal S1x1024 .f32) (x2 : Vec Ideal S1024x2048 .bf16) : Vec Ideal S512x512 .f32 :=
  k0_pay27 (k0_pay5 x0 x1) (VecWindow.window x2 ![0, 1024] S1024x512.size inb_S1024x2048_S1024x512_0_1024)

/-- The rows written under the 24 carried ones. -/
def under (w : Vec Ideal S536x512 .f32) (b : Vec Ideal S512x512 .f32) : Vec Ideal S536x512 .f32 :=
  VecWindow.put w ![24, 0] S512x512.size b

/-- The last 24 rows. -/
def tailV (b : Vec Ideal S512x512 .f32) : Vec Ideal S24x512 .f32 := VecWindow.window b ![488, 0] S24x512.size (by decide)

/-- The normed values of a block. -/
def vV (x0 : Vec Ideal S512x1024 .f32) (x1 : Vec Ideal S1x1024 .f32) (x2 : Vec Ideal S1024x2048 .bf16) (x3 : Vec Ideal S1x512 .f32) : Vec Ideal S512x512 .f32 :=
  k0_pay14 (k0_pay8 (k0_pay6 x0 x1 (VecWindow.window x2 ![0, 512] S1024x512.size inb_S1024x2048_S1024x512_0_512)) k0_pay7) (k0_pay9 x3)
    (k0_pay10 (k0_pay6 x0 x1 (VecWindow.window x2 ![0, 512] S1024x512.size inb_S1024x2048_S1024x512_0_512)) k0_pay7)
    (k0_pay11 (k0_pay6 x0 x1 (VecWindow.window x2 ![0, 512] S1024x512.size inb_S1024x2048_S1024x512_0_512)) k0_pay7)
    (k0_pay12 (k0_pay6 x0 x1 (VecWindow.window x2 ![0, 512] S1024x512.size inb_S1024x2048_S1024x512_0_512)) k0_pay7)
    (k0_pay13 (k0_pay6 x0 x1 (VecWindow.window x2 ![0, 512] S1024x512.size inb_S1024x2048_S1024x512_0_512)) k0_pay7)

/-- The rows read after the block's rows are written: its last 24. -/
theorem window_under (w : Vec Ideal S536x512 .f32) (b : Vec Ideal S512x512 .f32) :
    VecWindow.window (under w b) ![512, 0] S24x512.size inb_S536x512_S24x512_512_0 = tailV b :=
  (VecWindow.window_put_of_inside w ![24, 0] S512x512.size ![512, 0] S24x512.size inb_S536x512_S24x512_512_0 b (by decide)).trans
    (funext fun y => congrArg b (funext fun a => by fin_cases a <;> rfl))

/-- One piece written over a whole padded buffer. -/
theorem read_under (f : BufTy.Contents (Elt Ideal) scX.view.ty) (L : List ((r : Rect S536x512) × (r.shape.Idx → Elt Ideal .f32))) (b : Vec Ideal S512x512 .f32) :
    scX.view.read (Elt Ideal) (scX.view.writes (Elt Ideal) f (⟨Rect.unit (s := S536x512) ![24, 0] S512x512.size inb_S536x512_S512x512_24_0, b⟩ :: L)) = under (scX.view.read (Elt Ideal) (scX.view.writes (Elt Ideal) f L)) b :=
  View.read_writes_cons_put _ _ _ _ _ rfl

/-- A load of the padded rows is a window of them. -/
theorem scX_load (f : BufTy.Contents (Elt Ideal) scX.view.ty) (off size : Fin S536x512.rank → ℕ) (inb : ∀ a, off a + size a ≤ S536x512.size a) :
    scX.view.readAt (Elt Ideal) (Rect.unit (s := S536x512) off size inb).toLoadRect f = VecWindow.window (scX.view.read (Elt Ideal) f) off size inb := View.readAt_unit scX.view f inb rfl inb
/-- A load of an input's block is a window of it. -/
theorem load_window {sp : Space} {s : Shape} {e : EltTy} (v : View sig .tc sp s e) (x : s.Idx → Elt Ideal e) (off size : Fin s.rank → ℕ) (inb : ∀ a, off a + size a ≤ s.size a) :
    v.readAt (Elt Ideal) (Rect.unit off size inb).toLoadRect (v.rep x) = VecWindow.window x off size inb := View.readAt_rep_unit v x inb rfl inb

end Cert.Kernel3Ideal.Prompt

end
-- ==== Proof.Prompt.QuietDIdeal.lean ====
/- The prompt mixer's body at the last block but one: it runs to its end, and stores the values named. -/
module

public import proofs.«01_k».proof.Defs
public import proofs.«01_k».proof.Proof.Gen.Kernel3Ideal.Skeleton
public import proofs.«01_k».proof.Proof.Gen.Kernel3Ideal.Launch
public import proofs.«01_k».proof.Proof.Prompt.ValuesIdeal
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Prompt

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.proofsInPublic true in
set_option maxHeartbeats 16000000 in
/-- The last block but one: the body runs on its buffers, whatever the outputs and the scratch hold, and stores the values named. -/
theorem runD (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x512 .f32) (harg4 : arg4.IsWhole) (arg5 : Memref sig .tc .vmem S2x4x512x512 .bf16) (harg5 : arg5.IsWhole) (arg6 : Memref sig .tc .vmem S4x512x512 .bf16) (harg6 : arg6.IsWhole) (arg7 : Memref sig .tc .vmem S2x512x512 .f32) (harg7 : arg7.IsWhole) (arg8 : Memref sig .tc .vmem S4x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x1024 .bf16) (harg17 : arg17.IsWhole) (arg18 : Memref sig .tc .vmem S512x512 .f32) (harg18 : arg18.IsWhole) (arg19 : Memref sig .tc .vmem S24x512 .f32) (harg19 : arg19.IsWhole) (arg20 : Memref sig .tc .vmem S8x512 .f32) (harg20 : arg20.IsWhole) (x0 : S512x1024.Idx → Elt Ideal .f32) (x1 : S1x1024.Idx → Elt Ideal .f32) (x2 : S1024x2048.Idx → Elt Ideal .bf16) (x3 : S1x512.Idx → Elt Ideal .f32) (x4 : S2x4x512x512.Idx → Elt Ideal .bf16) (x5 : S4x512x512.Idx → Elt Ideal .bf16) (x6 : S2x512x512.Idx → Elt Ideal .f32) (x7 : S4x512.Idx → Elt Ideal .f32) (x8 : S1x512.Idx → Elt Ideal .f32) (x9 : S512x512.Idx → Elt Ideal .bf16) (x10 : S1x512.Idx → Elt Ideal .f32) (x11 : S512x512.Idx → Elt Ideal .bf16) (x12 : S1x512.Idx → Elt Ideal .f32) (x13 : S1x512.Idx → Elt Ideal .f32) (x14 : S1x512.Idx → Elt Ideal .f32) (x15 : S1x512.Idx → Elt Ideal .f32) (y18 : FVec Ideal S24x512 .f32) (k1 : ¬ isFirst i = 1#1) (k2 : isEven i = 1#1) (k3 : k0_cond3 i = 1#1) (k4 : ¬ k0_cond4 i = 1#1) (K : PUnit → sProp 𝕄) :
    iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ (∃ d, owns (c : Thread nD τ) arg18 fullShare d)
          ∗ owns (c : Thread nD τ) arg19 fullShare y18
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ owns (c : Thread nD τ) arg18 fullShare (vV x0 x1 x2 x3)
          ∗ owns (c : Thread nD τ) arg19 fullShare y18
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))) -∗ K ⟨⟩))
      ⊢ wp frame (wpE (defs₀ (F := Ideal)) Variants.none c none) Set.univ (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 scH (Memref.isWhole_whole _) scX (Memref.isWhole_whole _) scV (Memref.isWhole_whole _) scA (Memref.isWhole_whole _) scB (Memref.isWhole_whole _) scO (Memref.isWhole_whole _)) K := by
  unfold owns
  rw [cc0_mix_prompt_eq_skeleton]; unfold cc0_mix_prompt_skel
  iintro ⟨H0, H1, H2, H3, H4, H5, H6, H7, H8, H9, H10, H11, H12, H13, H14, H15, ⟨%d16, %f16, -, H16⟩, ⟨%d17, %f17, -, H17⟩, ⟨%f18, %e18, H18⟩, ⟨%d19, %f19, -, H19⟩, ⟨%s0, S0⟩, ⟨%s1, S1⟩, ⟨%s2, S2⟩, ⟨%s3, S3⟩, ⟨%s4, S4⟩, ⟨%s5, S5⟩, Hk⟩
  have hS0 : scH.IsWhole := Memref.isWhole_whole _
  have hS1 : scX.IsWhole := Memref.isWhole_whole _
  have hS2 : scV.IsWhole := Memref.isWhole_whole _
  have hS3 : scA.IsWhole := Memref.isWhole_whole _
  have hS4 : scB.IsWhole := Memref.isWhole_whole _
  have hS5 : scO.IsWhole := Memref.isWhole_whole _
  sl_exec! (disch := first | (guard_target = (k0_cond3 _ = _); exact k3) | (guard_target = ¬ (k0_cond4 _ = _); exact k4) | exact k1 | exact k2)
  sl_step

  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexists _; isplitr; swap; · iexact H16
                   · ipureintro; rfl
  isplitl [H17]
  · iexists _; isplitr; swap; · iexact H17
    ipureintro
    unfold runD.sl.H17_1
    refine (View.read_writes_full _ _ _ _ _).trans ?_
    repeat (delta runD.sl.H17_1 runD.sl.S1_1 runD.sl.S1_2 runD.sl.r runD.sl.r_1 runD.sl.r_10 runD.sl.r_11 runD.sl.r_12 runD.sl.r_13 runD.sl.r_14 runD.sl.r_15 runD.sl.r_16 runD.sl.r_17 runD.sl.r_18 runD.sl.r_19 runD.sl.r_2 runD.sl.r_20 runD.sl.r_21 runD.sl.r_22 runD.sl.r_23 runD.sl.r_24 runD.sl.r_25 runD.sl.r_26 runD.sl.r_27 runD.sl.r_28 runD.sl.r_29 runD.sl.r_3 runD.sl.r_30 runD.sl.r_31 runD.sl.r_32 runD.sl.r_33 runD.sl.r_34 runD.sl.r_35 runD.sl.r_36 runD.sl.r_37 runD.sl.r_38 runD.sl.r_39 runD.sl.r_4 runD.sl.r_40 runD.sl.r_5 runD.sl.r_6 runD.sl.r_7 runD.sl.r_8 runD.sl.r_9 runD.sl.v246)
    simp -proj only [View.readCov, load_window, window_all, scX_load, read_under, vV]
  isplitl [H18]; · iexists _; isplitr; swap; · iexact H18
                   · ipureintro; exact e18
  isplitl [H19]; · iexists _; iexists _; isplitr; swap; · iexact H19
                   · ipureintro; rfl
  isplitl [S0]; · iexists _; iexact S0
  isplitl [S1]; · iexists _; iexact S1
  isplitl [S2]; · iexists _; iexact S2
  isplitl [S3]; · iexists _; iexact S3
  isplitl [S4]; · iexists _; iexact S4
  iexists _; iexact S5

end Cert.Kernel3Ideal.Prompt

end
-- ==== Proof.Prompt.QuietEIdeal.lean ====
/- The prompt mixer's body at the last block: it runs to its end, and stores the values named. -/
module

public import proofs.«01_k».proof.Defs
public import proofs.«01_k».proof.Proof.Gen.Kernel3Ideal.Skeleton
public import proofs.«01_k».proof.Proof.Gen.Kernel3Ideal.Launch
public import proofs.«01_k».proof.Proof.Prompt.ValuesIdeal
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.VecWindow
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Prompt

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.proofsInPublic true in
set_option maxHeartbeats 16000000 in
/-- The last block: the body runs on its buffers, whatever the outputs and the scratch hold, and stores the values named. -/
theorem runE (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x512 .f32) (harg4 : arg4.IsWhole) (arg5 : Memref sig .tc .vmem S2x4x512x512 .bf16) (harg5 : arg5.IsWhole) (arg6 : Memref sig .tc .vmem S4x512x512 .bf16) (harg6 : arg6.IsWhole) (arg7 : Memref sig .tc .vmem S2x512x512 .f32) (harg7 : arg7.IsWhole) (arg8 : Memref sig .tc .vmem S4x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S512x1024 .bf16) (harg17 : arg17.IsWhole) (arg18 : Memref sig .tc .vmem S512x512 .f32) (harg18 : arg18.IsWhole) (arg19 : Memref sig .tc .vmem S24x512 .f32) (harg19 : arg19.IsWhole) (arg20 : Memref sig .tc .vmem S8x512 .f32) (harg20 : arg20.IsWhole) (x0 : S512x1024.Idx → Elt Ideal .f32) (x1 : S1x1024.Idx → Elt Ideal .f32) (x2 : S1024x2048.Idx → Elt Ideal .bf16) (x3 : S1x512.Idx → Elt Ideal .f32) (x4 : S2x4x512x512.Idx → Elt Ideal .bf16) (x5 : S4x512x512.Idx → Elt Ideal .bf16) (x6 : S2x512x512.Idx → Elt Ideal .f32) (x7 : S4x512.Idx → Elt Ideal .f32) (x8 : S1x512.Idx → Elt Ideal .f32) (x9 : S512x512.Idx → Elt Ideal .bf16) (x10 : S1x512.Idx → Elt Ideal .f32) (x11 : S512x512.Idx → Elt Ideal .bf16) (x12 : S1x512.Idx → Elt Ideal .f32) (x13 : S1x512.Idx → Elt Ideal .f32) (x14 : S1x512.Idx → Elt Ideal .f32) (x15 : S1x512.Idx → Elt Ideal .f32) (k1 : ¬ isFirst i = 1#1) (k2 : ¬ isEven i = 1#1) (k3 : k0_cond3 i = 1#1) (k4 : k0_cond4 i = 1#1) (K : PUnit → sProp 𝕄) :
    iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ (∃ d, owns (c : Thread nD τ) arg18 fullShare d)
          ∗ (∃ d, owns (c : Thread nD τ) arg19 fullShare d)
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (arg12.view.loc (c : Thread nD τ) ↦[arg12.view.set]{fullShare} arg12.view.rep x11)
          ∗ (arg13.view.loc (c : Thread nD τ) ↦[arg13.view.set]{fullShare} arg13.view.rep x12)
          ∗ (arg14.view.loc (c : Thread nD τ) ↦[arg14.view.set]{fullShare} arg14.view.rep x13)
          ∗ (arg15.view.loc (c : Thread nD τ) ↦[arg15.view.set]{fullShare} arg15.view.rep x14)
          ∗ (arg16.view.loc (c : Thread nD τ) ↦[arg16.view.set]{fullShare} arg16.view.rep x15)
          ∗ (∃ d, owns (c : Thread nD τ) arg17 fullShare d)
          ∗ owns (c : Thread nD τ) arg18 fullShare (vV x0 x1 x2 x3)
          ∗ owns (c : Thread nD τ) arg19 fullShare (tailV (xbV x0 x1 x2))
          ∗ (∃ d, owns (c : Thread nD τ) arg20 fullShare d)
          ∗ (∃ f, (scH.view.loc (c : Thread nD τ) ↦[scH.view.set]{fullShare} f))
          ∗ (∃ f, (scX.view.loc (c : Thread nD τ) ↦[scX.view.set]{fullShare} f))
          ∗ (∃ f, (scV.view.loc (c : Thread nD τ) ↦[scV.view.set]{fullShare} f))
          ∗ (∃ f, (scA.view.loc (c : Thread nD τ) ↦[scA.view.set]{fullShare} f))
          ∗ (∃ f, (scB.view.loc (c : Thread nD τ) ↦[scB.view.set]{fullShare} f))
          ∗ (∃ f, (scO.view.loc (c : Thread nD τ) ↦[scO.view.set]{fullShare} f))) -∗ K ⟨⟩))
      ⊢ wp frame (wpE (defs₀ (F := Ideal)) Variants.none c none) Set.univ (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 scH (Memref.isWhole_whole _) scX (Memref.isWhole_whole _) scV (Memref.isWhole_whole _) scA (Memref.isWhole_whole _) scB (Memref.isWhole_whole _) scO (Memref.isWhole_whole _)) K := by
  unfold owns
  rw [cc0_mix_prompt_eq_skeleton]; unfold cc0_mix_prompt_skel
  iintro ⟨H0, H1, H2, H3, H4, H5, H6, H7, H8, H9, H10, H11, H12, H13, H14, H15, ⟨%d16, %f16, -, H16⟩, ⟨%d17, %f17, -, H17⟩, ⟨%d18, %f18, -, H18⟩, ⟨%d19, %f19, -, H19⟩, ⟨%s0, S0⟩, ⟨%s1, S1⟩, ⟨%s2, S2⟩, ⟨%s3, S3⟩, ⟨%s4, S4⟩, ⟨%s5, S5⟩, Hk⟩
  have hS0 : scH.IsWhole := Memref.isWhole_whole _
  have hS1 : scX.IsWhole := Memref.isWhole_whole _
  have hS2 : scV.IsWhole := Memref.isWhole_whole _
  have hS3 : scA.IsWhole := Memref.isWhole_whole _
  have hS4 : scB.IsWhole := Memref.isWhole_whole _
  have hS5 : scO.IsWhole := Memref.isWhole_whole _
  sl_exec! (disch := first | (guard_target = (k0_cond3 _ = _); exact k3) | (guard_target = (k0_cond4 _ = _); exact k4) | exact k1 | exact k2)
  sl_step

  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexists _; isplitr; swap; · iexact H16
                   · ipureintro; rfl
  isplitl [H17]
  · iexists _; isplitr; swap; · iexact H17
    ipureintro
    unfold runE.sl.H17_1
    refine (View.read_writes_full _ _ _ _ _).trans ?_
    repeat (delta runE.sl.H17_1 runE.sl.H18_1 runE.sl.S1_1 runE.sl.S1_2 runE.sl.r runE.sl.r_1 runE.sl.r_10 runE.sl.r_11 runE.sl.r_12 runE.sl.r_13 runE.sl.r_14 runE.sl.r_15 runE.sl.r_16 runE.sl.r_17 runE.sl.r_18 runE.sl.r_19 runE.sl.r_2 runE.sl.r_20 runE.sl.r_21 runE.sl.r_22 runE.sl.r_23 runE.sl.r_24 runE.sl.r_25 runE.sl.r_26 runE.sl.r_27 runE.sl.r_28 runE.sl.r_29 runE.sl.r_3 runE.sl.r_30 runE.sl.r_31 runE.sl.r_32 runE.sl.r_33 runE.sl.r_34 runE.sl.r_35 runE.sl.r_36 runE.sl.r_37 runE.sl.r_38 runE.sl.r_39 runE.sl.r_4 runE.sl.r_40 runE.sl.r_5 runE.sl.r_6 runE.sl.r_7 runE.sl.r_8 runE.sl.r_9 runE.sl.v246)
    simp -proj only [View.readCov, load_window, window_all, scX_load, read_under, vV]
  isplitl [H18]
  · iexists _; isplitr; swap; · iexact H18
    ipureintro
    unfold runE.sl.H18_1
    refine (View.read_writes_full _ _ _ _ _).trans ?_
    repeat (delta runE.sl.H17_1 runE.sl.H18_1 runE.sl.S1_1 runE.sl.S1_2 runE.sl.r runE.sl.r_1 runE.sl.r_10 runE.sl.r_11 runE.sl.r_12 runE.sl.r_13 runE.sl.r_14 runE.sl.r_15 runE.sl.r_16 runE.sl.r_17 runE.sl.r_18 runE.sl.r_19 runE.sl.r_2 runE.sl.r_20 runE.sl.r_21 runE.sl.r_22 runE.sl.r_23 runE.sl.r_24 runE.sl.r_25 runE.sl.r_26 runE.sl.r_27 runE.sl.r_28 runE.sl.r_29 runE.sl.r_3 runE.sl.r_30 runE.sl.r_31 runE.sl.r_32 runE.sl.r_33 runE.sl.r_34 runE.sl.r_35 runE.sl.r_36 runE.sl.r_37 runE.sl.r_38 runE.sl.r_39 runE.sl.r_4 runE.sl.r_40 runE.sl.r_5 runE.sl.r_6 runE.sl.r_7 runE.sl.r_8 runE.sl.r_9 runE.sl.v246)
    simp -proj only [View.readCov, load_window, window_all, scX_load, read_under, xbV]
    exact window_under _ _
  isplitl [H19]; · iexists _; iexists _; isplitr; swap; · iexact H19
                   · ipureintro; rfl
  isplitl [S0]; · iexists _; iexact S0
  isplitl [S1]; · iexists _; iexact S1
  isplitl [S2]; · iexists _; iexact S2
  isplitl [S3]; · iexists _; iexact S3
  isplitl [S4]; · iexists _; iexact S4
  iexists _; iexact S5

end Cert.Kernel3Ideal.Prompt

end
-- ==== Proof.Prompt.BodyIdeal.lean ====
/- The prompt mixer's body at every block: what its windows hold, and what the body does to them. -/
module

public import proofs.«01_k».proof.Proof.Prompt.QuietAIdeal
public import proofs.«01_k».proof.Proof.Prompt.QuietBIdeal
public import proofs.«01_k».proof.Proof.Prompt.QuietCIdeal
public import proofs.«01_k».proof.Proof.Prompt.QuietDIdeal
public import proofs.«01_k».proof.Proof.Prompt.QuietEIdeal
public import proofs.«01_k».proof.Proof.Gen.Kernel3Ideal.Frame
public import Idealize.ShloMosaic.Lib.Pipeline.TableIdle

@[expose] public section

set_option maxRecDepth 16384

noncomputable section

namespace Cert.Kernel3Ideal.Prompt

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The windows nothing is said of. -/
def unsaid : Fin 20 → Bool := fun w => w.val == 16 || w.val == 19

/-- What each window's buffer holds after the body at a block. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => Dat.unnamed 16 t
    | ⟨17, _⟩ => vV (X0_0 m c t) (iblk m c 1 t) (iblk m c 2 t) (iblk m c 3 t)
    | ⟨18, _⟩ => tailV (xbV (X0_0 m c t) (iblk m c 1 t) (iblk m c 2 t))
    | ⟨19, _⟩ => Dat.unnamed 19 t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_17 (c : Dev nD) (t : Fin cfg0.N) : (dats m 0 c).after 17 t = vV (X0_0 m c t) (iblk m c 1 t) (iblk m c 2 t) (iblk m c 3 t) := by dsimp only [dats]
theorem after_18 (c : Dev nD) (t : Fin cfg0.N) : (dats m 0 c).after 18 t = tailV (xbV (X0_0 m c t) (iblk m c 1 t) (iblk m c 2 t)) := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- Every block is the first, an even one in between, an odd one in between, the last but one, or the last. -/
theorem block_cases : ∀ t : Fin cfg0.N,
    (isFirst (grid0.coords t) = 1#1 ∧ isEven (grid0.coords t) = 1#1 ∧ (¬ k0_cond3 (grid0.coords t) = 1#1) ∧ ¬ k0_cond4 (grid0.coords t) = 1#1)
    ∨ ((¬ isFirst (grid0.coords t) = 1#1) ∧ isEven (grid0.coords t) = 1#1 ∧ (¬ k0_cond3 (grid0.coords t) = 1#1) ∧ ¬ k0_cond4 (grid0.coords t) = 1#1)
    ∨ ((¬ isFirst (grid0.coords t) = 1#1) ∧ (¬ isEven (grid0.coords t) = 1#1) ∧ (¬ k0_cond3 (grid0.coords t) = 1#1) ∧ ¬ k0_cond4 (grid0.coords t) = 1#1)
    ∨ ((¬ isFirst (grid0.coords t) = 1#1) ∧ isEven (grid0.coords t) = 1#1 ∧ k0_cond3 (grid0.coords t) = 1#1 ∧ ¬ k0_cond4 (grid0.coords t) = 1#1)
    ∨ ((¬ isFirst (grid0.coords t) = 1#1) ∧ (¬ isEven (grid0.coords t) = 1#1) ∧ k0_cond3 (grid0.coords t) = 1#1 ∧ k0_cond4 (grid0.coords t) = 1#1) := by
  decide +kernel

/-- The values' buffer is not written back at a block that stores nothing there. -/
theorem flush_17 : ∀ t : Fin cfg0.N, ¬ k0_cond3 (grid0.coords t) = 1#1 → (cfg0.win 17).flush t = false := by decide +kernel
/-- Nor is the convolution's. -/
theorem flush_18 : ∀ t : Fin cfg0.N, ¬ k0_cond4 (grid0.coords t) = 1#1 → (cfg0.win 18).flush t = false := by decide +kernel

/-- What the body leaves in output 17's buffer. -/
def Left17 (c : Dev nD) (t : Fin cfg0.N) : sProp 𝕄 :=
  match cfg0.idle 17 (cfg0.grid.coords t) with
  | true =>
    match (cfg0.win 17).flush t with
    | false => iprop(∃ d, owns (c : Thread nD τ) (st0_17 t) fullShare ((dats m 0 c).before 17 t d))
    | true => owns (c : Thread nD τ) (st0_17 t) fullShare ((dats m 0 c).after 17 t)
  | false => owns (c : Thread nD τ) (st0_17 t) fullShare ((dats m 0 c).after 17 t)

theorem Left17_skip (c : Dev nD) (t : Fin cfg0.N) (h : ¬ k0_cond3 (grid0.coords t) = 1#1) :
    Left17 m c t = iprop(∃ d, owns (c : Thread nD τ) (st0_17 t) fullShare ((dats m 0 c).before 17 t d)) := by
  have i : cfg0.idle 17 (cfg0.grid.coords t) = true := by
    show (!(k0_cond3 (grid0.coords t) == 1#1)) = true
    simp [h]
  unfold Left17
  rw [i, flush_17 t h]

theorem Left17_store (c : Dev nD) (t : Fin cfg0.N) (h : k0_cond3 (grid0.coords t) = 1#1) :
    Left17 m c t = owns (c : Thread nD τ) (st0_17 t) fullShare ((dats m 0 c).after 17 t) := by
  have i : cfg0.idle 17 (cfg0.grid.coords t) = false := by
    show (!(k0_cond3 (grid0.coords t) == 1#1)) = false
    simp [h]
  unfold Left17
  rw [i]

/-- What the body leaves in output 18's buffer. -/
def Left18 (c : Dev nD) (t : Fin cfg0.N) : sProp 𝕄 :=
  match cfg0.idle 18 (cfg0.grid.coords t) with
  | true =>
    match (cfg0.win 18).flush t with
    | false => iprop(∃ d, owns (c : Thread nD τ) (st0_18 t) fullShare ((dats m 0 c).before 18 t d))
    | true => owns (c : Thread nD τ) (st0_18 t) fullShare ((dats m 0 c).after 18 t)
  | false => owns (c : Thread nD τ) (st0_18 t) fullShare ((dats m 0 c).after 18 t)

theorem Left18_skip (c : Dev nD) (t : Fin cfg0.N) (h : ¬ k0_cond4 (grid0.coords t) = 1#1) :
    Left18 m c t = iprop(∃ d, owns (c : Thread nD τ) (st0_18 t) fullShare ((dats m 0 c).before 18 t d)) := by
  have i : cfg0.idle 18 (cfg0.grid.coords t) = true := by
    show (!(k0_cond4 (grid0.coords t) == 1#1)) = true
    simp [h]
  unfold Left18
  rw [i, flush_18 t h]

theorem Left18_store (c : Dev nD) (t : Fin cfg0.N) (h : k0_cond4 (grid0.coords t) = 1#1) :
    Left18 m c t = owns (c : Thread nD τ) (st0_18 t) fullShare ((dats m 0 c).after 18 t) := by
  have i : cfg0.idle 18 (cfg0.grid.coords t) = false := by
    show (!(k0_cond4 (grid0.coords t) == 1#1)) = false
    simp [h]
  unfold Left18
  rw [i]

/-- What the body is called with at a block, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare d)
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ (∃ d, owns (c : Thread nD τ) (st0_16 t) fullShare d)
    ∗ Left17 m c t
    ∗ Left18 m c t
    ∗ (∃ d, owns (c : Thread nD τ) (st0_19 t) fullShare d))

/-- A scratch buffer whole is its memref. -/
theorem scratch_all (c : Dev nD) : (Pipeline.scopedRest (Ix := Unit) (Name := ℕ) (U := UR sig nD τ) (Lvl := ℕ) (Val := Elt Ideal) spec0 c : sProp 𝕄)
    = iprop((∃ f, (scH.view.loc (c : Thread nD τ) ↦[scH.view.set]{fullShare} f)) ∗ (∃ f, (scX.view.loc (c : Thread nD τ) ↦[scX.view.set]{fullShare} f)) ∗ (∃ f, (scV.view.loc (c : Thread nD τ) ↦[scV.view.set]{fullShare} f)) ∗ (∃ f, (scA.view.loc (c : Thread nD τ) ↦[scA.view.set]{fullShare} f)) ∗ (∃ f, (scB.view.loc (c : Thread nD τ) ↦[scB.view.set]{fullShare} f)) ∗ (∃ f, (scO.view.loc (c : Thread nD τ) ↦[scO.view.set]{fullShare} f))) := by
  rw [scopedRest0_eq]
  simp only [show ∀ b : Ref sig .tc, (Memref.whole b : Memref sig .tc _ _ _).view.set = Finset.univ from fun b => View.set_whole b]

set_option maxHeartbeats 4000000 in
/-- The body's triple in case A. -/
theorem bodyA (c : Dev nD) (t : Fin cfg0.N) (k1 : isFirst (grid0.coords t) = 1#1) (k2 : isEven (grid0.coords t) = 1#1) (k3 : ¬ k0_cond3 (grid0.coords t) = 1#1) (k4 : ¬ k0_cond4 (grid0.coords t) = 1#1) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [Left17_skip m c t k3, Left18_skip m c t k4]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runA c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((dats m 0 c).before 17 t d17) ((dats m 0 c).before 18 t d18) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexact H17
  isplitl [H18]; · iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexists d17; iexact H17
  isplitl [H18]; · iexists d18; iexact H18
  iexact H19

set_option maxHeartbeats 4000000 in
/-- The body's triple in case B. -/
theorem bodyB (c : Dev nD) (t : Fin cfg0.N) (k1 : ¬ isFirst (grid0.coords t) = 1#1) (k2 : isEven (grid0.coords t) = 1#1) (k3 : ¬ k0_cond3 (grid0.coords t) = 1#1) (k4 : ¬ k0_cond4 (grid0.coords t) = 1#1) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [Left17_skip m c t k3, Left18_skip m c t k4]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runB c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((dats m 0 c).before 17 t d17) ((dats m 0 c).before 18 t d18) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexact H17
  isplitl [H18]; · iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexists d17; iexact H17
  isplitl [H18]; · iexists d18; iexact H18
  iexact H19

set_option maxHeartbeats 4000000 in
/-- The body's triple in case C. -/
theorem bodyC (c : Dev nD) (t : Fin cfg0.N) (k1 : ¬ isFirst (grid0.coords t) = 1#1) (k2 : ¬ isEven (grid0.coords t) = 1#1) (k3 : ¬ k0_cond3 (grid0.coords t) = 1#1) (k4 : ¬ k0_cond4 (grid0.coords t) = 1#1) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [Left17_skip m c t k3, Left18_skip m c t k4]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runC c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((dats m 0 c).before 17 t d17) ((dats m 0 c).before 18 t d18) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexact H17
  isplitl [H18]; · iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexists d17; iexact H17
  isplitl [H18]; · iexists d18; iexact H18
  iexact H19

set_option maxHeartbeats 4000000 in
/-- The body's triple in case D. -/
theorem bodyD (c : Dev nD) (t : Fin cfg0.N) (k1 : ¬ isFirst (grid0.coords t) = 1#1) (k2 : isEven (grid0.coords t) = 1#1) (k3 : k0_cond3 (grid0.coords t) = 1#1) (k4 : ¬ k0_cond4 (grid0.coords t) = 1#1) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [Left17_store m c t k3, Left18_skip m c t k4]
  rw [after_17]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runD c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((dats m 0 c).before 18 t d18) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexists _; iexact H17
  isplitl [H18]; · iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexact H17
  isplitl [H18]; · iexists d18; iexact H18
  iexact H19

set_option maxHeartbeats 4000000 in
/-- The body's triple in case E. -/
theorem bodyE (c : Dev nD) (t : Fin cfg0.N) (k1 : ¬ isFirst (grid0.coords t) = 1#1) (k2 : ¬ isEven (grid0.coords t) = 1#1) (k3 : k0_cond3 (grid0.coords t) = 1#1) (k4 : k0_cond4 (grid0.coords t) = 1#1) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [Left17_store m c t k3, Left18_store m c t k4]
  rw [after_17, after_18]
  rw [show (dats m 0 c).Φ t.castSucc = Pipeline.ΦA spec0 c from rfl]
  unfold Pipeline.ΦA
  rw [scratch_all]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runE c (grid0.coords t) _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) k1 k2 k3 k4 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iapply rep_of_owns; iexact H13
  isplitl [H14]; · iapply rep_of_owns; iexact H14
  isplitl [H15]; · iapply rep_of_owns; iexact H15
  isplitl [H16]; · iexists _; iexact H16
  isplitl [H17]; · iexists _; iexact H17
  isplitl [H18]; · iexists _; iexact H18
  isplitl [H19]; · iexists _; iexact H19
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, H13, H14, H15, H16, H17, H18, H19, S0, S1, S2, S3, S4, S5⟩
  isplitl [S0 S1 S2 S3 S4 S5 Hg]
  · isplitl [S0 S1 S2 S3 S4 S5]; swap
    · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  isplitl [H14]; · iapply owns_of_rep; iexact H14
  isplitl [H15]; · iapply owns_of_rep; iexact H15
  isplitl [H16]; · iexact H16
  isplitl [H17]; · iexact H17
  isplitl [H18]; · iexact H18
  iexact H19

/-- The body's triple at every block. -/
theorem sound_body (c : Dev nD) (t : Fin cfg0.N) :
    bodyPre m c t ⊢ wp frame (wpE (defs₀ (F := Ideal)) Variants.none c none) Set.univ (bodyAt0 t) (fun _ => bodyPost m c t) := by
  rcases block_cases t with ⟨k1, k2, k3, k4⟩ | ⟨k1, k2, k3, k4⟩ | ⟨k1, k2, k3, k4⟩ | ⟨k1, k2, k3, k4⟩ | ⟨k1, k2, k3, k4⟩
  · exact bodyA m c t k1 k2 k3 k4
  · exact bodyB m c t k1 k2 k3 k4
  · exact bodyC m c t k1 k2 k3 k4
  · exact bodyD m c t k1 k2 k3 k4
  · exact bodyE m c t k1 k2 k3 k4

theorem row (t : Fin cfg0.N) :
    defs₀ (F := Ideal) .tc cfg0.body (cfg0.bodyArgs t (cfg0.slots t)) = bodyAt0 t := by
  unfold defs₀; rw [Defs.onTc_tc]

/-- The body's obligation. -/
theorem body_obligation (c : Dev nD) : BodyObligation (dats m 0 c) (defs₀ (F := Ideal)) Variants.none () Set.univ unsaid := fun t => by
  rw [bigSep_W0, bigSep_W0, row]
  exact triple_restated (sound_body m c t) rfl .rfl fun _ => .rfl

end Cert.Kernel3Ideal.Prompt

end
-- ==== Proof.Prompt.LaunchIdeal.lean ====
/- The prompt mixer's launch: it runs, leaves its arguments as they were and ends quiescent. -/
module

public import proofs.«01_k».proof.Proof.Prompt.BodyIdeal
public import Idealize.ShloMosaic.Lib.Claim

@[expose] public section

set_option maxRecDepth 16384

noncomputable section

namespace Cert.Kernel3Ideal.Prompt

open Cert.Kernel3Ideal Cert.Kernel3Ideal.Gen
open Idealize.ShloMosaic Idealize.ShloMosaic.TcCoe Idealize.SL.Sem

variable (m : (ℓ : Loc nD τ sig) → Buf (Elt Ideal) ℓ) (ρ : Dev nD → PrngReg)

set_option backward.isDefEq.respectTransparency.types false in
/-- The run: the read-back arrays as the blocks leave them, and every counter at zero. -/
theorem run_quiescent : θ_run (defs (F := Ideal)) (onTc (τ := τ) (main (F := Ideal))) ⟨m, fun _ => 0, ρ⟩
    (fun r => Pipeline.RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The arguments end as they began. -/
theorem args_kept (r : PUnit × MemSt nD τ sig (Elt Ideal)) (h : Pipeline.RDat.FramePost cfg0 (fun c => (dats m 0 c).toRForget unsaid) (V m) r) (c : Dev nD) :
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 7 rfl).trans ((A_eq m c 7).trans (V_main_arg6 m c)),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- The frame. -/
theorem frame : θ_run (Cert.Kernel3Ideal.defs (F := Ideal)) (onTc (τ := Cert.Kernel3Ideal.τ) (Cert.Kernel3Ideal.main (F := Ideal))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0) :=
  (θ_run (defs (F := Ideal)) _ _).mono (fun r h => ⟨args_kept m r h.1, h.2⟩) (run_quiescent m ρ)

end Cert.Kernel3Ideal.Prompt

end
-- ==== Proof.Prompt.Spec.lean ====
/- What the prompt mixer computes of one row of the stream, over the extended reals: the in-projection, the
   normed values of the first mixer, and the convolution's input. -/
module

public import proofs.«01_k».proof.Proof.Sample.Spec

@[expose] public section

noncomputable section

namespace Cert.Prompt

open Idealize.ShloMosaic Cert.Sample

/-- The in-projection of a row `x`: the row's root-mean-square norm, weighted, times the matrix. -/
def proj (x g : Fin 1024 → EReal) (w : Fin 1024 → Fin 2048 → EReal) (j : Fin 2048) : EReal :=
  ∑ d, x d * rms (∑ e, x e * x e) (Ideal.ofBits FTy.f32 0x44800000#32) * g d * w d j

/-- The values of the first mixer, normed over groups of 128. -/
def vals (x g : Fin 1024 → EReal) (w : Fin 1024 → Fin 2048 → EReal) (gv : Fin 512 → EReal) (c : Fin 512) : EReal :=
  norm128 (fun c => gelu (proj x g w ⟨512 + c.val, by omega⟩)) c * gv c

/-- The convolution's input. -/
def branch (x g : Fin 1024 → EReal) (w : Fin 1024 → Fin 2048 → EReal) (c : Fin 512) : EReal :=
  proj x g w ⟨1024 + c.val, by omega⟩

/-- Groups of 128: the group's number named. -/
theorem norm128_at (u : Fin 512 → EReal) (c : Fin 512) (q : Nat) (hq : c.val / 128 = q) :
    norm128 u c = u c * rms (∑ l : Fin 128, u ⟨128 * q + l.val, by omega⟩ * u ⟨128 * q + l.val, by omega⟩) (Ideal.ofBits FTy.f32 0x43000000#32) := by
  subst hq; rfl

end Cert.Prompt

end
-- ==== Proof.Prompt.PureKernel.lean ====
/- The prompt mixer's payloads at an index, over the extended reals: the two blocks stored are the mixer's values
   of their rows. -/
module

public import proofs.«01_k».proof.Proof.Prompt.ValuesIdeal
public import proofs.«01_k».proof.Proof.Prompt.Spec
public import proofs.«01_k».proof.Proof.Sample.Math
public import Idealize.ShloMosaic.Lib.Pointwise

@[expose] public section

set_option maxRecDepth 16384

noncomputable section

namespace Cert.Kernel3Ideal.Prompt

open Idealize.ShloMosaic Idealize.ShloMosaic.TcCoe Idealize.SL.Sem
open Cert.Kernel3Ideal Cert.Kernel3Ideal.Gen Cert.Sample Cert.Prompt

variable (x : Vec Ideal S512x1024 .f32) (g : Vec Ideal S1x1024 .f32) (w : Vec Ideal S1024x512 .bf16)
  (W : Fin 1024 → Fin 2048 → EReal)

theorem pay5_eq (r : Fin 512) (d : Fin 1024) : k0_pay5 (F := Ideal) x g (ix2 r d)
    = x (ix2 r d) * rms (∑ e : Fin 1024, x (ix2 r e) * x (ix2 r e)) (Ideal.ofBits FTy.f32 0x44800000#32) * g (ix2 0 d) := by
  pointwise [k0_pay5, rms]

theorem pay8_eq (hw : ∀ d (c : Fin 512), w (ix2 d c) = W d ⟨512 + c.val, by omega⟩) (r c : Fin 512) :
    k0_pay8 (F := Ideal) (k0_pay6 x g w) k0_pay7 (ix2 r c) = gelu (proj (fun d => x (ix2 r d)) (fun d => g (ix2 0 d)) W ⟨512 + c.val, by omega⟩) := by
  pointwise [k0_pay8, k0_pay6, k0_pay7, pay5_eq, hw]
  exact gelu_half (proj (fun d => x (ix2 r d)) (fun d => g (ix2 0 d)) W ⟨512 + c.val, by omega⟩)

/-- The stored values. -/
theorem pay14_eq (hw : ∀ d (c : Fin 512), w (ix2 d c) = W d ⟨512 + c.val, by omega⟩) (gv : Vec Ideal S1x512 .f32) (r c : Fin 512) :
    k0_pay14 (F := Ideal) (k0_pay8 (k0_pay6 x g w) k0_pay7) (k0_pay9 gv) (k0_pay10 (k0_pay6 x g w) k0_pay7) (k0_pay11 (k0_pay6 x g w) k0_pay7)
        (k0_pay12 (k0_pay6 x g w) k0_pay7) (k0_pay13 (k0_pay6 x g w) k0_pay7) (ix2 r c)
      = vals (fun d => x (ix2 r d)) (fun d => g (ix2 0 d)) W (fun c => gv (ix2 0 c)) c := by
  pointwise [k0_pay14, k0_pay9, k0_pay10, k0_pay11, k0_pay12, k0_pay13, pay8_eq x g w W hw, vals]
  congr 1
  split
  · rw [norm128_at _ c 0 (by omega)]
    simp only [Nat.mul_zero, Nat.zero_add, rms]
  split
  · rw [norm128_at _ c 1 (by omega)]
    have e : 128 + (c.val - 128) = c.val := by omega
    simp only [Nat.mul_one, rms, e]
  split
  · rw [norm128_at _ c 2 (by omega)]
    have e : 256 + (c.val - 128 - 128) = c.val := by omega
    simp only [Nat.reduceMul, rms, e]
  · rw [norm128_at _ c 3 (by omega)]
    have e : 384 + (c.val - 128 - 128 - 128) = c.val := by omega
    simp only [Nat.reduceMul, rms, e]

/-- The convolution's input. -/
theorem pay27_eq (hw : ∀ d (c : Fin 512), w (ix2 d c) = W d ⟨1024 + c.val, by omega⟩) (r c : Fin 512) :
    k0_pay27 (F := Ideal) (k0_pay5 x g) w (ix2 r c) = branch (fun d => x (ix2 r d)) (fun d => g (ix2 0 d)) W c := by
  pointwise [k0_pay27, pay5_eq, hw, branch, proj]

/-- A window of the weights' columns. -/
theorem cols (x2 : Vec Ideal S1024x2048 .bf16) (o : ℕ) (inb : ∀ a, (![0, o] : Fin 2 → ℕ) a + S1024x512.size a ≤ S1024x2048.size a) (ho : o + 512 ≤ 2048) (d : Fin 1024) (c : Fin 512) :
    (VecWindow.window x2 ![0, o] S1024x512.size inb : Vec Ideal S1024x512 .bf16) (ix2 d c) = x2 (ix2 d ⟨o + c.val, by omega⟩) := by
  refine congrArg x2 (funext fun a => Fin.ext ?_)
  fin_cases a
  · show 0 + 1 * d.val = d.val; omega
  · show o + 1 * c.val = o + c.val; omega

/-- The block of values stored, at an index. -/
theorem vV_apply (x2 : Vec Ideal S1024x2048 .bf16) (gv : Vec Ideal S1x512 .f32) (r c : Fin 512) :
    vV x g x2 gv (ix2 r c) = vals (fun d => x (ix2 r d)) (fun d => g (ix2 0 d)) (fun d j => x2 (ix2 d j)) (fun c => gv (ix2 0 c)) c :=
  pay14_eq x g _ _ (fun d c => cols x2 512 _ (by omega) d c) gv r c

/-- The last 24 rows of the convolution's input, at an index. -/
theorem tail_apply (x2 : Vec Ideal S1024x2048 .bf16) (r : Fin 24) (c : Fin 512) :
    tailV (xbV x g x2) (ix2 r c) = branch (fun d => x (ix2 ⟨488 + r.val, by omega⟩ d)) (fun d => g (ix2 0 d)) (fun d j => x2 (ix2 d j)) c := by
  have e : tailV (xbV x g x2) (ix2 r c) = xbV x g x2 (ix2 ⟨488 + r.val, by omega⟩ c) := by
    refine congrArg (xbV x g x2) (funext fun a => Fin.ext ?_)
    fin_cases a
    · show 488 + 1 * r.val = 488 + r.val; omega
    · show 0 + 1 * c.val = c.val; omega
  rw [e]
  exact pay27_eq x g _ _ (fun d c => cols x2 1024 _ (by omega) d c) _ c

end Cert.Kernel3Ideal.Prompt

end
-- ==== Proof.Prompt.Value.lean ====
/- The prompt mixer's staged input blocks as the arguments' entries, and two of its result arrays as the mixer's values. -/
module

public import proofs.«01_k».proof.Proof.Prompt.LaunchIdeal
public import proofs.«01_k».proof.Proof.Prompt.PureKernel
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Kernel3Ideal.Prompt

open Cert.Kernel3Ideal Cert.Kernel3Ideal.Gen Cert.Prompt
open Idealize.ShloMosaic Idealize.ShloMosaic.TcCoe Idealize.SL.Sem

variable (m : (ℓ : Loc nD τ sig) → Buf (Elt Ideal) ℓ) (c : Dev nD)

/-- The activations' row `r`. -/
def hrow (r : Fin 16640) : Fin 1024 → EReal := fun d => m ((c : Thread nD τ).loc main_arg0) (ix2 r d)
/-- The norm's weight. -/
def gm : Fin 1024 → EReal := fun d => m ((c : Thread nD τ).loc main_arg1) (ix1 d)
/-- The in-projection's weight. -/
def win : Fin 1024 → Fin 2048 → EReal := fun d j => m ((c : Thread nD τ).loc main_arg2) (ix2 d j)
/-- The values' norm's weight. -/
def gv : Fin 512 → EReal := fun d => m ((c : Thread nD τ).loc main_arg3) (ix1 d)

/-! ## The arrays as the host lines leave them -/

theorem v32_at (d : Fin 1024) : V m c main_v32 (ix2 0 d) = gm m c d := by
  simp only [V, hostOps0, hostOps0_1, hostOps0_2, hostOps0_3, hostOps0_4, List.flatten_cons, List.flatten_nil, List.append_nil, List.cons_append, List.nil_append]
  entry_read
  pointwise [gm]
theorem v33_at (d : Fin 1024) (j : Fin 2048) : V m c main_v33 (ix2 d j) = win m c d j := by
  simp only [V, hostOps0, hostOps0_1, hostOps0_2, hostOps0_3, hostOps0_4, List.flatten_cons, List.flatten_nil, List.append_nil, List.cons_append, List.nil_append]
  entry_read
  pointwise [win]
theorem v34_at (d : Fin 512) : V m c main_v34 (ix2 0 d) = gv m c d := by
  simp only [V, hostOps0, hostOps0_1, hostOps0_2, hostOps0_3, hostOps0_4, List.flatten_cons, List.flatten_nil, List.append_nil, List.cons_append, List.nil_append]
  entry_read
  pointwise [gv]

/-! ## The windows' blocks -/

theorem iblk1_at (t : Fin cfg0.N) (r : Fin 1) (d : Fin 1024) : iblk m c 1 t (ix2 r d) = V m c main_v32 (ix2 r d) := by
  have e : ∀ t : Fin cfg0.N, win0_1.index t (0 : Fin 2) = 0 ∧ win0_1.index t (1 : Fin 2) = 0 := (by decide +kernel : ∀ t : Fin grid0.N, _)
  show V m c main_v32 (((cfg0.win 1).blk t).view.emb (ix2 r d)) = _
  refine congrArg (V m c main_v32) (funext fun a => Fin.ext ?_)
  match a with
  | ⟨0, _⟩ => show win0_1.index t (0 : Fin 2) * 1 + 1 * r.val = r.val; rw [(e t).1]; omega
  | ⟨1, _⟩ => show win0_1.index t (1 : Fin 2) * 1024 + 1 * d.val = d.val; rw [(e t).2]; omega
theorem iblk2_at (t : Fin cfg0.N) (r : Fin 1024) (d : Fin 2048) : iblk m c 2 t (ix2 r d) = V m c main_v33 (ix2 r d) := by
  have e : ∀ t : Fin cfg0.N, win0_2.index t (0 : Fin 2) = 0 ∧ win0_2.index t (1 : Fin 2) = 0 := (by decide +kernel : ∀ t : Fin grid0.N, _)
  show V m c main_v33 (((cfg0.win 2).blk t).view.emb (ix2 r d)) = _
  refine congrArg (V m c main_v33) (funext fun a => Fin.ext ?_)
  match a with
  | ⟨0, _⟩ => show win0_2.index t (0 : Fin 2) * 1024 + 1 * r.val = r.val; rw [(e t).1]; omega
  | ⟨1, _⟩ => show win0_2.index t (1 : Fin 2) * 2048 + 1 * d.val = d.val; rw [(e t).2]; omega
theorem iblk3_at (t : Fin cfg0.N) (r : Fin 1) (d : Fin 512) : iblk m c 3 t (ix2 r d) = V m c main_v34 (ix2 r d) := by
  have e : ∀ t : Fin cfg0.N, win0_3.index t (0 : Fin 2) = 0 ∧ win0_3.index t (1 : Fin 2) = 0 := (by decide +kernel : ∀ t : Fin grid0.N, _)
  show V m c main_v34 (((cfg0.win 3).blk t).view.emb (ix2 r d)) = _
  refine congrArg (V m c main_v34) (funext fun a => Fin.ext ?_)
  match a with
  | ⟨0, _⟩ => show win0_3.index t (0 : Fin 2) * 1 + 1 * r.val = r.val; rw [(e t).1]; omega
  | ⟨1, _⟩ => show win0_3.index t (1 : Fin 2) * 512 + 1 * d.val = d.val; rw [(e t).2]; omega

theorem index0 : ∀ t : Fin cfg0.N, win0_0.index t (0 : Fin 2) = t.val ∧ win0_0.index t (1 : Fin 2) = 0 := (by decide +kernel : ∀ t : Fin grid0.N, _)

/-- The activations' buffer holds its block, none of it cut. -/
theorem x0_block (t : Fin cfg0.N) (j : (cfg0.win 0).block.Idx) :
    X0_0 m c t j = iblk m c 0 t (fun a => ⟨(j a).val, ((cfg0.win 0).moved_iff _ j).mp (moved0_0 t j) a⟩) := by
  unfold X0_0 Pipeline.Window.fill
  rw [dif_pos (moved0_0 t j)]

/-- The block of activations the body reads at block `t`: rows `512 t` on. -/
theorem x0_at (t : Fin cfg0.N) (r : Fin 512) (d : Fin 1024) :
    X0_0 m c t (ix2 r d) = hrow m c ⟨512 * t.val + r.val, by have : t.val < 32 := t.isLt; omega⟩ d := by
  refine (x0_block m c t (ix2 r d)).trans ?_
  refine Eq.trans ?_ (congrFun (V_main_arg0 m c) (ix2 ⟨512 * t.val + r.val, by have : t.val < 32 := t.isLt; omega⟩ d))
  unfold iblk
  refine congrArg (V m c main_arg0) (funext fun a => Fin.ext ?_)
  refine ((cfg0.win 0).rect_emb_val t _ a).trans ?_
  match a with
  | ⟨0, _⟩ => show win0_0.index t (0 : Fin 2) * 512 + r.val = 512 * t.val + r.val; rw [(index0 t).1]; omega
  | ⟨1, _⟩ => show win0_0.index t (1 : Fin 2) * 1024 + d.val = d.val; rw [(index0 t).2]; omega

/-- What the body leaves of the values at block `t`. -/
theorem left17 (t : Fin cfg0.N) (r k : Fin 512) :
    vV (X0_0 m c t) (iblk m c 1 t) (iblk m c 2 t) (iblk m c 3 t) (ix2 r k)
      = vals (hrow m c ⟨512 * t.val + r.val, by have : t.val < 32 := t.isLt; omega⟩) (gm m c) (win m c) (gv m c) k := by
  refine (vV_apply _ _ _ _ r k).trans ?_
  rw [show (fun d => X0_0 m c t (ix2 r d)) = _ from funext fun d => x0_at m c t r d,
    show (fun d => iblk m c 1 t (ix2 0 d)) = gm m c from funext fun d => (iblk1_at m c t 0 d).trans (v32_at m c d),
    show (fun d j => iblk m c 2 t (ix2 d j)) = win m c from funext fun d => funext fun j => (iblk2_at m c t d j).trans (v33_at m c d j),
    show (fun d => iblk m c 3 t (ix2 0 d)) = gv m c from funext fun d => (iblk3_at m c t 0 d).trans (v34_at m c d)]

/-- What the body leaves of the convolution's input at block `t`. -/
theorem left18 (t : Fin cfg0.N) (r : Fin 24) (k : Fin 512) :
    tailV (xbV (X0_0 m c t) (iblk m c 1 t) (iblk m c 2 t)) (ix2 r k)
      = branch (hrow m c ⟨512 * t.val + (488 + r.val), by have : t.val < 32 := t.isLt; omega⟩) (gm m c) (win m c) k := by
  refine (tail_apply _ _ _ r k).trans ?_
  rw [show (fun d => X0_0 m c t (ix2 ⟨488 + r.val, by omega⟩ d)) = _ from funext fun d => x0_at m c t ⟨488 + r.val, by omega⟩ d,
    show (fun d => iblk m c 1 t (ix2 0 d)) = gm m c from funext fun d => (iblk1_at m c t 0 d).trans (v32_at m c d),
    show (fun d j => iblk m c 2 t (ix2 d j)) = win m c from funext fun d => funext fun j => (iblk2_at m c t d j).trans (v33_at m c d j)]

/-! ## The result arrays -/

/-- The values' array: the last two blocks' rows. -/
def G17 : S1024x512.Idx → EReal := fun i => vals (hrow m c ⟨15360 + (i 0).val, by have : (i 0).val < 1024 := (i 0).isLt; omega⟩) (gm m c) (win m c) (gv m c) (i 1)
/-- The convolution's array: the last 24 rows. -/
def G18 : S24x512.Idx → EReal := fun i => branch (hrow m c ⟨16360 + (i 0).val, by have : (i 0).val < 24 := (i 0).isLt; omega⟩) (gm m c) (win m c) (i 1)

theorem index17 : ∀ t : Fin cfg0.N, (cfg0.win 17).flush t = true → win0_17.index t (0 : Fin 2) + 30 = t.val ∧ win0_17.index t (1 : Fin 2) = 0 := (by decide +kernel : ∀ t : Fin grid0.N, _)

theorem G17_at (j : S1024x512.Idx) (n : Nat) (hn : n < 16640) (k : Fin 512) (h0 : 15360 + (j 0).val = n) (h1 : (j 1).val = k.val) :
    G17 m c j = vals (hrow m c ⟨n, hn⟩) (gm m c) (win m c) (gv m c) k := by
  subst h0
  rw [show k = j 1 from Fin.ext h1.symm]
  rfl

theorem emb17_0 (t : Fin cfg0.N) (y : ((cfg0.win 17).xblock (cfg0.grid.coords t)).Idx) : (((cfg0.win 17).rect t).emb y (0 : Fin 2)).val = win0_17.index t (0 : Fin 2) * 512 + (y (0 : Fin 2)).val :=
  (cfg0.win 17).rect_emb_val t y (0 : Fin 2)
theorem emb17_1 (t : Fin cfg0.N) (y : ((cfg0.win 17).xblock (cfg0.grid.coords t)).Idx) : (((cfg0.win 17).rect t).emb y (1 : Fin 2)).val = win0_17.index t (1 : Fin 2) * 512 + (y (1 : Fin 2)).val :=
  (cfg0.win 17).rect_emb_val t y (1 : Fin 2)

theorem emb17 (t : Fin cfg0.N) (hf : (cfg0.win 17).flush t = true) (r : Fin 512) (k : Fin 512) :
    G17 m c (((cfg0.win 17).rect t).emb (ix2 r k)) = vals (hrow m c ⟨512 * t.val + r.val, by have : t.val < 32 := t.isLt; omega⟩) (gm m c) (win m c) (gv m c) k := by
  have e := index17 t hf
  refine G17_at m c _ _ _ k ?_ ?_
  · refine (congrArg (15360 + ·) (emb17_0 t (ix2 r k))).trans ?_
    show 15360 + (win0_17.index t (0 : Fin 2) * 512 + r.val) = 512 * t.val + r.val
    have q := e.1; omega
  · refine (emb17_1 t (ix2 r k)).trans ?_
    show win0_17.index t (1 : Fin 2) * 512 + k.val = k.val
    rw [e.2]; omega

theorem flushed17 (t : Fin cfg0.N) (hf : (cfg0.win 17).flush t = true) :
    (dats m 0 c).flushed 17 t = ((cfg0.win 17).blk t).view.read (Elt Ideal) (G17 m c) := by
  funext y
  obtain ⟨r, k, rfl⟩ : ∃ (r : Fin 512) (k : Fin 512), y = ix2 r k := ⟨y 0, y 1, by funext a; match a with | ⟨0, _⟩ => rfl | ⟨1, _⟩ => rfl⟩
  refine Eq.trans ?_ (emb17 m c t hf r k).symm
  refine Eq.trans ?_ (left17 m c t r k)
  exact congrFun (after_17 m c t) (ix2 r k)

theorem index18 : ∀ t : Fin cfg0.N, (cfg0.win 18).flush t = true → t.val = 31 ∧ win0_18.index t (0 : Fin 2) = 0 ∧ win0_18.index t (1 : Fin 2) = 0 := (by decide +kernel : ∀ t : Fin grid0.N, _)

theorem G18_at (j : S24x512.Idx) (n : Nat) (hn : n < 16640) (k : Fin 512) (h0 : 16360 + (j 0).val = n) (h1 : (j 1).val = k.val) :
    G18 m c j = branch (hrow m c ⟨n, hn⟩) (gm m c) (win m c) k := by
  subst h0
  rw [show k = j 1 from Fin.ext h1.symm]
  rfl

theorem emb18_0 (t : Fin cfg0.N) (y : ((cfg0.win 18).xblock (cfg0.grid.coords t)).Idx) : (((cfg0.win 18).rect t).emb y (0 : Fin 2)).val = win0_18.index t (0 : Fin 2) * 24 + (y (0 : Fin 2)).val :=
  (cfg0.win 18).rect_emb_val t y (0 : Fin 2)
theorem emb18_1 (t : Fin cfg0.N) (y : ((cfg0.win 18).xblock (cfg0.grid.coords t)).Idx) : (((cfg0.win 18).rect t).emb y (1 : Fin 2)).val = win0_18.index t (1 : Fin 2) * 512 + (y (1 : Fin 2)).val :=
  (cfg0.win 18).rect_emb_val t y (1 : Fin 2)

theorem emb18 (t : Fin cfg0.N) (hf : (cfg0.win 18).flush t = true) (r : Fin 24) (k : Fin 512) :
    G18 m c (((cfg0.win 18).rect t).emb (ix2 r k)) = branch (hrow m c ⟨512 * t.val + (488 + r.val), by have : t.val < 32 := t.isLt; omega⟩) (gm m c) (win m c) k := by
  have e := index18 t hf
  refine G18_at m c _ _ _ k ?_ ?_
  · refine (congrArg (16360 + ·) (emb18_0 t (ix2 r k))).trans ?_
    show 16360 + (win0_18.index t (0 : Fin 2) * 24 + r.val) = 512 * t.val + (488 + r.val)
    have q := e.1; have q' := e.2.1; omega
  · refine (emb18_1 t (ix2 r k)).trans ?_
    show win0_18.index t (1 : Fin 2) * 512 + k.val = k.val
    rw [e.2.2]; omega

theorem flushed18 (t : Fin cfg0.N) (hf : (cfg0.win 18).flush t = true) :
    (dats m 0 c).flushed 18 t = ((cfg0.win 18).blk t).view.read (Elt Ideal) (G18 m c) := by
  funext y
  obtain ⟨r, k, rfl⟩ : ∃ (r : Fin 24) (k : Fin 512), y = ix2 r k := ⟨y 0, y 1, by funext a; match a with | ⟨0, _⟩ => rfl | ⟨1, _⟩ => rfl⟩
  refine Eq.trans ?_ (emb18 m c t hf r k).symm
  refine Eq.trans ?_ (left18 m c t r k)
  exact congrFun (after_18 m c t) (ix2 r k)

/-- The values' array at the end. -/
theorem arr17 : (dats m 0 c).arrAt 17 cfg0.N = G17 m c := by
  have hw : ∀ b : Fin 2, ∃ t : Fin cfg0.N, (cfg0.win 17).flush t = true ∧ win0_17.index t (0 : Fin 2) = b.val ∧ win0_17.index t (1 : Fin 2) = 0 :=
    (by decide +kernel : ∀ b : Fin 2, ∃ t : Fin grid0.N, _)
  funext i
  have h0 : (i 0).val < 1024 := (i 0).isLt
  have h1 : (i 1).val < 512 := (i 1).isLt
  obtain ⟨t, hf, q0, q1⟩ := hw ⟨(i 0).val / 512, by omega⟩
  refine (dats m 0 c).arrAt_apply_of_mem 17 (G17 m c) (flushed17 m c) _ t i t.isLt hf ?_
  refine ((cfg0.win 17).emb_mem_blk_iff t i).2 fun a => ?_
  match a with
  | ⟨0, _⟩ =>
    show win0_17.index t (0 : Fin 2) * 512 ≤ (i 0).val ∧ (i 0).val < win0_17.index t (0 : Fin 2) * 512 + 512
    rw [q0]; dsimp only; omega
  | ⟨1, _⟩ =>
    show win0_17.index t (1 : Fin 2) * 512 ≤ (i 1).val ∧ (i 1).val < win0_17.index t (1 : Fin 2) * 512 + 512
    rw [q1]; omega

/-- The convolution's array at the end. -/
theorem arr18 : (dats m 0 c).arrAt 18 cfg0.N = G18 m c := by
  obtain ⟨t, hf, q0, q1⟩ : ∃ t : Fin cfg0.N, (cfg0.win 18).flush t = true ∧ win0_18.index t (0 : Fin 2) = 0 ∧ win0_18.index t (1 : Fin 2) = 0 :=
    (by decide +kernel : ∃ t : Fin grid0.N, _)
  funext i
  have h0 : (i 0).val < 24 := (i 0).isLt
  have h1 : (i 1).val < 512 := (i 1).isLt
  refine (dats m 0 c).arrAt_apply_of_mem 18 (G18 m c) (flushed18 m c) _ t i t.isLt hf ?_
  refine ((cfg0.win 18).emb_mem_blk_iff t i).2 fun a => ?_
  match a with
  | ⟨0, _⟩ =>
    show win0_18.index t (0 : Fin 2) * 24 ≤ (i 0).val ∧ (i 0).val < win0_18.index t (0 : Fin 2) * 24 + 24
    rw [q0]; omega
  | ⟨1, _⟩ =>
    show win0_18.index t (1 : Fin 2) * 512 ≤ (i 1).val ∧ (i 1).val < win0_18.index t (1 : Fin 2) * 512 + 512
    rw [q1]; omega

/-- After the run, the values' array. -/
theorem out17 (r : PUnit × MemSt nD τ sig (Elt Ideal)) (h : Pipeline.RDat.FramePost cfg0 (fun c => (dats m 0 c).toRForget unsaid) (V m) r) :
    r.2.mem ((c : Thread nD τ).loc main_v55_1) = G17 m c :=
  (((dats m 0 c).toRForget_arrAt_iff (fgt := unsaid) rfl cfg0.N _).mp ((h c).1 17)).trans (arr17 m c)

/-- After the run, the convolution's array. -/
theorem out18 (r : PUnit × MemSt nD τ sig (Elt Ideal)) (h : Pipeline.RDat.FramePost cfg0 (fun c => (dats m 0 c).toRForget unsaid) (V m) r) :
    r.2.mem ((c : Thread nD τ).loc main_v55_2) = G18 m c :=
  (((dats m 0 c).toRForget_arrAt_iff (fgt := unsaid) rfl cfg0.N _).mp ((h c).1 18)).trans (arr18 m c)

end Cert.Kernel3Ideal.Prompt

end
-- ==== Proof.Prompt.PureReference.lean ====
/- The reference's terms at an index, over the extended reals: they are the mixer's values of the prompt's rows. -/
module

public import proofs.«01_k».proof.Proof.Gen.Reference3Ideal.Run
public import proofs.«01_k».proof.Proof.Prompt.Spec
public import proofs.«01_k».proof.Proof.Sample.Math
public import Idealize.ShloMosaic.Lib.Pointwise

@[expose] public section

set_option maxRecDepth 16384

noncomputable section

namespace Cert.Reference3Ideal.Prompt

open Idealize.ShloMosaic Idealize.ShloMosaic.TcCoe Idealize.SL.Sem
open Cert.Reference3Ideal Cert.Reference3Ideal.Gen Cert.Reference3Ideal.Value Cert.Sample Cert.Prompt

variable (h : FVec Ideal S16640x1024 .f32) (g : FVec Ideal S1024 .f32) (w : FVec Ideal S1024x2048 .f32) (gv : FVec Ideal S512 .f32)

/-- The prompt's rows, by position and batch. -/
def XT : FVec Ideal S2048x8x1024 .f32 :=
  shapeCast S2048x8x1024 (extractStridedSlice S16384x1024 ![0, 0] h slices_S16640x1024_S16384x1024_0_0) shapeCasts_S16384x1024_S2048x8x1024

theorem XT_apply (t : Fin 2048) (b : Fin 8) (d : Fin 1024) : XT h (ix3 t b d) = h (ix2 ⟨8 * t.val + b.val, by omega⟩ d) := by
  have e : t.val * 8 + b.val = 8 * t.val + b.val := by omega
  pointwise [XT, e]

/-- The in-projection. -/
def ZT : FVec Ideal S2048x8x2048 .f32 :=
  Host.dotGeneral (φ₁ := .f32) (φ₂ := .f32) dot_S2048x8x1024_S1024x2048_S2048x8x2048_2_0_01_1_n_n none (mulf (mulf (XT h) (broadcastInDim S2048x8x1024 ![0, 1, 2] bcast_S2048x8x1_S2048x8x1024_0_1_2 (Host.rsqrt (addf (Host.divf (broadcastInDim S2048x8x1 ![0, 1] bcast_S2048x8_S2048x8x1_0_1 (Host.reduceAdd (mulf (XT h) (XT h)) (constant (F := Ideal) S_ .f32 0x00000000#32) reducesTo_S2048x8x1024_S2048x8_d2 h_S_)) (broadcastInDim S2048x8x1 ![] bcast_S_S2048x8x1 (constant (F := Ideal) S_ .f32 0x44800000#32))) (broadcastInDim S2048x8x1 ![] bcast_S_S2048x8x1 (constant (F := Ideal) S_ .f32 0x358637BD#32)))))) (broadcastInDim S2048x8x1024 ![0, 1, 2] bcast_S1x1x1024_S2048x8x1024_0_1_2 (broadcastInDim S1x1x1024 ![2] bcast_S1024_S1x1x1024_2 g))) w

theorem ZT_apply (t : Fin 2048) (b : Fin 8) (j : Fin 2048) : ZT h g w (ix3 t b j)
    = proj (fun d => h (ix2 ⟨8 * t.val + b.val, by omega⟩ d)) (fun d => g (ix1 d)) (fun d j => w (ix2 d j)) j := by
  pointwise [ZT, XT_apply, proj, rms]

/-- The values after gelu, group by group. -/
def GT : FVec Ideal S2048x8x4x128 .f32 :=
  shapeCast S2048x8x4x128 (mulf (extractStridedSlice S2048x8x512 ![0, 0, 512] (ZT h g w) slices_S2048x8x2048_S2048x8x512_0_0_512) (mulf (broadcastInDim S2048x8x512 ![] bcast_S_S2048x8x512 (constant (F := Ideal) S_ .f32 0x3F000000#32)) (addf (broadcastInDim S2048x8x512 ![] bcast_S_S2048x8x512 (constant (F := Ideal) S_ .f32 0x3F800000#32)) (Host.tanh (mulf (broadcastInDim S2048x8x512 ![] bcast_S_S2048x8x512 (constant (F := Ideal) S_ .f32 0x3F4C422A#32)) (addf (extractStridedSlice S2048x8x512 ![0, 0, 512] (ZT h g w) slices_S2048x8x2048_S2048x8x512_0_0_512) (mulf (broadcastInDim S2048x8x512 ![] bcast_S_S2048x8x512 (constant (F := Ideal) S_ .f32 0x3D372713#32)) (mulf (mulf (extractStridedSlice S2048x8x512 ![0, 0, 512] (ZT h g w) slices_S2048x8x2048_S2048x8x512_0_0_512) (extractStridedSlice S2048x8x512 ![0, 0, 512] (ZT h g w) slices_S2048x8x2048_S2048x8x512_0_0_512)) (extractStridedSlice S2048x8x512 ![0, 0, 512] (ZT h g w) slices_S2048x8x2048_S2048x8x512_0_0_512))))))))) shapeCasts_S2048x8x512_S2048x8x4x128

theorem GT_apply (t : Fin 2048) (b : Fin 8) (q : Fin 4) (l : Fin 128) : GT h g w (ix4 t b q l)
    = gelu (proj (fun d => h (ix2 ⟨8 * t.val + b.val, by omega⟩ d)) (fun d => g (ix1 d)) (fun d j => w (ix2 d j)) ⟨512 + (q.val * 128 + l.val), by omega⟩) := by
  pointwise [GT, ZT_apply, gelu]

/-- A norm over groups of 128, the group and the lane named by division. -/
theorem norm128_div (u : Fin 512 → EReal) (c : Fin 512) :
    u ⟨c.val / 128 * 128 + c.val % 128, by omega⟩ * Ideal.rsqrt (Ideal.div (∑ l : Fin 128, u ⟨c.val / 128 * 128 + l.val, by omega⟩ * u ⟨c.val / 128 * 128 + l.val, by omega⟩)
        (Ideal.ofBits FTy.f32 0x43000000#32) + Ideal.ofBits FTy.f32 0x358637BD#32) = norm128 u c := by
  have e : c.val / 128 * 128 + c.val % 128 = c.val := by omega
  have e2 : c.val / 128 * 128 = 128 * (c.val / 128) := Nat.mul_comm _ _
  simp only [e]
  simp only [e2]
  rfl

/-- The values of the last chunk. -/
def VT : FVec Ideal S1024x512 .f32 :=
  shapeCast S1024x512 (extractStridedSlice S128x8x512 ![1920, 0, 0] (mulf (shapeCast S2048x8x512 (mulf (GT h g w) (broadcastInDim S2048x8x4x128 ![0, 1, 2, 3] bcast_S2048x8x4x1_S2048x8x4x128_0_1_2_3 (Host.rsqrt (addf (Host.divf (broadcastInDim S2048x8x4x1 ![0, 1, 2] bcast_S2048x8x4_S2048x8x4x1_0_1_2 (Host.reduceAdd (mulf (GT h g w) (GT h g w)) (constant (F := Ideal) S_ .f32 0x00000000#32) reducesTo_S2048x8x4x128_S2048x8x4_d3 h_S_)) (broadcastInDim S2048x8x4x1 ![] bcast_S_S2048x8x4x1 (constant (F := Ideal) S_ .f32 0x43000000#32))) (broadcastInDim S2048x8x4x1 ![] bcast_S_S2048x8x4x1 (constant (F := Ideal) S_ .f32 0x358637BD#32)))))) shapeCasts_S2048x8x4x128_S2048x8x512) (broadcastInDim S2048x8x512 ![0, 1, 2] bcast_S1x1x512_S2048x8x512_0_1_2 (broadcastInDim S1x1x512 ![2] bcast_S512_S1x1x512_2 gv))) slices_S2048x8x512_S128x8x512_1920_0_0) shapeCasts_S128x8x512_S1024x512

theorem VT_apply (r : Fin 1024) (c : Fin 512) : VT h g w gv (ix2 r c)
    = vals (fun d => h (ix2 ⟨15360 + r.val, by omega⟩ d)) (fun d => g (ix1 d)) (fun d j => w (ix2 d j)) (fun c => gv (ix1 c)) c := by
  have e : 8 * (1920 + r.val / 8) + r.val % 8 = 15360 + r.val := by omega
  pointwise [VT, GT_apply, e, vals]
  exact congrArg (· * gv (ix1 c)) (norm128_div (fun c => gelu (proj (fun d => h (ix2 ⟨15360 + r.val, by omega⟩ d)) (fun d => g (ix1 d)) (fun d j => w (ix2 d j)) ⟨512 + c.val, by omega⟩)) c)

/-- The convolution's last three inputs. -/
def CT : FVec Ideal S24x512 .f32 :=
  shapeCast S24x512 (extractStridedSlice S3x8x512 ![2048, 0, 0] (concatenate S2051x8x512 0 [⟨S3x8x512, (broadcastInDim S3x8x512 ![] bcast_S_S3x8x512 (constant (F := Ideal) S_ .f32 0x00000000#32))⟩, ⟨S2048x8x512, (extractStridedSlice S2048x8x512 ![0, 0, 1024] (ZT h g w) slices_S2048x8x2048_S2048x8x512_0_0_1024)⟩] concatenates_S3x8x512_S2048x8x512_S2051x8x512_d0) slices_S2051x8x512_S3x8x512_2048_0_0) shapeCasts_S3x8x512_S24x512

theorem CT_apply (r : Fin 24) (c : Fin 512) : CT h g w (ix2 r c)
    = branch (fun d => h (ix2 ⟨16360 + r.val, by omega⟩ d)) (fun d => g (ix1 d)) (fun d j => w (ix2 d j)) c := by
  have e : 8 * (2048 + r.val / 8 - 3) + r.val % 8 = 16360 + r.val := by omega
  pointwise [CT, ZT_apply, e, branch]
  exact dif_neg (by omega)

end Cert.Reference3Ideal.Prompt

end
-- ==== Proof.Prompt.Agree.lean ====
/- The prompt mixer's kernel and reference leave the same values and the same convolution's input. -/
module

public import proofs.«01_k».proof.Defs
public import proofs.«01_k».proof.Proof.Prompt.Value
public import proofs.«01_k».proof.Proof.Prompt.PureReference
public import Idealize.ShloMosaic.Lib.Claim
public import Idealize.ShloMosaic.Lib.Quiescent

@[expose] public section

set_option maxRecDepth 16384

noncomputable section

namespace Cert.Prompt

open Idealize.ShloMosaic Idealize.SL.Sem
open Cert.Kernel3Ideal.Prompt (G17 G18 out17 out18 args_kept run_quiescent)
open Cert.Reference3Ideal.Prompt (VT CT VT_apply CT_apply)

/-- The reference's frame: it runs from any memory. -/
theorem reference_quiet (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0) :=
  (θ_run Cert.Reference3Ideal.defs _ _).mono (fun r h => ⟨fun c => (h c).2.2, sem_eq_zero_of_no_sems rfl r.2⟩) (Cert.Reference3Ideal.Value.run m g)

/-- The values and the convolution's input agree. -/
theorem agree : Cert.algebraic_Kernel3Ideal_Reference3Ideal := fun m g m' g' _ ha => by
  refine ⟨fun c => G17 m c, fun c => G18 m c,
    (θ_run Cert.Kernel3Ideal.defs _ _).mono (fun r h c => ⟨out17 m c r h.1, out18 m c r h.1, args_kept m r h.1 c⟩) (run_quiescent m g), ?_⟩
  refine (θ_run Cert.Reference3Ideal.defs _ _).mono (fun r h c => ?_) (Cert.Reference3Ideal.Value.run m' g')
  obtain ⟨e0, e1, rest⟩ := h c
  obtain ⟨a0, a1, a2, a3, -⟩ := ha c
  refine ⟨e0.trans ?_, e1.trans ?_, rest⟩
  · show VT (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
    rw [a0, a1, a2, a3]
    funext i
    obtain ⟨r, k, rfl⟩ : ∃ (r : Fin 1024) (k : Fin 512), i = ix2 r k := ⟨i 0, i 1, by funext a; match a with | ⟨0, _⟩ => rfl | ⟨1, _⟩ => rfl⟩
    exact VT_apply _ _ _ _ r k
  · show CT (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) = _
    rw [a0, a1, a2]
    funext i
    obtain ⟨r, k, rfl⟩ : ∃ (r : Fin 24) (k : Fin 512), i = ix2 r k := ⟨i 0, i 1, by funext a; match a with | ⟨0, _⟩ => rfl | ⟨1, _⟩ => rfl⟩
    exact CT_apply _ _ _ r k

end Cert.Prompt

end
-- ==== Proof.Post.Spec.lean ====
/- What the output projection's call computes of one row of the stream, over the extended reals: the row with the mixed
   row's projection added, and its norm. -/
module

public import proofs.«01_k».proof.Proof.Sample.Spec

@[expose] public section

noncomputable section

namespace Cert.Post

open Idealize.ShloMosaic Cert.Sample

/-- The stream's row `h` with the projection by `w` of the mixed row `y` added. -/
def stream (y h : Fin 1024 → EReal) (w : Fin 1024 → Fin 1024 → EReal) (c : Fin 1024) : EReal := h c + ∑ d : Fin 1024, y d * w d c

/-- That row divided by its root mean square, with the weights `g`. -/
def normed (y h : Fin 1024 → EReal) (w : Fin 1024 → Fin 1024 → EReal) (g : Fin 1024 → EReal) (c : Fin 1024) : EReal :=
  stream y h w c * rms (∑ d : Fin 1024, stream y h w d * stream y h w d) (Ideal.ofBits FTy.f32 0x44800000#32) * g c

end Cert.Post

end
-- ==== Proof.Post.Value.lean ====
/- The kernel's stored blocks, its staged input blocks, and its first two result arrays: the stream's new rows and their
   norms. -/
module

public import proofs.«01_k».proof.Proof.Gen.Kernel4Ideal.Value
public import proofs.«01_k».proof.Proof.Post.Spec
public import proofs.«01_k».proof.Proof.Sample.Stored
public import Idealize.ShloMosaic.Lib.Pointwise
public import Idealize.ShloMosaic.Lib.Claim

@[expose] public section

set_option maxRecDepth 16384

noncomputable section

namespace Cert.Kernel4Ideal.Post

open Idealize.ShloMosaic Idealize.ShloMosaic.TcCoe Idealize.SL.Sem
open Cert.Kernel4Ideal Cert.Kernel4Ideal.Gen Cert.Kernel4Ideal.Value Cert.Sample Cert.Post
open Cert.Kernel2Ideal.Sample (hz2)

/-! ## The stored blocks -/

theorem pay4_at (v0 : Vec Ideal S256x1024 .f32) (v1 : Vec Ideal S256x1024 .bf16) (v2 : Vec Ideal S1024x1024 .bf16) (r : Fin 256) (c : Fin 1024) :
    k0_pay4 v0 v1 v2 (ix2 r c) = stream (fun d => v1 (ix2 r d)) (fun d => v0 (ix2 r d)) (fun d c => v2 (ix2 d c)) c := by
  pointwise [k0_pay4, stream]

theorem pay6_at (v0 : Vec Ideal S256x1024 .f32) (v1 : Vec Ideal S256x1024 .bf16) (v2 : Vec Ideal S1024x1024 .bf16) (v7 : Vec Ideal S1x1024 .f32)
    (r : Fin 256) (c : Fin 1024) :
    k0_pay6 v0 v1 v2 v7 (ix2 r c) = normed (fun d => v1 (ix2 r d)) (fun d => v0 (ix2 r d)) (fun d c => v2 (ix2 d c)) (fun d => v7 (ix2 0 d)) c := by
  pointwise [k0_pay6, k0_pay5, pay4_at, normed, rms]

variable (i : grid0.Coords) (x0 : Vec Ideal S256x1024 .bf16) (x1 : Vec Ideal S256x1024 .f32) (x2 : Vec Ideal S1024x1024 .bf16) (x3 : Vec Ideal S1x1024 .f32)
  (x4 : Vec Ideal S1024x128 .f32) (x5 : Vec Ideal S32x1 .f32)

theorem out6_at (r : Fin 256) (c : Fin 1024) : out0_6 i x0 x1 x2 x3 x4 x5 (ix2 r c)
    = stream (fun d => x0 (ix2 r d)) (fun d => x1 (ix2 r d)) (fun d c => x2 (ix2 d c)) c := by
  unfold out0_6
  rw [View.canon_unit_zero hz2, pay4_at, View.ld_unit_zero hz2, View.ld_unit_zero hz2, View.ld_unit_zero hz2]

theorem out7_at (r : Fin 256) (c : Fin 1024) : out0_7 i x0 x1 x2 x3 x4 x5 (ix2 r c)
    = normed (fun d => x0 (ix2 r d)) (fun d => x1 (ix2 r d)) (fun d c => x2 (ix2 d c)) (fun d => x3 (ix2 0 d)) c := by
  unfold out0_7
  rw [View.canon_unit_zero hz2, pay6_at, View.ld_unit_zero hz2, View.ld_unit_zero hz2, View.ld_unit_zero hz2, View.ld_unit_zero hz2]

/-! ## The staged blocks as the arguments' entries -/

variable (m : (ℓ : Loc nD τ sig) → Buf (Elt Ideal) ℓ) (c : Dev nD)

theorem v3_at (d k : Fin 1024) : V m c main_v3 (ix2 d k) = m ((c : Thread nD τ).loc main_arg2) (ix2 d k) := by
  entry_read
  pointwise []

theorem v4_at (d : Fin 1024) : V m c main_v4 (ix2 0 d) = m ((c : Thread nD τ).loc main_arg3) (ix1 d) := by
  entry_read
  pointwise []

/-- The array's row of a block's row. -/
def row (t : Fin cfg0.N) (r : Fin 256) : Fin 16640 := ⟨t.val * 256 + r.val, by have : t.val < 65 := t.isLt; omega⟩

theorem iblk0_at (t : Fin cfg0.N) (r : Fin 256) (d : Fin 1024) : iblk m c 0 t (ix2 r d) = m ((c : Thread nD τ).loc main_arg0) (ix2 (row t r) d) := by
  have e : ∀ t : Fin cfg0.N, win0_0.index t (0 : Fin 2) = t.val ∧ win0_0.index t (1 : Fin 2) = 0 := (by decide +kernel : ∀ t : Fin grid0.N, _)
  rw [← V_main_arg0 m c]
  show V m c main_arg0 (((cfg0.win 0).blk t).view.emb (ix2 r d)) = _
  refine congrArg (V m c main_arg0) (funext fun a => Fin.ext ?_)
  match a with
  | ⟨0, _⟩ => show win0_0.index t (0 : Fin 2) * 256 + 1 * r.val = t.val * 256 + r.val; rw [(e t).1]; omega
  | ⟨1, _⟩ => show win0_0.index t (1 : Fin 2) * 1024 + 1 * d.val = d.val; rw [(e t).2]; omega

theorem iblk1_at (t : Fin cfg0.N) (r : Fin 256) (d : Fin 1024) : iblk m c 1 t (ix2 r d) = m ((c : Thread nD τ).loc main_arg1) (ix2 (row t r) d) := by
  have e : ∀ t : Fin cfg0.N, win0_1.index t (0 : Fin 2) = t.val ∧ win0_1.index t (1 : Fin 2) = 0 := (by decide +kernel : ∀ t : Fin grid0.N, _)
  rw [← V_main_arg1 m c]
  show V m c main_arg1 (((cfg0.win 1).blk t).view.emb (ix2 r d)) = _
  refine congrArg (V m c main_arg1) (funext fun a => Fin.ext ?_)
  match a with
  | ⟨0, _⟩ => show win0_1.index t (0 : Fin 2) * 256 + 1 * r.val = t.val * 256 + r.val; rw [(e t).1]; omega
  | ⟨1, _⟩ => show win0_1.index t (1 : Fin 2) * 1024 + 1 * d.val = d.val; rw [(e t).2]; omega

theorem iblk2_at (t : Fin cfg0.N) (d k : Fin 1024) : iblk m c 2 t (ix2 d k) = m ((c : Thread nD τ).loc main_arg2) (ix2 d k) := by
  have e : ∀ t : Fin cfg0.N, win0_2.index t (0 : Fin 2) = 0 ∧ win0_2.index t (1 : Fin 2) = 0 := (by decide +kernel : ∀ t : Fin grid0.N, _)
  rw [← v3_at m c]
  show V m c main_v3 (((cfg0.win 2).blk t).view.emb (ix2 d k)) = _
  refine congrArg (V m c main_v3) (funext fun a => Fin.ext ?_)
  match a with
  | ⟨0, _⟩ => show win0_2.index t (0 : Fin 2) * 1024 + 1 * d.val = d.val; rw [(e t).1]; omega
  | ⟨1, _⟩ => show win0_2.index t (1 : Fin 2) * 1024 + 1 * k.val = k.val; rw [(e t).2]; omega

theorem iblk3_at (t : Fin cfg0.N) (d : Fin 1024) : iblk m c 3 t (ix2 0 d) = m ((c : Thread nD τ).loc main_arg3) (ix1 d) := by
  have e : ∀ t : Fin cfg0.N, win0_3.index t (0 : Fin 2) = 0 ∧ win0_3.index t (1 : Fin 2) = 0 := (by decide +kernel : ∀ t : Fin grid0.N, _)
  rw [← v4_at m c]
  show V m c main_v4 (((cfg0.win 3).blk t).view.emb (ix2 (0 : Fin 1) d)) = _
  refine congrArg (V m c main_v4) (funext fun a => Fin.ext ?_)
  match a with
  | ⟨0, _⟩ => show win0_3.index t (0 : Fin 2) * 1 + 1 * 0 = 0; rw [(e t).1]
  | ⟨1, _⟩ => show win0_3.index t (1 : Fin 2) * 1024 + 1 * d.val = d.val; rw [(e t).2]; omega

/-! ## The result arrays -/

theorem emb6 (t : Fin cfg0.N) (r : Fin 256) (d : Fin 1024) : ((cfg0.win 6).blk t).view.emb (ix2 r d) = ix2 (n0 := 16640) (n1 := 1024) (row t r) d := by
  have e : ∀ t : Fin cfg0.N, win0_6.index t (0 : Fin 2) = t.val ∧ win0_6.index t (1 : Fin 2) = 0 := (by decide +kernel : ∀ t : Fin grid0.N, _)
  funext a; apply Fin.ext
  match a with
  | ⟨0, _⟩ => show win0_6.index t (0 : Fin 2) * 256 + 1 * r.val = t.val * 256 + r.val; rw [(e t).1]; omega
  | ⟨1, _⟩ => show win0_6.index t (1 : Fin 2) * 1024 + 1 * d.val = d.val; rw [(e t).2]; omega

theorem emb7 (t : Fin cfg0.N) (r : Fin 256) (d : Fin 1024) : ((cfg0.win 7).blk t).view.emb (ix2 r d) = ix2 (n0 := 16640) (n1 := 1024) (row t r) d := by
  have e : ∀ t : Fin cfg0.N, win0_7.index t (0 : Fin 2) = t.val ∧ win0_7.index t (1 : Fin 2) = 0 := (by decide +kernel : ∀ t : Fin grid0.N, _)
  funext a; apply Fin.ext
  match a with
  | ⟨0, _⟩ => show win0_7.index t (0 : Fin 2) * 256 + 1 * r.val = t.val * 256 + r.val; rw [(e t).1]; omega
  | ⟨1, _⟩ => show win0_7.index t (1 : Fin 2) * 1024 + 1 * d.val = d.val; rw [(e t).2]; omega

/-- Every row of the arrays is a row of some block. -/
theorem row_split (r : Fin 16640) : ∃ (t : Fin cfg0.N) (q : Fin 256), row t q = r :=
  ⟨⟨r.val / 256, (by omega : r.val / 256 < 65)⟩, ⟨r.val % 256, by omega⟩, Fin.ext (by show r.val / 256 * 256 + r.val % 256 = r.val; omega)⟩

/-- The stream after the output projection. -/
theorem res6 (r : Fin 16640) (k : Fin 1024) : (dats m 0 c).arrAt 6 cfg0.N (ix2 r k)
    = stream (fun d => m ((c : Thread nD τ).loc main_arg0) (ix2 r d)) (fun d => m ((c : Thread nD τ).loc main_arg1) (ix2 r d))
        (fun d k => m ((c : Thread nD τ).loc main_arg2) (ix2 d k)) k := by
  obtain ⟨t, q, rfl⟩ := row_split r
  have hb := congrFun (blocks6 m c t (flush0_6 t)) (ix2 q k)
  rw [flushed6] at hb
  have hb' : (dats m 0 c).arrAt 6 cfg0.N (((cfg0.win 6).blk t).view.emb (ix2 q k)) = _ := hb
  rw [emb6] at hb'
  refine hb'.trans ((out6_at _ _ _ _ _ _ _ q k).trans ?_)
  simp only [iblk0_at, iblk1_at, iblk2_at]

/-- Its norm. -/
theorem res7 (r : Fin 16640) (k : Fin 1024) : (dats m 0 c).arrAt 7 cfg0.N (ix2 r k)
    = normed (fun d => m ((c : Thread nD τ).loc main_arg0) (ix2 r d)) (fun d => m ((c : Thread nD τ).loc main_arg1) (ix2 r d))
        (fun d k => m ((c : Thread nD τ).loc main_arg2) (ix2 d k)) (fun d => m ((c : Thread nD τ).loc main_arg3) (ix1 d)) k := by
  obtain ⟨t, q, rfl⟩ := row_split r
  have hb := congrFun (blocks7 m c t (flush0_7 t)) (ix2 q k)
  rw [flushed7] at hb
  have hb' : (dats m 0 c).arrAt 7 cfg0.N (((cfg0.win 7).blk t).view.emb (ix2 q k)) = _ := hb
  rw [emb7] at hb'
  refine hb'.trans ((out7_at _ _ _ _ _ _ _ q k).trans ?_)
  simp only [iblk0_at, iblk1_at, iblk2_at, iblk3_at]

end Cert.Kernel4Ideal.Post

end
-- ==== Proof.Post.PureReference.lean ====
/- The reference's terms at an index, over the extended reals: the stream's new rows and their norms. -/
module

public import proofs.«01_k».proof.Proof.Gen.Reference4Ideal.Run
public import proofs.«01_k».proof.Proof.Post.Spec
public import proofs.«01_k».proof.Proof.Sample.Math
public import Idealize.ShloMosaic.Lib.Pointwise

@[expose] public section

set_option maxRecDepth 16384

noncomputable section

namespace Cert.Reference4Ideal.Post

open Idealize.ShloMosaic Idealize.ShloMosaic.TcCoe Idealize.SL.Sem
open Cert.Reference4Ideal Cert.Reference4Ideal.Gen Cert.Reference4Ideal.Value Cert.Sample Cert.Post

variable (y : FVec Ideal S16640x1024 .bf16) (h : FVec Ideal S16640x1024 .f32) (w : FVec Ideal S1024x1024 .f32) (g : FVec Ideal S1024 .f32)

/-- The stream after the output projection. -/
def HT : FVec Ideal S16640x1024 .f32 :=
  addf h (Host.dotGeneral (φ₁ := .f32) (φ₂ := .f32) dot_S16640x1024_S1024x1024_S16640x1024_1_0_0_1_n_n none (extf .f32 y bitsLt_bf16_f32) w)

theorem HT_apply (r : Fin 16640) (c : Fin 1024) : HT y h w (ix2 r c)
    = stream (fun d => y (ix2 r d)) (fun d => h (ix2 r d)) (fun d c => w (ix2 d c)) c := by
  pointwise [HT, stream]

/-- Its norm. -/
def NT : FVec Ideal S16640x1024 .bf16 :=
  truncf .bf16 (mulf (mulf (HT y h w) (broadcastInDim S16640x1024 ![0, 1] bcast_S16640x1_S16640x1024_0_1 (Host.rsqrt (addf (Host.divf (broadcastInDim S16640x1 ![0] bcast_S16640_S16640x1_0 (Host.reduceAdd (mulf (HT y h w) (HT y h w)) (constant (F := Ideal) S_ .f32 0x00000000#32) reducesTo_S16640x1024_S16640_d1 h_S_)) (broadcastInDim S16640x1 ![] bcast_S_S16640x1 (constant (F := Ideal) S_ .f32 0x44800000#32))) (broadcastInDim S16640x1 ![] bcast_S_S16640x1 (constant (F := Ideal) S_ .f32 0x358637BD#32)))))) (broadcastInDim S16640x1024 ![0, 1] bcast_S1x1024_S16640x1024_0_1 (broadcastInDim S1x1024 ![1] bcast_S1024_S1x1024_1 g))) bitsLt_bf16_f32

theorem NT_apply (r : Fin 16640) (c : Fin 1024) : NT y h w g (ix2 r c)
    = normed (fun d => y (ix2 r d)) (fun d => h (ix2 r d)) (fun d c => w (ix2 d c)) (fun d => g (ix1 d)) c := by
  pointwise [NT, HT_apply, normed, rms]

end Cert.Reference4Ideal.Post

end
-- ==== Proof.Post.Agree.lean ====
/- The output projection's kernel and reference leave the same stream and the same norm of it. -/
module

public import proofs.«01_k».proof.Defs
public import proofs.«01_k».proof.Proof.Post.Value
public import proofs.«01_k».proof.Proof.Post.PureReference
public import Idealize.ShloMosaic.Lib.Claim
public import Idealize.ShloMosaic.Lib.Quiescent

@[expose] public section

set_option maxRecDepth 16384

noncomputable section

namespace Cert.Post

open Idealize.ShloMosaic Idealize.SL.Sem
open Cert.Kernel4Ideal.Post (res6 res7)
open Cert.Reference4Ideal.Post (HT NT HT_apply NT_apply)

/-- The reference's frame: it runs from any memory. -/
theorem reference_quiet (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run Cert.Reference4Ideal.defs _ _).mono (fun r h => ⟨fun c => (h c).2.2, sem_eq_zero_of_no_sems rfl r.2⟩) (Cert.Reference4Ideal.Value.run m g)

/-- The stream and its norm agree. -/
theorem agree : Cert.algebraic_Kernel4Ideal_Reference4Ideal := fun m g m' g' _ ha => by
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    (θ_run Cert.Kernel4Ideal.defs _ _).mono (fun r h c => ⟨(h c).1, (h c).2.1, (h c).2.2.2.2.2.2⟩) (Cert.Kernel4Ideal.Value.run_blocks m g), ?_⟩
  refine (θ_run Cert.Reference4Ideal.defs _ _).mono (fun r h c => ?_) (Cert.Reference4Ideal.Value.run m' g')
  obtain ⟨e0, e1, rest⟩ := h c
  obtain ⟨a0, a1, a2, a3, -⟩ := ha c
  refine ⟨e0.trans ?_, e1.trans ?_, rest⟩
  · show HT (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = _
    rw [a0, a1, a2]
    funext i
    obtain ⟨r, k, rfl⟩ : ∃ (r : Fin 16640) (k : Fin 1024), i = ix2 r k := ⟨i 0, i 1, by funext a; match a with | ⟨0, _⟩ => rfl | ⟨1, _⟩ => rfl⟩
    exact (HT_apply _ _ _ r k).trans (res6 m c r k).symm
  · show NT (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = _
    rw [a0, a1, a2, a3]
    funext i
    obtain ⟨r, k, rfl⟩ : ∃ (r : Fin 16640) (k : Fin 1024), i = ix2 r k := ⟨i 0, i 1, by funext a; match a with | ⟨0, _⟩ => rfl | ⟨1, _⟩ => rfl⟩
    exact (NT_apply _ _ _ _ r k).trans (res7 m c r k).symm

end Cert.Post

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3.Loops
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Loops
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_tables_in_range
public import proofs.«01_k».proof.Proof.Gen.On_live_rows
public import Idealize.ShloMosaic.Adequacy
public import Idealize.ShloMosaic.Init
public import proofs.«01_k».proof.Proof.Experts.QuietBits
public import proofs.«01_k».proof.Proof.Experts.Agree
public import proofs.«01_k».proof.Proof.Sample.Agree
public import proofs.«01_k».proof.Proof.Prompt.LaunchBits
public import proofs.«01_k».proof.Proof.Prompt.Agree
public import proofs.«01_k».proof.Proof.Post.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_tables_in_range.Gen.facts, Cert.On_live_rows.Gen.facts,
  Cert.Kernel.Experts.quiescent, Cert.KernelIdeal.Experts.quiescent,
  fun m g _ => Cert.Experts.reference_quiet m g, fun m g _ => Cert.Experts.reference_quiet m g,
  fun m g _ => Cert.Kernel2.Gen.frame m g, fun m g _ => Cert.Kernel2Ideal.Gen.frame m g, fun m g _ => Cert.Sample.reference_quiet m g,
  fun m g _ => Cert.Kernel3.Prompt.frame m g, fun m g _ => Cert.Kernel3Ideal.Prompt.frame m g, fun m g _ => Cert.Prompt.reference_quiet m g,
  fun m g _ => Cert.Kernel4.Gen.frame m g, fun m g _ => Cert.Kernel4Ideal.Gen.frame m g, fun m g _ => Cert.Post.reference_quiet m g,
  trivial, Cert.Experts.agree, trivial, Cert.Sample.agree,
  trivial, Cert.Prompt.agree,
  trivial, Cert.Post.agree⟩

end Cert.Proof

end
